-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_whole [hPre_weights_whole : Cert.Pre_weights_whole.Facts] (m : (ℓ : Loc Cert.KernelIdeal.nD Cert.KernelIdeal.τ Cert.KernelIdeal.sig) → Buf (Elt Ideal) ℓ) : Prop :=
  ∀ c : Dev Cert.KernelIdeal.nD,
    (Cert.Pre_weights_whole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_whole [hPre_weights_whole : Cert.Pre_weights_whole.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_whole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_weights_whole [hKernelIdeal : Cert.KernelIdeal.Facts] [hPre_weights_whole : Cert.Pre_weights_whole.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_whole m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_weights_whole [hReferenceIdeal : Cert.ReferenceIdeal.Facts] [hPre_weights_whole : Cert.Pre_weights_whole.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_whole m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_weights_whole [hKernelIdeal : Cert.KernelIdeal.Facts] [hReferenceIdeal : Cert.ReferenceIdeal.Facts] [hPre_weights_whole : Cert.Pre_weights_whole.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_whole m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_weights_whole : Cert.Pre_weights_whole.Facts),
    quiescent_Kernel (hKernel := hKernel)
    ∧ quiescent_KernelIdeal (hKernelIdeal := hKernelIdeal)
    ∧ quiescent_KernelIdeal_pre_weights_whole (hKernelIdeal := hKernelIdeal) (hPre_weights_whole := hPre_weights_whole)
    ∧ quiescent_ReferenceIdeal (hReferenceIdeal := hReferenceIdeal)
    ∧ quiescent_ReferenceIdeal_pre_weights_whole (hReferenceIdeal := hReferenceIdeal) (hPre_weights_whole := hPre_weights_whole)
    ∧ preserves_Kernel_KernelIdeal
    ∧ algebraic_KernelIdeal_ReferenceIdeal_pre_weights_whole (hKernelIdeal := hKernelIdeal) (hReferenceIdeal := hReferenceIdeal) (hPre_weights_whole := hPre_weights_whole)
-- ==== Pre_weights_whole.lean ====
abbrev S7x128x16x16 : Shape := ⟨4, ![7, 128, 16, 16]⟩
abbrev S7x512x1x1 : Shape := ⟨4, ![7, 512, 1, 1]⟩
abbrev S1x1x512x128x16x16 : Shape := ⟨6, ![1, 1, 512, 128, 16, 16]⟩

class Facts : Prop where

variable [Facts]

def fn_round {F : FTy → Type} [FloatOps F] (arg0 : FVec F S1x1x512x128x16x16 .f32) : FVec F S1x1x512x128x16x16 .f32 :=
  let v0 : FVec F S1x1x512x128x16x16 .f32 := Host.roundeven arg0
  v0

def fn {F : FTy → Type} [FloatOps F] (main_arg0 : IVec S7x128x16x16 32) (main_arg1 : IVec S7x512x1x1 32) (main_arg2 : FVec F S1x1x512x128x16x16 .f32) : IVec S1x1x512x128x16x16 1 :=
  let main_v0 : FVec F S1x1x512x128x16x16 .f32 := fn_round (F := F) main_arg2
  let main_v1 : IVec S1x1x512x128x16x16 1 := cmpf .oeq main_v0 main_arg2
  main_v1
-- ==== Kernel.lean ====
abbrev S7x128x16x16 : Shape := ⟨4, ![7, 128, 16, 16]⟩
abbrev S7x512x1x1 : Shape := ⟨4, ![7, 512, 1, 1]⟩
abbrev S1x1x512x128x16x16 : Shape := ⟨6, ![1, 1, 512, 128, 16, 16]⟩
abbrev S512x128x16x16 : Shape := ⟨4, ![512, 128, 16, 16]⟩
abbrev S512x16x16x128 : Shape := ⟨4, ![512, 16, 16, 128]⟩
abbrev S512x256x128 : Shape := ⟨3, ![512, 256, 128]⟩
abbrev S7x16x16x128 : Shape := ⟨4, ![7, 16, 16, 128]⟩
abbrev S7x256x128 : Shape := ⟨3, ![7, 256, 128]⟩
abbrev S7x512 : Shape := ⟨2, ![7, 512]⟩
abbrev S_ : Shape := ⟨0, ![]⟩
abbrev S1 : Shape := ⟨1, ![1]⟩
abbrev S2 : Shape := ⟨1, ![2]⟩
abbrev S6 : Shape := ⟨1, ![6]⟩
abbrev S6x1 : Shape := ⟨2, ![6, 1]⟩
abbrev S6x2 : Shape := ⟨2, ![6, 2]⟩
abbrev S5x2 : Shape := ⟨2, ![5, 2]⟩
abbrev S16x256x128 : Shape := ⟨3, ![16, 256, 128]⟩
abbrev S1x256x128 : Shape := ⟨3, ![1, 256, 128]⟩
abbrev S256x128 : Shape := ⟨2, ![256, 128]⟩
abbrev S1x1 : Shape := ⟨2, ![1, 1]⟩

abbrev nBuf : Space → Nat
  | .hbm => 263
  | .vmem => 5
  | .smem => 2
  | _ => 0

abbrev hbmTy0_0 (i : Nat) : BufTy := match i % 128 with
  | 0 => ⟨S7x128x16x16, .i32⟩
  | 1 => ⟨S7x512x1x1, .i32⟩
  | 2 => ⟨S1x1x512x128x16x16, .f32⟩
  | 3 => ⟨S512x128x16x16, .f32⟩
  | 4 => ⟨S512x16x16x128, .f32⟩
  | 5 => ⟨S512x256x128, .f32⟩
  | 6 => ⟨S7x16x16x128, .i32⟩
  | 7 => ⟨S7x256x128, .i32⟩
  | 8 => ⟨S7x512, .i32⟩
  | 9 => ⟨S_, .i32⟩
  | 10 => ⟨S_, .i32⟩
  | 11 => ⟨S_, .i32⟩
  | 12 => ⟨S_, .i32⟩
  | 13 => ⟨S1, .i32⟩
  | 14 => ⟨S_, .i32⟩
  | 15 => ⟨S_, .i32⟩
  | 16 => ⟨S_, .i32⟩
  | 17 => ⟨S1, .i32⟩
  | 18 => ⟨S2, .i32⟩
  | 19 => ⟨S1, .i32⟩
  | 20 => ⟨S_, .i32⟩
  | 21 => ⟨S1, .i32⟩
  | 22 => ⟨S_, .i32⟩
  | 23 => ⟨S6, .i64⟩
  | 24 => ⟨S_, .i64⟩
  | 25 => ⟨S6, .i64⟩
  | 26 => ⟨S6, .i64⟩
  | 27 => ⟨S_, .i64⟩
  | 28 => ⟨S6, .i64⟩
  | 29 => ⟨S6, .i64⟩
  | 30 => ⟨S6, .i32⟩
  | 31 => ⟨S6, .i32⟩
  | 32 => ⟨S_, .i32⟩
  | 33 => ⟨S_, .i32⟩
  | 34 => ⟨S_, .i32⟩
  | 35 => ⟨S6, .i32⟩
  | 36 => ⟨S6, .i32⟩
  | 37 => ⟨S6, .i32⟩
  | 38 => ⟨S6, .i32⟩
  | 39 => ⟨S6, .i32⟩
  | 40 => ⟨S_, .i32⟩
  | 41 => ⟨S6, .i32⟩
  | 42 => ⟨S6, .i32⟩
  | 43 => ⟨S_, .i32⟩
  | 44 => ⟨S6, .i32⟩
  | 45 => ⟨S6, .i32⟩
  | 46 => ⟨S6, .i32⟩
  | 47 => ⟨S6, .i32⟩
  | 48 => ⟨S6, .i32⟩
  | 49 => ⟨S_, .i32⟩
  | 50 => ⟨S6, .i32⟩
  | 51 => ⟨S6, .i32⟩
  | 52 => ⟨S_, .i32⟩
  | 53 => ⟨S6, .i32⟩
  | 54 => ⟨S6, .i32⟩
  | 55 => ⟨S6, .i32⟩
  | 56 => ⟨S6, .i32⟩
  | 57 => ⟨S6, .i32⟩
  | 58 => ⟨S_, .i32⟩
  | 59 => ⟨S6, .i32⟩
  | 60 => ⟨S6, .i32⟩
  | 61 => ⟨S_, .i32⟩
  | 62 => ⟨S6, .i32⟩
  | 63 => ⟨S6, .i32⟩
  | 64 => ⟨S6, .i32⟩
  | 65 => ⟨S6, .i32⟩
  | 66 => ⟨S6, .i32⟩
  | 67 => ⟨S_, .i32⟩
  | 68 => ⟨S6, .i32⟩
  | 69 => ⟨S6, .i32⟩
  | 70 => ⟨S_, .i32⟩
  | 71 => ⟨S6, .i32⟩
  | 72 => ⟨S6, .i32⟩
  | 73 => ⟨S6, .i32⟩
  | 74 => ⟨S6, .i32⟩
  | 75 => ⟨S6, .i32⟩
  | 76 => ⟨S6, .i32⟩
  | 77 => ⟨S6, .i32⟩
  | 78 => ⟨S6, .i32⟩
  | 79 => ⟨S_, .i32⟩
  | 80 => ⟨S6, .i32⟩
  | 81 => ⟨S6, .i32⟩
  | 82 => ⟨S6, .i32⟩
  | 83 => ⟨S_, .i32⟩
  | 84 => ⟨S6, .i32⟩
  | 85 => ⟨S6, .i32⟩
  | 86 => ⟨S_, .i32⟩
  | 87 => ⟨S6, .i32⟩
  | 88 => ⟨S6, .i32⟩
  | 89 => ⟨S6, .i32⟩
  | 90 => ⟨S6, .i32⟩
  | 91 => ⟨S6, .i32⟩
  | 92 => ⟨S_, .i32⟩
  | 93 => ⟨S6, .i32⟩
  | 94 => ⟨S6, .i32⟩
  | 95 => ⟨S_, .i32⟩
  | 96 => ⟨S6, .i32⟩
  | 97 => ⟨S6, .i32⟩
  | 98 => ⟨S6, .i32⟩
  | 99 => ⟨S6, .i32⟩
  | 100 => ⟨S6, .i32⟩
  | 101 => ⟨S_, .i32⟩
  | 102 => ⟨S6, .i32⟩
  | 103 => ⟨S6, .i32⟩
  | 104 => ⟨S_, .i32⟩
  | 105 => ⟨S6, .i32⟩
  | 106 => ⟨S6, .i32⟩
  | 107 => ⟨S6, .i32⟩
  | 108 => ⟨S6, .i32⟩
  | 109 => ⟨S6, .i32⟩
  | 110 => ⟨S_, .i32⟩
  | 111 => ⟨S6, .i32⟩
  | 112 => ⟨S6, .i32⟩
  | 113 => ⟨S_, .i32⟩
  | 114 => ⟨S6, .i32⟩
  | 115 => ⟨S6, .i32⟩
  | 116 => ⟨S6, .i32⟩
  | 117 => ⟨S6, .i32⟩
  | 118 => ⟨S6, .i32⟩
  | 119 => ⟨S6, .i32⟩
  | 120 => ⟨S6, .i32⟩
  | 121 => ⟨S6, .i32⟩
  | 122 => ⟨S_, .i32⟩
  | 123 => ⟨S6, .i32⟩
  | 124 => ⟨S6, .i32⟩
  | 125 => ⟨S6, .i32⟩
  | 126 => ⟨S_, .i32⟩
  | 127 => ⟨S6, .i32⟩
  | _ => ⟨S7x128x16x16, .i32⟩

abbrev hbmTy0_1 (i : Nat) : BufTy := match i % 128 with
  | 0 => ⟨S6, .i32⟩
  | 1 => ⟨S_, .i32⟩
  | 2 => ⟨S6, .i32⟩
  | 3 => ⟨S6, .i32⟩
  | 4 => ⟨S6, .i32⟩
  | 5 => ⟨S6, .i32⟩
  | 6 => ⟨S6, .i32⟩
  | 7 => ⟨S_, .i32⟩
  | 8 => ⟨S6, .i32⟩
  | 9 => ⟨S6, .i32⟩
  | 10 => ⟨S_, .i32⟩
  | 11 => ⟨S6, .i32⟩
  | 12 => ⟨S6, .i32⟩
  | 13 => ⟨S6, .i32⟩
  | 14 => ⟨S6, .i32⟩
  | 15 => ⟨S6, .i32⟩
  | 16 => ⟨S_, .i32⟩
  | 17 => ⟨S6, .i32⟩
  | 18 => ⟨S6, .i32⟩
  | 19 => ⟨S_, .i32⟩
  | 20 => ⟨S6, .i32⟩
  | 21 => ⟨S6, .i32⟩
  | 22 => ⟨S6, .i32⟩
  | 23 => ⟨S6, .i32⟩
  | 24 => ⟨S6, .i32⟩
  | 25 => ⟨S_, .i32⟩
  | 26 => ⟨S6, .i32⟩
  | 27 => ⟨S6, .i32⟩
  | 28 => ⟨S_, .i32⟩
  | 29 => ⟨S6, .i32⟩
  | 30 => ⟨S6, .i32⟩
  | 31 => ⟨S6, .i32⟩
  | 32 => ⟨S6, .i32⟩
  | 33 => ⟨S6, .i32⟩
  | 34 => ⟨S6, .i32⟩
  | 35 => ⟨S6, .i32⟩
  | 36 => ⟨S6, .i32⟩
  | 37 => ⟨S_, .i32⟩
  | 38 => ⟨S6, .i32⟩
  | 39 => ⟨S6, .i32⟩
  | 40 => ⟨S6, .i32⟩
  | 41 => ⟨S_, .i32⟩
  | 42 => ⟨S6, .i32⟩
  | 43 => ⟨S6, .i32⟩
  | 44 => ⟨S_, .i32⟩
  | 45 => ⟨S6, .i32⟩
  | 46 => ⟨S6, .i32⟩
  | 47 => ⟨S6, .i32⟩
  | 48 => ⟨S6, .i32⟩
  | 49 => ⟨S6, .i32⟩
  | 50 => ⟨S_, .i32⟩
  | 51 => ⟨S6, .i32⟩
  | 52 => ⟨S6, .i32⟩
  | 53 => ⟨S_, .i32⟩
  | 54 => ⟨S6, .i32⟩
  | 55 => ⟨S6, .i32⟩
  | 56 => ⟨S6, .i32⟩
  | 57 => ⟨S6, .i32⟩
  | 58 => ⟨S6, .i32⟩
  | 59 => ⟨S_, .i32⟩
  | 60 => ⟨S6, .i32⟩
  | 61 => ⟨S6, .i32⟩
  | 62 => ⟨S_, .i32⟩
  | 63 => ⟨S6, .i32⟩
  | 64 => ⟨S6, .i32⟩
  | 65 => ⟨S6, .i32⟩
  | 66 => ⟨S6, .i32⟩
  | 67 => ⟨S6, .i32⟩
  | 68 => ⟨S_, .i32⟩
  | 69 => ⟨S6, .i32⟩
  | 70 => ⟨S6, .i32⟩
  | 71 => ⟨S_, .i32⟩
  | 72 => ⟨S6, .i32⟩
  | 73 => ⟨S6, .i32⟩
  | 74 => ⟨S6, .i32⟩
  | 75 => ⟨S6, .i32⟩
  | 76 => ⟨S6, .i32⟩
  | 77 => ⟨S6, .i32⟩
  | 78 => ⟨S6, .i32⟩
  | 79 => ⟨S6, .i32⟩
  | 80 => ⟨S_, .i32⟩
  | 81 => ⟨S6, .i32⟩
  | 82 => ⟨S6, .i32⟩
  | 83 => ⟨S6, .i32⟩
  | 84 => ⟨S_, .i32⟩
  | 85 => ⟨S6, .i32⟩
  | 86 => ⟨S6, .i32⟩
  | 87 => ⟨S_, .i32⟩
  | 88 => ⟨S6, .i32⟩
  | 89 => ⟨S6, .i32⟩
  | 90 => ⟨S6, .i32⟩
  | 91 => ⟨S6, .i32⟩
  | 92 => ⟨S6, .i32⟩
  | 93 => ⟨S_, .i32⟩
  | 94 => ⟨S6, .i32⟩
  | 95 => ⟨S6, .i32⟩
  | 96 => ⟨S_, .i32⟩
  | 97 => ⟨S6, .i32⟩
  | 98 => ⟨S6, .i32⟩
  | 99 => ⟨S6, .i32⟩
  | 100 => ⟨S6, .i32⟩
  | 101 => ⟨S6, .i32⟩
  | 102 => ⟨S_, .i32⟩
  | 103 => ⟨S6, .i32⟩
  | 104 => ⟨S6, .i32⟩
  | 105 => ⟨S_, .i32⟩
  | 106 => ⟨S6, .i32⟩
  | 107 => ⟨S6, .i32⟩
  | 108 => ⟨S6, .i32⟩
  | 109 => ⟨S6, .i32⟩
  | 110 => ⟨S6, .i32⟩
  | 111 => ⟨S_, .i32⟩
  | 112 => ⟨S6, .i32⟩
  | 113 => ⟨S6, .i32⟩
  | 114 => ⟨S_, .i32⟩
  | 115 => ⟨S6, .i32⟩
  | 116 => ⟨S6, .i32⟩
  | 117 => ⟨S6, .i32⟩
  | 118 => ⟨S6, .i32⟩
  | 119 => ⟨S6, .i32⟩
  | 120 => ⟨S6, .i32⟩
  | 121 => ⟨S6, .i32⟩
  | 122 => ⟨S6, .i32⟩
  | 123 => ⟨S_, .i32⟩
  | 124 => ⟨S6, .i32⟩
  | 125 => ⟨S6, .i32⟩
  | 126 => ⟨S6x1, .i32⟩
  | 127 => ⟨S6x1, .i32⟩
  | _ => ⟨S7x128x16x16, .i32⟩

abbrev hbmTy0_2 (i : Nat) : BufTy := match i % 128 with
  | 0 => ⟨S6x2, .i32⟩
  | 1 => ⟨S5x2, .i32⟩
  | 2 => ⟨S5x2, .i32⟩
  | 3 => ⟨S512x256x128, .f32⟩
  | 4 => ⟨S512x16x16x128, .f32⟩
  | 5 => ⟨S512x128x16x16, .f32⟩
  | 6 => ⟨S1x1x512x128x16x16, .f32⟩
  | _ => ⟨S7x128x16x16, .i32⟩

abbrev hbmTy (i : Nat) : BufTy := match i / 128 with
  | 0 => hbmTy0_0 i
  | 1 => hbmTy0_1 i
  | 2 => hbmTy0_2 i
  | _ => ⟨S7x128x16x16, .i32⟩

abbrev bufTy : (tb : Table) → Fin (tcTables nBuf tb) → BufTy
  | .hbm, ⟨i, _⟩ => hbmTy i
  | .local _ .vmem, ⟨0, _⟩ => ⟨S16x256x128, .f32⟩
  | .local _ .vmem, ⟨1, _⟩ => ⟨S16x256x128, .f32⟩
  | .local _ .vmem, ⟨2, _⟩ => ⟨S7x256x128, .i32⟩
  | .local _ .vmem, ⟨3, _⟩ => ⟨S16x256x128, .f32⟩
  | .local _ .vmem, ⟨4, _⟩ => ⟨S16x256x128, .f32⟩
  | .local _ .smem, ⟨0, _⟩ => ⟨S7x512, .i32⟩
  | .local _ .smem, ⟨1, _⟩ => ⟨S5x2, .i32⟩
  | _, _ => ⟨S7x128x16x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_c : Ref sig .tc := ⟨.hbm, 9, rfl⟩
abbrev main_call0_c_0 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c_1 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_c : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_c_0 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_call0_v0 : Ref sig .tc := ⟨.hbm, 32, rfl⟩
abbrev main_call0_call0_call0_c : Ref sig .tc := ⟨.hbm, 33, rfl⟩
abbrev main_call0_call0_call0_v1 : Ref sig .tc := ⟨.hbm, 34, rfl⟩
abbrev main_call0_call0_call0_v2 : Ref sig .tc := ⟨.hbm, 35, rfl⟩
abbrev main_call0_call0_call0_v3 : Ref sig .tc := ⟨.hbm, 36, rfl⟩
abbrev main_call0_call0_call0_v4 : Ref sig .tc := ⟨.hbm, 37, rfl⟩
abbrev main_call0_call0_call0_v5 : Ref sig .tc := ⟨.hbm, 38, rfl⟩
abbrev main_call0_call0_call0_v6 : Ref sig .tc := ⟨.hbm, 39, rfl⟩
abbrev main_call0_call0_call0_c_0 : Ref sig .tc := ⟨.hbm, 40, rfl⟩
abbrev main_call0_call0_call0_v7 : Ref sig .tc := ⟨.hbm, 41, rfl⟩
abbrev main_call0_call0_call0_v8 : Ref sig .tc := ⟨.hbm, 42, rfl⟩
abbrev main_call0_call0_call0_c_1 : Ref sig .tc := ⟨.hbm, 43, rfl⟩
abbrev main_call0_call0_call0_v9 : Ref sig .tc := ⟨.hbm, 44, rfl⟩
abbrev main_call0_call0_call0_v10 : Ref sig .tc := ⟨.hbm, 45, rfl⟩
abbrev main_call0_call0_call0_v11 : Ref sig .tc := ⟨.hbm, 46, rfl⟩
abbrev main_call0_call0_call0_v12 : Ref sig .tc := ⟨.hbm, 47, rfl⟩
abbrev main_call0_call0_call0_v13 : Ref sig .tc := ⟨.hbm, 48, rfl⟩
abbrev main_call0_call0_call0_c_2 : Ref sig .tc := ⟨.hbm, 49, rfl⟩
abbrev main_call0_call0_call0_v14 : Ref sig .tc := ⟨.hbm, 50, rfl⟩
abbrev main_call0_call0_call0_v15 : Ref sig .tc := ⟨.hbm, 51, rfl⟩
abbrev main_call0_call0_call0_c_3 : Ref sig .tc := ⟨.hbm, 52, rfl⟩
abbrev main_call0_call0_call0_v16 : Ref sig .tc := ⟨.hbm, 53, rfl⟩
abbrev main_call0_call0_call0_v17 : Ref sig .tc := ⟨.hbm, 54, rfl⟩
abbrev main_call0_call0_call0_v18 : Ref sig .tc := ⟨.hbm, 55, rfl⟩
abbrev main_call0_call0_call0_v19 : Ref sig .tc := ⟨.hbm, 56, rfl⟩
abbrev main_call0_call0_call0_v20 : Ref sig .tc := ⟨.hbm, 57, rfl⟩
abbrev main_call0_call0_call0_c_4 : Ref sig .tc := ⟨.hbm, 58, rfl⟩
abbrev main_call0_call0_call0_v21 : Ref sig .tc := ⟨.hbm, 59, rfl⟩
abbrev main_call0_call0_call0_v22 : Ref sig .tc := ⟨.hbm, 60, rfl⟩
abbrev main_call0_call0_call0_c_5 : Ref sig .tc := ⟨.hbm, 61, rfl⟩
abbrev main_call0_call0_call0_v23 : Ref sig .tc := ⟨.hbm, 62, rfl⟩
abbrev main_call0_call0_call0_v24 : Ref sig .tc := ⟨.hbm, 63, rfl⟩
abbrev main_call0_call0_call0_v25 : Ref sig .tc := ⟨.hbm, 64, rfl⟩
abbrev main_call0_call0_call0_v26 : Ref sig .tc := ⟨.hbm, 65, rfl⟩
abbrev main_call0_call0_call0_v27 : Ref sig .tc := ⟨.hbm, 66, rfl⟩
abbrev main_call0_call0_call0_c_6 : Ref sig .tc := ⟨.hbm, 67, rfl⟩
abbrev main_call0_call0_call0_v28 : Ref sig .tc := ⟨.hbm, 68, rfl⟩
abbrev main_call0_call0_call0_v29 : Ref sig .tc := ⟨.hbm, 69, rfl⟩
abbrev main_call0_call0_call0_c_7 : Ref sig .tc := ⟨.hbm, 70, rfl⟩
abbrev main_call0_call0_call0_v30 : Ref sig .tc := ⟨.hbm, 71, rfl⟩
abbrev main_call0_call0_call0_v31 : Ref sig .tc := ⟨.hbm, 72, rfl⟩
abbrev main_call0_call0_call0_v32 : Ref sig .tc := ⟨.hbm, 73, rfl⟩
abbrev main_call0_call0_call0_v33 : Ref sig .tc := ⟨.hbm, 74, rfl⟩
abbrev main_call0_call0_call0_v34 : Ref sig .tc := ⟨.hbm, 75, rfl⟩
abbrev main_call0_call0_call0_v35 : Ref sig .tc := ⟨.hbm, 76, rfl⟩
abbrev main_call0_call0_call0_v36 : Ref sig .tc := ⟨.hbm, 77, rfl⟩
abbrev main_call0_call0_call0_v37 : Ref sig .tc := ⟨.hbm, 78, rfl⟩
abbrev main_call0_call0_call0_c_8 : Ref sig .tc := ⟨.hbm, 79, rfl⟩
abbrev main_call0_call0_call0_v38 : Ref sig .tc := ⟨.hbm, 80, rfl⟩
abbrev main_call0_call0_call0_v39 : Ref sig .tc := ⟨.hbm, 81, rfl⟩
abbrev main_call0_call0_call0_v40 : Ref sig .tc := ⟨.hbm, 82, rfl⟩
abbrev main_call0_call0_call0_c_9 : Ref sig .tc := ⟨.hbm, 83, rfl⟩
abbrev main_call0_call0_call0_v41 : Ref sig .tc := ⟨.hbm, 84, rfl⟩
abbrev main_call0_call0_call0_v42 : Ref sig .tc := ⟨.hbm, 85, rfl⟩
abbrev main_call0_call0_call0_c_10 : Ref sig .tc := ⟨.hbm, 86, rfl⟩
abbrev main_call0_call0_call0_v43 : Ref sig .tc := ⟨.hbm, 87, rfl⟩
abbrev main_call0_call0_call0_v44 : Ref sig .tc := ⟨.hbm, 88, rfl⟩
abbrev main_call0_call0_call0_v45 : Ref sig .tc := ⟨.hbm, 89, rfl⟩
abbrev main_call0_call0_call0_v46 : Ref sig .tc := ⟨.hbm, 90, rfl⟩
abbrev main_call0_call0_call0_v47 : Ref sig .tc := ⟨.hbm, 91, rfl⟩
abbrev main_call0_call0_call0_c_11 : Ref sig .tc := ⟨.hbm, 92, rfl⟩
abbrev main_call0_call0_call0_v48 : Ref sig .tc := ⟨.hbm, 93, rfl⟩
abbrev main_call0_call0_call0_v49 : Ref sig .tc := ⟨.hbm, 94, rfl⟩
abbrev main_call0_call0_call0_c_12 : Ref sig .tc := ⟨.hbm, 95, rfl⟩
abbrev main_call0_call0_call0_v50 : Ref sig .tc := ⟨.hbm, 96, rfl⟩
abbrev main_call0_call0_call0_v51 : Ref sig .tc := ⟨.hbm, 97, rfl⟩
abbrev main_call0_call0_call0_v52 : Ref sig .tc := ⟨.hbm, 98, rfl⟩
abbrev main_call0_call0_call0_v53 : Ref sig .tc := ⟨.hbm, 99, rfl⟩
abbrev main_call0_call0_call0_v54 : Ref sig .tc := ⟨.hbm, 100, rfl⟩
abbrev main_call0_call0_call0_c_13 : Ref sig .tc := ⟨.hbm, 101, rfl⟩
abbrev main_call0_call0_call0_v55 : Ref sig .tc := ⟨.hbm, 102, rfl⟩
abbrev main_call0_call0_call0_v56 : Ref sig .tc := ⟨.hbm, 103, rfl⟩
abbrev main_call0_call0_call0_c_14 : Ref sig .tc := ⟨.hbm, 104, rfl⟩
abbrev main_call0_call0_call0_v57 : Ref sig .tc := ⟨.hbm, 105, rfl⟩
abbrev main_call0_call0_call0_v58 : Ref sig .tc := ⟨.hbm, 106, rfl⟩
abbrev main_call0_call0_call0_v59 : Ref sig .tc := ⟨.hbm, 107, rfl⟩
abbrev main_call0_call0_call0_v60 : Ref sig .tc := ⟨.hbm, 108, rfl⟩
abbrev main_call0_call0_call0_v61 : Ref sig .tc := ⟨.hbm, 109, rfl⟩
abbrev main_call0_call0_call0_c_15 : Ref sig .tc := ⟨.hbm, 110, rfl⟩
abbrev main_call0_call0_call0_v62 : Ref sig .tc := ⟨.hbm, 111, rfl⟩
abbrev main_call0_call0_call0_v63 : Ref sig .tc := ⟨.hbm, 112, rfl⟩
abbrev main_call0_call0_call0_c_16 : Ref sig .tc := ⟨.hbm, 113, rfl⟩
abbrev main_call0_call0_call0_v64 : Ref sig .tc := ⟨.hbm, 114, rfl⟩
abbrev main_call0_call0_call0_v65 : Ref sig .tc := ⟨.hbm, 115, rfl⟩
abbrev main_call0_call0_call0_v66 : Ref sig .tc := ⟨.hbm, 116, rfl⟩
abbrev main_call0_call0_call0_v67 : Ref sig .tc := ⟨.hbm, 117, rfl⟩
abbrev main_call0_call0_call0_v68 : Ref sig .tc := ⟨.hbm, 118, rfl⟩
abbrev main_call0_call0_call0_v69 : Ref sig .tc := ⟨.hbm, 119, rfl⟩
abbrev main_call0_call0_call0_v70 : Ref sig .tc := ⟨.hbm, 120, rfl⟩
abbrev main_call0_call0_call0_v71 : Ref sig .tc := ⟨.hbm, 121, rfl⟩
abbrev main_call0_call0_call0_c_17 : Ref sig .tc := ⟨.hbm, 122, rfl⟩
abbrev main_call0_call0_call0_v72 : Ref sig .tc := ⟨.hbm, 123, rfl⟩
abbrev main_call0_call0_call0_v73 : Ref sig .tc := ⟨.hbm, 124, rfl⟩
abbrev main_call0_call0_call0_v74 : Ref sig .tc := ⟨.hbm, 125, rfl⟩
abbrev main_call0_call0_call0_c_18 : Ref sig .tc := ⟨.hbm, 126, rfl⟩
abbrev main_call0_call0_call0_v75 : Ref sig .tc := ⟨.hbm, 127, rfl⟩
abbrev main_call0_call0_call0_v76 : Ref sig .tc := ⟨.hbm, 128, rfl⟩
abbrev main_call0_call0_call0_c_19 : Ref sig .tc := ⟨.hbm, 129, rfl⟩
abbrev main_call0_call0_call0_v77 : Ref sig .tc := ⟨.hbm, 130, rfl⟩
abbrev main_call0_call0_call0_v78 : Ref sig .tc := ⟨.hbm, 131, rfl⟩
abbrev main_call0_call0_call0_v79 : Ref sig .tc := ⟨.hbm, 132, rfl⟩
abbrev main_call0_call0_call0_v80 : Ref sig .tc := ⟨.hbm, 133, rfl⟩
abbrev main_call0_call0_call0_v81 : Ref sig .tc := ⟨.hbm, 134, rfl⟩
abbrev main_call0_call0_call0_c_20 : Ref sig .tc := ⟨.hbm, 135, rfl⟩
abbrev main_call0_call0_call0_v82 : Ref sig .tc := ⟨.hbm, 136, rfl⟩
abbrev main_call0_call0_call0_v83 : Ref sig .tc := ⟨.hbm, 137, rfl⟩
abbrev main_call0_call0_call0_c_21 : Ref sig .tc := ⟨.hbm, 138, rfl⟩
abbrev main_call0_call0_call0_v84 : Ref sig .tc := ⟨.hbm, 139, rfl⟩
abbrev main_call0_call0_call0_v85 : Ref sig .tc := ⟨.hbm, 140, rfl⟩
abbrev main_call0_call0_call0_v86 : Ref sig .tc := ⟨.hbm, 141, rfl⟩
abbrev main_call0_call0_call0_v87 : Ref sig .tc := ⟨.hbm, 142, rfl⟩
abbrev main_call0_call0_call0_v88 : Ref sig .tc := ⟨.hbm, 143, rfl⟩
abbrev main_call0_call0_call0_c_22 : Ref sig .tc := ⟨.hbm, 144, rfl⟩
abbrev main_call0_call0_call0_v89 : Ref sig .tc := ⟨.hbm, 145, rfl⟩
abbrev main_call0_call0_call0_v90 : Ref sig .tc := ⟨.hbm, 146, rfl⟩
abbrev main_call0_call0_call0_c_23 : Ref sig .tc := ⟨.hbm, 147, rfl⟩
abbrev main_call0_call0_call0_v91 : Ref sig .tc := ⟨.hbm, 148, rfl⟩
abbrev main_call0_call0_call0_v92 : Ref sig .tc := ⟨.hbm, 149, rfl⟩
abbrev main_call0_call0_call0_v93 : Ref sig .tc := ⟨.hbm, 150, rfl⟩
abbrev main_call0_call0_call0_v94 : Ref sig .tc := ⟨.hbm, 151, rfl⟩
abbrev main_call0_call0_call0_v95 : Ref sig .tc := ⟨.hbm, 152, rfl⟩
abbrev main_call0_call0_call0_c_24 : Ref sig .tc := ⟨.hbm, 153, rfl⟩
abbrev main_call0_call0_call0_v96 : Ref sig .tc := ⟨.hbm, 154, rfl⟩
abbrev main_call0_call0_call0_v97 : Ref sig .tc := ⟨.hbm, 155, rfl⟩
abbrev main_call0_call0_call0_c_25 : Ref sig .tc := ⟨.hbm, 156, rfl⟩
abbrev main_call0_call0_call0_v98 : Ref sig .tc := ⟨.hbm, 157, rfl⟩
abbrev main_call0_call0_call0_v99 : Ref sig .tc := ⟨.hbm, 158, rfl⟩
abbrev main_call0_call0_call0_v100 : Ref sig .tc := ⟨.hbm, 159, rfl⟩
abbrev main_call0_call0_call0_v101 : Ref sig .tc := ⟨.hbm, 160, rfl⟩
abbrev main_call0_call0_call0_v102 : Ref sig .tc := ⟨.hbm, 161, rfl⟩
abbrev main_call0_call0_call0_v103 : Ref sig .tc := ⟨.hbm, 162, rfl⟩
abbrev main_call0_call0_call0_v104 : Ref sig .tc := ⟨.hbm, 163, rfl⟩
abbrev main_call0_call0_call0_v105 : Ref sig .tc := ⟨.hbm, 164, rfl⟩
abbrev main_call0_call0_call0_c_26 : Ref sig .tc := ⟨.hbm, 165, rfl⟩
abbrev main_call0_call0_call0_v106 : Ref sig .tc := ⟨.hbm, 166, rfl⟩
abbrev main_call0_call0_call0_v107 : Ref sig .tc := ⟨.hbm, 167, rfl⟩
abbrev main_call0_call0_call0_v108 : Ref sig .tc := ⟨.hbm, 168, rfl⟩
abbrev main_call0_call0_call0_c_27 : Ref sig .tc := ⟨.hbm, 169, rfl⟩
abbrev main_call0_call0_call0_v109 : Ref sig .tc := ⟨.hbm, 170, rfl⟩
abbrev main_call0_call0_call0_v110 : Ref sig .tc := ⟨.hbm, 171, rfl⟩
abbrev main_call0_call0_call0_c_28 : Ref sig .tc := ⟨.hbm, 172, rfl⟩
abbrev main_call0_call0_call0_v111 : Ref sig .tc := ⟨.hbm, 173, rfl⟩
abbrev main_call0_call0_call0_v112 : Ref sig .tc := ⟨.hbm, 174, rfl⟩
abbrev main_call0_call0_call0_v113 : Ref sig .tc := ⟨.hbm, 175, rfl⟩
abbrev main_call0_call0_call0_v114 : Ref sig .tc := ⟨.hbm, 176, rfl⟩
abbrev main_call0_call0_call0_v115 : Ref sig .tc := ⟨.hbm, 177, rfl⟩
abbrev main_call0_call0_call0_c_29 : Ref sig .tc := ⟨.hbm, 178, rfl⟩
abbrev main_call0_call0_call0_v116 : Ref sig .tc := ⟨.hbm, 179, rfl⟩
abbrev main_call0_call0_call0_v117 : Ref sig .tc := ⟨.hbm, 180, rfl⟩
abbrev main_call0_call0_call0_c_30 : Ref sig .tc := ⟨.hbm, 181, rfl⟩
abbrev main_call0_call0_call0_v118 : Ref sig .tc := ⟨.hbm, 182, rfl⟩
abbrev main_call0_call0_call0_v119 : Ref sig .tc := ⟨.hbm, 183, rfl⟩
abbrev main_call0_call0_call0_v120 : Ref sig .tc := ⟨.hbm, 184, rfl⟩
abbrev main_call0_call0_call0_v121 : Ref sig .tc := ⟨.hbm, 185, rfl⟩
abbrev main_call0_call0_call0_v122 : Ref sig .tc := ⟨.hbm, 186, rfl⟩
abbrev main_call0_call0_call0_c_31 : Ref sig .tc := ⟨.hbm, 187, rfl⟩
abbrev main_call0_call0_call0_v123 : Ref sig .tc := ⟨.hbm, 188, rfl⟩
abbrev main_call0_call0_call0_v124 : Ref sig .tc := ⟨.hbm, 189, rfl⟩
abbrev main_call0_call0_call0_c_32 : Ref sig .tc := ⟨.hbm, 190, rfl⟩
abbrev main_call0_call0_call0_v125 : Ref sig .tc := ⟨.hbm, 191, rfl⟩
abbrev main_call0_call0_call0_v126 : Ref sig .tc := ⟨.hbm, 192, rfl⟩
abbrev main_call0_call0_call0_v127 : Ref sig .tc := ⟨.hbm, 193, rfl⟩
abbrev main_call0_call0_call0_v128 : Ref sig .tc := ⟨.hbm, 194, rfl⟩
abbrev main_call0_call0_call0_v129 : Ref sig .tc := ⟨.hbm, 195, rfl⟩
abbrev main_call0_call0_call0_c_33 : Ref sig .tc := ⟨.hbm, 196, rfl⟩
abbrev main_call0_call0_call0_v130 : Ref sig .tc := ⟨.hbm, 197, rfl⟩
abbrev main_call0_call0_call0_v131 : Ref sig .tc := ⟨.hbm, 198, rfl⟩
abbrev main_call0_call0_call0_c_34 : Ref sig .tc := ⟨.hbm, 199, rfl⟩
abbrev main_call0_call0_call0_v132 : Ref sig .tc := ⟨.hbm, 200, rfl⟩
abbrev main_call0_call0_call0_v133 : Ref sig .tc := ⟨.hbm, 201, rfl⟩
abbrev main_call0_call0_call0_v134 : Ref sig .tc := ⟨.hbm, 202, rfl⟩
abbrev main_call0_call0_call0_v135 : Ref sig .tc := ⟨.hbm, 203, rfl⟩
abbrev main_call0_call0_call0_v136 : Ref sig .tc := ⟨.hbm, 204, rfl⟩
abbrev main_call0_call0_call0_v137 : Ref sig .tc := ⟨.hbm, 205, rfl⟩
abbrev main_call0_call0_call0_v138 : Ref sig .tc := ⟨.hbm, 206, rfl⟩
abbrev main_call0_call0_call0_v139 : Ref sig .tc := ⟨.hbm, 207, rfl⟩
abbrev main_call0_call0_call0_c_35 : Ref sig .tc := ⟨.hbm, 208, rfl⟩
abbrev main_call0_call0_call0_v140 : Ref sig .tc := ⟨.hbm, 209, rfl⟩
abbrev main_call0_call0_call0_v141 : Ref sig .tc := ⟨.hbm, 210, rfl⟩
abbrev main_call0_call0_call0_v142 : Ref sig .tc := ⟨.hbm, 211, rfl⟩
abbrev main_call0_call0_call0_c_36 : Ref sig .tc := ⟨.hbm, 212, rfl⟩
abbrev main_call0_call0_call0_v143 : Ref sig .tc := ⟨.hbm, 213, rfl⟩
abbrev main_call0_call0_call0_v144 : Ref sig .tc := ⟨.hbm, 214, rfl⟩
abbrev main_call0_call0_call0_c_37 : Ref sig .tc := ⟨.hbm, 215, rfl⟩
abbrev main_call0_call0_call0_v145 : Ref sig .tc := ⟨.hbm, 216, rfl⟩
abbrev main_call0_call0_call0_v146 : Ref sig .tc := ⟨.hbm, 217, rfl⟩
abbrev main_call0_call0_call0_v147 : Ref sig .tc := ⟨.hbm, 218, rfl⟩
abbrev main_call0_call0_call0_v148 : Ref sig .tc := ⟨.hbm, 219, rfl⟩
abbrev main_call0_call0_call0_v149 : Ref sig .tc := ⟨.hbm, 220, rfl⟩
abbrev main_call0_call0_call0_c_38 : Ref sig .tc := ⟨.hbm, 221, rfl⟩
abbrev main_call0_call0_call0_v150 : Ref sig .tc := ⟨.hbm, 222, rfl⟩
abbrev main_call0_call0_call0_v151 : Ref sig .tc := ⟨.hbm, 223, rfl⟩
abbrev main_call0_call0_call0_c_39 : Ref sig .tc := ⟨.hbm, 224, rfl⟩
abbrev main_call0_call0_call0_v152 : Ref sig .tc := ⟨.hbm, 225, rfl⟩
abbrev main_call0_call0_call0_v153 : Ref sig .tc := ⟨.hbm, 226, rfl⟩
abbrev main_call0_call0_call0_v154 : Ref sig .tc := ⟨.hbm, 227, rfl⟩
abbrev main_call0_call0_call0_v155 : Ref sig .tc := ⟨.hbm, 228, rfl⟩
abbrev main_call0_call0_call0_v156 : Ref sig .tc := ⟨.hbm, 229, rfl⟩
abbrev main_call0_call0_call0_c_40 : Ref sig .tc := ⟨.hbm, 230, rfl⟩
abbrev main_call0_call0_call0_v157 : Ref sig .tc := ⟨.hbm, 231, rfl⟩
abbrev main_call0_call0_call0_v158 : Ref sig .tc := ⟨.hbm, 232, rfl⟩
abbrev main_call0_call0_call0_c_41 : Ref sig .tc := ⟨.hbm, 233, rfl⟩
abbrev main_call0_call0_call0_v159 : Ref sig .tc := ⟨.hbm, 234, rfl⟩
abbrev main_call0_call0_call0_v160 : Ref sig .tc := ⟨.hbm, 235, rfl⟩
abbrev main_call0_call0_call0_v161 : Ref sig .tc := ⟨.hbm, 236, rfl⟩
abbrev main_call0_call0_call0_v162 : Ref sig .tc := ⟨.hbm, 237, rfl⟩
abbrev main_call0_call0_call0_v163 : Ref sig .tc := ⟨.hbm, 238, rfl⟩
abbrev main_call0_call0_call0_c_42 : Ref sig .tc := ⟨.hbm, 239, rfl⟩
abbrev main_call0_call0_call0_v164 : Ref sig .tc := ⟨.hbm, 240, rfl⟩
abbrev main_call0_call0_call0_v165 : Ref sig .tc := ⟨.hbm, 241, rfl⟩
abbrev main_call0_call0_call0_c_43 : Ref sig .tc := ⟨.hbm, 242, rfl⟩
abbrev main_call0_call0_call0_v166 : Ref sig .tc := ⟨.hbm, 243, rfl⟩
abbrev main_call0_call0_call0_v167 : Ref sig .tc := ⟨.hbm, 244, rfl⟩
abbrev main_call0_call0_call0_v168 : Ref sig .tc := ⟨.hbm, 245, rfl⟩
abbrev main_call0_call0_call0_v169 : Ref sig .tc := ⟨.hbm, 246, rfl⟩
abbrev main_call0_call0_call0_v170 : Ref sig .tc := ⟨.hbm, 247, rfl⟩
abbrev main_call0_call0_v11_0 : Ref sig .tc := ⟨.hbm, 248, rfl⟩
abbrev main_call0_call0_call0_v172 : Ref sig .tc := ⟨.hbm, 249, rfl⟩
abbrev main_call0_call0_call0_v173 : Ref sig .tc := ⟨.hbm, 250, rfl⟩
abbrev main_call0_call0_call0_c_44 : Ref sig .tc := ⟨.hbm, 251, rfl⟩
abbrev main_call0_call0_call0_v174 : Ref sig .tc := ⟨.hbm, 252, rfl⟩
abbrev main_call0_call0_v11_1 : Ref sig .tc := ⟨.hbm, 253, rfl⟩
abbrev main_call0_call0_v12 : Ref sig .tc := ⟨.hbm, 254, rfl⟩
abbrev main_call0_call0_v13 : Ref sig .tc := ⟨.hbm, 255, rfl⟩
abbrev main_call0_v13 : Ref sig .tc := ⟨.hbm, 256, rfl⟩
abbrev main_call0_v14 : Ref sig .tc := ⟨.hbm, 257, rfl⟩
abbrev main_call0_v15 : Ref sig .tc := ⟨.hbm, 258, rfl⟩
abbrev main_call0_v16 : Ref sig .tc := ⟨.hbm, 259, rfl⟩
abbrev main_call0_v17 : Ref sig .tc := ⟨.hbm, 260, rfl⟩
abbrev main_call0_v18 : Ref sig .tc := ⟨.hbm, 261, rfl⟩
abbrev main_v0 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_off1 (i : grid0.Coords) (c0_i32_38 : BitVec 32) : Fin 2 → Nat :=
  let c0_39 : Index := 0#32
  let arg0 : BitVec 32 := BitVec.ofNat 32 (i 0).val
  let c16_i32 : BitVec 32 := 16#32
  let v48 : BitVec 32 := Scalar.muli arg0 c16_i32
  let v49 : BitVec 32 := Scalar.addi v48 c0_i32_38
  let v50 : Index := Scalar.indexCast v49
  ![0, v50.toNat]
def k0_off2 (i : grid0.Coords) (c0_i32_38 : BitVec 32) : Fin 2 → Nat :=
  let c1_40 : Index := 1#32
  let arg0 : BitVec 32 := BitVec.ofNat 32 (i 0).val
  let c16_i32 : BitVec 32 := 16#32
  let v48 : BitVec 32 := Scalar.muli arg0 c16_i32
  let v49 : BitVec 32 := Scalar.addi v48 c0_i32_38
  let v52 : Index := Scalar.indexCast v49
  ![1, v52.toNat]
def k0_off3 (i : grid0.Coords) (c0_i32_38 : BitVec 32) : Fin 2 → Nat :=
  let c2_41 : Index := 2#32
  let arg0 : BitVec 32 := BitVec.ofNat 32 (i 0).val
  let c16_i32 : BitVec 32 := 16#32
  let v48 : BitVec 32 := Scalar.muli arg0 c16_i32
  let v49 : BitVec 32 := Scalar.addi v48 c0_i32_38
  let v55 : Index := Scalar.indexCast v49
  ![2, v55.toNat]
def k0_off4 (i : grid0.Coords) (c0_i32_38 : BitVec 32) : Fin 2 → Nat :=
  let c3_42 : Index := 3#32
  let arg0 : BitVec 32 := BitVec.ofNat 32 (i 0).val
  let c16_i32 : BitVec 32 := 16#32
  let v48 : BitVec 32 := Scalar.muli arg0 c16_i32
  let v49 : BitVec 32 := Scalar.addi v48 c0_i32_38
  let v58 : Index := Scalar.indexCast v49
  ![3, v58.toNat]
def k0_off5 (i : grid0.Coords) (c0_i32_38 : BitVec 32) : Fin 2 → Nat :=
  let c4_43 : Index := 4#32
  let arg0 : BitVec 32 := BitVec.ofNat 32 (i 0).val
  let c16_i32 : BitVec 32 := 16#32
  let v48 : BitVec 32 := Scalar.muli arg0 c16_i32
  let v49 : BitVec 32 := Scalar.addi v48 c0_i32_38
  let v61 : Index := Scalar.indexCast v49
  ![4, v61.toNat]
def k0_off6 (i : grid0.Coords) (c0_i32_38 : BitVec 32) : Fin 2 → Nat :=
  let c5_44 : Index := 5#32
  let arg0 : BitVec 32 := BitVec.ofNat 32 (i 0).val
  let c16_i32 : BitVec 32 := 16#32
  let v48 : BitVec 32 := Scalar.muli arg0 c16_i32
  let v49 : BitVec 32 := Scalar.addi v48 c0_i32_38
  let v64 : Index := Scalar.indexCast v49
  ![5, v64.toNat]
def k0_off7 (i : grid0.Coords) (c0_i32_38 : BitVec 32) : Fin 2 → Nat :=
  let c6_45 : Index := 6#32
  let arg0 : BitVec 32 := BitVec.ofNat 32 (i 0).val
  let c16_i32 : BitVec 32 := 16#32
  let v48 : BitVec 32 := Scalar.muli arg0 c16_i32
  let v49 : BitVec 32 := Scalar.addi v48 c0_i32_38
  let v67 : Index := Scalar.indexCast v49
  ![6, v67.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x256x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S7x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S5x2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S7x128x16x16 : Shape := ⟨4, ![7, 128, 16, 16]⟩
abbrev S7x512x1x1 : Shape := ⟨4, ![7, 512, 1, 1]⟩
abbrev S1x1x512x128x16x16 : Shape := ⟨6, ![1, 1, 512, 128, 16, 16]⟩
abbrev S_ : Shape := ⟨0, ![]⟩
abbrev S128x16x16 : Shape := ⟨3, ![128, 16, 16]⟩
abbrev S512x1x1 : Shape := ⟨3, ![512, 1, 1]⟩
abbrev S1 : Shape := ⟨1, ![1]⟩
abbrev S2 : Shape := ⟨1, ![2]⟩
abbrev S6 : Shape := ⟨1, ![6]⟩
abbrev S6x1 : Shape := ⟨2, ![6, 1]⟩
abbrev S6x2 : Shape := ⟨2, ![6, 2]⟩
abbrev S1x2 : Shape := ⟨2, ![1, 2]⟩
abbrev S512 : Shape := ⟨1, ![512]⟩
abbrev S1x128x16x16 : Shape := ⟨4, ![1, 128, 16, 16]⟩
abbrev S512x128x16x16 : Shape := ⟨4, ![512, 128, 16, 16]⟩
abbrev S512x1x1x1 : Shape := ⟨4, ![512, 1, 1, 1]⟩
abbrev S1x1x1x1 : Shape := ⟨4, ![1, 1, 1, 1]⟩

abbrev nBuf : Space → Nat
  | .hbm => 1761
  | .vmem => 0
  | .smem => 0
  | _ => 0

abbrev hbmTy0_0 (i : Nat) : BufTy := match i % 128 with
  | 0 => ⟨S7x128x16x16, .i32⟩
  | 1 => ⟨S7x512x1x1, .i32⟩
  | 2 => ⟨S1x1x512x128x16x16, .f32⟩
  | 3 => ⟨S_, .i32⟩
  | 4 => ⟨S128x16x16, .i32⟩
  | 5 => ⟨S128x16x16, .f32⟩
  | 6 => ⟨S_, .f32⟩
  | 7 => ⟨S128x16x16, .f32⟩
  | 8 => ⟨S128x16x16, .f32⟩
  | 9 => ⟨S128x16x16, .f32⟩
  | 10 => ⟨S_, .i32⟩
  | 11 => ⟨S512x1x1, .i32⟩
  | 12 => ⟨S512x1x1, .f32⟩
  | 13 => ⟨S_, .f32⟩
  | 14 => ⟨S512x1x1, .f32⟩
  | 15 => ⟨S512x1x1, .f32⟩
  | 16 => ⟨S512x1x1, .f32⟩
  | 17 => ⟨S_, .i32⟩
  | 18 => ⟨S_, .i32⟩
  | 19 => ⟨S_, .i32⟩
  | 20 => ⟨S_, .i32⟩
  | 21 => ⟨S1, .i32⟩
  | 22 => ⟨S_, .i32⟩
  | 23 => ⟨S_, .i32⟩
  | 24 => ⟨S_, .i32⟩
  | 25 => ⟨S1, .i32⟩
  | 26 => ⟨S2, .i32⟩
  | 27 => ⟨S1, .i32⟩
  | 28 => ⟨S_, .i32⟩
  | 29 => ⟨S1, .i32⟩
  | 30 => ⟨S_, .i32⟩
  | 31 => ⟨S6, .i64⟩
  | 32 => ⟨S_, .i64⟩
  | 33 => ⟨S6, .i64⟩
  | 34 => ⟨S6, .i64⟩
  | 35 => ⟨S_, .i64⟩
  | 36 => ⟨S6, .i64⟩
  | 37 => ⟨S6, .i64⟩
  | 38 => ⟨S6, .i32⟩
  | 39 => ⟨S6, .i32⟩
  | 40 => ⟨S_, .i32⟩
  | 41 => ⟨S_, .i32⟩
  | 42 => ⟨S_, .i32⟩
  | 43 => ⟨S6, .i32⟩
  | 44 => ⟨S6, .i32⟩
  | 45 => ⟨S6, .i32⟩
  | 46 => ⟨S6, .i32⟩
  | 47 => ⟨S6, .i32⟩
  | 48 => ⟨S_, .i32⟩
  | 49 => ⟨S6, .i32⟩
  | 50 => ⟨S6, .i32⟩
  | 51 => ⟨S_, .i32⟩
  | 52 => ⟨S6, .i32⟩
  | 53 => ⟨S6, .i32⟩
  | 54 => ⟨S6, .i32⟩
  | 55 => ⟨S6, .i32⟩
  | 56 => ⟨S6, .i32⟩
  | 57 => ⟨S_, .i32⟩
  | 58 => ⟨S6, .i32⟩
  | 59 => ⟨S6, .i32⟩
  | 60 => ⟨S_, .i32⟩
  | 61 => ⟨S6, .i32⟩
  | 62 => ⟨S6, .i32⟩
  | 63 => ⟨S6, .i32⟩
  | 64 => ⟨S6, .i32⟩
  | 65 => ⟨S6, .i32⟩
  | 66 => ⟨S_, .i32⟩
  | 67 => ⟨S6, .i32⟩
  | 68 => ⟨S6, .i32⟩
  | 69 => ⟨S_, .i32⟩
  | 70 => ⟨S6, .i32⟩
  | 71 => ⟨S6, .i32⟩
  | 72 => ⟨S6, .i32⟩
  | 73 => ⟨S6, .i32⟩
  | 74 => ⟨S6, .i32⟩
  | 75 => ⟨S_, .i32⟩
  | 76 => ⟨S6, .i32⟩
  | 77 => ⟨S6, .i32⟩
  | 78 => ⟨S_, .i32⟩
  | 79 => ⟨S6, .i32⟩
  | 80 => ⟨S6, .i32⟩
  | 81 => ⟨S6, .i32⟩
  | 82 => ⟨S6, .i32⟩
  | 83 => ⟨S6, .i32⟩
  | 84 => ⟨S6, .i32⟩
  | 85 => ⟨S6, .i32⟩
  | 86 => ⟨S6, .i32⟩
  | 87 => ⟨S_, .i32⟩
  | 88 => ⟨S6, .i32⟩
  | 89 => ⟨S6, .i32⟩
  | 90 => ⟨S6, .i32⟩
  | 91 => ⟨S_, .i32⟩
  | 92 => ⟨S6, .i32⟩
  | 93 => ⟨S6, .i32⟩
  | 94 => ⟨S_, .i32⟩
  | 95 => ⟨S6, .i32⟩
  | 96 => ⟨S6, .i32⟩
  | 97 => ⟨S6, .i32⟩
  | 98 => ⟨S6, .i32⟩
  | 99 => ⟨S6, .i32⟩
  | 100 => ⟨S_, .i32⟩
  | 101 => ⟨S6, .i32⟩
  | 102 => ⟨S6, .i32⟩
  | 103 => ⟨S_, .i32⟩
  | 104 => ⟨S6, .i32⟩
  | 105 => ⟨S6, .i32⟩
  | 106 => ⟨S6, .i32⟩
  | 107 => ⟨S6, .i32⟩
  | 108 => ⟨S6, .i32⟩
  | 109 => ⟨S_, .i32⟩
  | 110 => ⟨S6, .i32⟩
  | 111 => ⟨S6, .i32⟩
  | 112 => ⟨S_, .i32⟩
  | 113 => ⟨S6, .i32⟩
  | 114 => ⟨S6, .i32⟩
  | 115 => ⟨S6, .i32⟩
  | 116 => ⟨S6, .i32⟩
  | 117 => ⟨S6, .i32⟩
  | 118 => ⟨S_, .i32⟩
  | 119 => ⟨S6, .i32⟩
  | 120 => ⟨S6, .i32⟩
  | 121 => ⟨S_, .i32⟩
  | 122 => ⟨S6, .i32⟩
  | 123 => ⟨S6, .i32⟩
  | 124 => ⟨S6, .i32⟩
  | 125 => ⟨S6, .i32⟩
  | 126 => ⟨S6, .i32⟩
  | 127 => ⟨S6, .i32⟩
  | _ => ⟨S7x128x16x16, .i32⟩

abbrev hbmTy0_1 (i : Nat) : BufTy := match i % 128 with
  | 0 => ⟨S6, .i32⟩
  | 1 => ⟨S6, .i32⟩
  | 2 => ⟨S_, .i32⟩
  | 3 => ⟨S6, .i32⟩
  | 4 => ⟨S6, .i32⟩
  | 5 => ⟨S6, .i32⟩
  | 6 => ⟨S_, .i32⟩
  | 7 => ⟨S6, .i32⟩
  | 8 => ⟨S6, .i32⟩
  | 9 => ⟨S_, .i32⟩
  | 10 => ⟨S6, .i32⟩
  | 11 => ⟨S6, .i32⟩
  | 12 => ⟨S6, .i32⟩
  | 13 => ⟨S6, .i32⟩
  | 14 => ⟨S6, .i32⟩
  | 15 => ⟨S_, .i32⟩
  | 16 => ⟨S6, .i32⟩
  | 17 => ⟨S6, .i32⟩
  | 18 => ⟨S_, .i32⟩
  | 19 => ⟨S6, .i32⟩
  | 20 => ⟨S6, .i32⟩
  | 21 => ⟨S6, .i32⟩
  | 22 => ⟨S6, .i32⟩
  | 23 => ⟨S6, .i32⟩
  | 24 => ⟨S_, .i32⟩
  | 25 => ⟨S6, .i32⟩
  | 26 => ⟨S6, .i32⟩
  | 27 => ⟨S_, .i32⟩
  | 28 => ⟨S6, .i32⟩
  | 29 => ⟨S6, .i32⟩
  | 30 => ⟨S6, .i32⟩
  | 31 => ⟨S6, .i32⟩
  | 32 => ⟨S6, .i32⟩
  | 33 => ⟨S_, .i32⟩
  | 34 => ⟨S6, .i32⟩
  | 35 => ⟨S6, .i32⟩
  | 36 => ⟨S_, .i32⟩
  | 37 => ⟨S6, .i32⟩
  | 38 => ⟨S6, .i32⟩
  | 39 => ⟨S6, .i32⟩
  | 40 => ⟨S6, .i32⟩
  | 41 => ⟨S6, .i32⟩
  | 42 => ⟨S6, .i32⟩
  | 43 => ⟨S6, .i32⟩
  | 44 => ⟨S6, .i32⟩
  | 45 => ⟨S_, .i32⟩
  | 46 => ⟨S6, .i32⟩
  | 47 => ⟨S6, .i32⟩
  | 48 => ⟨S6, .i32⟩
  | 49 => ⟨S_, .i32⟩
  | 50 => ⟨S6, .i32⟩
  | 51 => ⟨S6, .i32⟩
  | 52 => ⟨S_, .i32⟩
  | 53 => ⟨S6, .i32⟩
  | 54 => ⟨S6, .i32⟩
  | 55 => ⟨S6, .i32⟩
  | 56 => ⟨S6, .i32⟩
  | 57 => ⟨S6, .i32⟩
  | 58 => ⟨S_, .i32⟩
  | 59 => ⟨S6, .i32⟩
  | 60 => ⟨S6, .i32⟩
  | 61 => ⟨S_, .i32⟩
  | 62 => ⟨S6, .i32⟩
  | 63 => ⟨S6, .i32⟩
  | 64 => ⟨S6, .i32⟩
  | 65 => ⟨S6, .i32⟩
  | 66 => ⟨S6, .i32⟩
  | 67 => ⟨S_, .i32⟩
  | 68 => ⟨S6, .i32⟩
  | 69 => ⟨S6, .i32⟩
  | 70 => ⟨S_, .i32⟩
  | 71 => ⟨S6, .i32⟩
  | 72 => ⟨S6, .i32⟩
  | 73 => ⟨S6, .i32⟩
  | 74 => ⟨S6, .i32⟩
  | 75 => ⟨S6, .i32⟩
  | 76 => ⟨S_, .i32⟩
  | 77 => ⟨S6, .i32⟩
  | 78 => ⟨S6, .i32⟩
  | 79 => ⟨S_, .i32⟩
  | 80 => ⟨S6, .i32⟩
  | 81 => ⟨S6, .i32⟩
  | 82 => ⟨S6, .i32⟩
  | 83 => ⟨S6, .i32⟩
  | 84 => ⟨S6, .i32⟩
  | 85 => ⟨S6, .i32⟩
  | 86 => ⟨S6, .i32⟩
  | 87 => ⟨S6, .i32⟩
  | 88 => ⟨S_, .i32⟩
  | 89 => ⟨S6, .i32⟩
  | 90 => ⟨S6, .i32⟩
  | 91 => ⟨S6, .i32⟩
  | 92 => ⟨S_, .i32⟩
  | 93 => ⟨S6, .i32⟩
  | 94 => ⟨S6, .i32⟩
  | 95 => ⟨S_, .i32⟩
  | 96 => ⟨S6, .i32⟩
  | 97 => ⟨S6, .i32⟩
  | 98 => ⟨S6, .i32⟩
  | 99 => ⟨S6, .i32⟩
  | 100 => ⟨S6, .i32⟩
  | 101 => ⟨S_, .i32⟩
  | 102 => ⟨S6, .i32⟩
  | 103 => ⟨S6, .i32⟩
  | 104 => ⟨S_, .i32⟩
  | 105 => ⟨S6, .i32⟩
  | 106 => ⟨S6, .i32⟩
  | 107 => ⟨S6, .i32⟩
  | 108 => ⟨S6, .i32⟩
  | 109 => ⟨S6, .i32⟩
  | 110 => ⟨S_, .i32⟩
  | 111 => ⟨S6, .i32⟩
  | 112 => ⟨S6, .i32⟩
  | 113 => ⟨S_, .i32⟩
  | 114 => ⟨S6, .i32⟩
  | 115 => ⟨S6, .i32⟩
  | 116 => ⟨S6, .i32⟩
  | 117 => ⟨S6, .i32⟩
  | 118 => ⟨S6, .i32⟩
  | 119 => ⟨S_, .i32⟩
  | 120 => ⟨S6, .i32⟩
  | 121 => ⟨S6, .i32⟩
  | 122 => ⟨S_, .i32⟩
  | 123 => ⟨S6, .i32⟩
  | 124 => ⟨S6, .i32⟩
  | 125 => ⟨S6, .i32⟩
  | 126 => ⟨S6, .i32⟩
  | 127 => ⟨S6, .i32⟩
  | _ => ⟨S7x128x16x16, .i32⟩

abbrev hbmTy0_2 (i : Nat) : BufTy := match i % 128 with
  | 0 => ⟨S6, .i32⟩
  | 1 => ⟨S6, .i32⟩
  | 2 => ⟨S6, .i32⟩
  | 3 => ⟨S_, .i32⟩
  | 4 => ⟨S6, .i32⟩
  | 5 => ⟨S6, .i32⟩
  | 6 => ⟨S6x1, .i32⟩
  | 7 => ⟨S6x1, .i32⟩
  | 8 => ⟨S6x2, .i32⟩
  | 9 => ⟨S1x2, .i32⟩
  | 10 => ⟨S2, .i32⟩
  | 11 => ⟨S1x2, .i32⟩
  | 12 => ⟨S2, .i32⟩
  | 13 => ⟨S1x2, .i32⟩
  | 14 => ⟨S2, .i32⟩
  | 15 => ⟨S1x2, .i32⟩
  | 16 => ⟨S2, .i32⟩
  | 17 => ⟨S1x2, .i32⟩
  | 18 => ⟨S2, .i32⟩
  | 19 => ⟨S1x2, .i32⟩
  | 20 => ⟨S2, .i32⟩
  | 21 => ⟨S512, .f32⟩
  | 22 => ⟨S1x128x16x16, .f32⟩
  | 23 => ⟨S512x128x16x16, .f32⟩
  | 24 => ⟨S512x1x1x1, .f32⟩
  | 25 => ⟨S512x128x16x16, .f32⟩
  | 26 => ⟨S_, .f32⟩
  | 27 => ⟨S512x128x16x16, .f32⟩
  | 28 => ⟨S512x128x16x16, .i1⟩
  | 29 => ⟨S_, .f32⟩
  | 30 => ⟨S512x128x16x16, .f32⟩
  | 31 => ⟨S512x128x16x16, .i1⟩
  | 32 => ⟨S512x128x16x16, .i1⟩
  | 33 => ⟨S512x128x16x16, .f32⟩
  | 34 => ⟨S512x128x16x16, .i1⟩
  | 35 => ⟨S512x128x16x16, .i1⟩
  | 36 => ⟨S512x128x16x16, .i1⟩
  | 37 => ⟨S512x128x16x16, .i1⟩
  | 38 => ⟨S512x128x16x16, .i1⟩
  | 39 => ⟨S_, .f32⟩
  | 40 => ⟨S_, .f32⟩
  | 41 => ⟨S512x128x16x16, .f32⟩
  | 42 => ⟨S512x128x16x16, .f32⟩
  | 43 => ⟨S512x128x16x16, .f32⟩
  | 44 => ⟨S512x128x16x16, .i1⟩
  | 45 => ⟨S512x128x16x16, .i1⟩
  | 46 => ⟨S_, .f32⟩
  | 47 => ⟨S_, .f32⟩
  | 48 => ⟨S512x128x16x16, .f32⟩
  | 49 => ⟨S512x128x16x16, .f32⟩
  | 50 => ⟨S512x128x16x16, .f32⟩
  | 51 => ⟨S512x128x16x16, .f32⟩
  | 52 => ⟨S512x128x16x16, .i1⟩
  | 53 => ⟨S512x128x16x16, .i1⟩
  | 54 => ⟨S512x128x16x16, .i1⟩
  | 55 => ⟨S512x128x16x16, .i1⟩
  | 56 => ⟨S_, .f32⟩
  | 57 => ⟨S_, .f32⟩
  | 58 => ⟨S512x128x16x16, .f32⟩
  | 59 => ⟨S512x128x16x16, .f32⟩
  | 60 => ⟨S512x128x16x16, .f32⟩
  | 61 => ⟨S512x128x16x16, .i1⟩
  | 62 => ⟨S512x128x16x16, .i1⟩
  | 63 => ⟨S_, .f32⟩
  | 64 => ⟨S_, .f32⟩
  | 65 => ⟨S512x128x16x16, .f32⟩
  | 66 => ⟨S512x128x16x16, .f32⟩
  | 67 => ⟨S512x128x16x16, .f32⟩
  | 68 => ⟨S512x128x16x16, .f32⟩
  | 69 => ⟨S512x128x16x16, .f32⟩
  | 70 => ⟨S_, .f32⟩
  | 71 => ⟨S_, .f32⟩
  | 72 => ⟨S_, .f32⟩
  | 73 => ⟨S_, .f32⟩
  | 74 => ⟨S1x1x1x1, .f32⟩
  | 75 => ⟨S1x1x1x1, .f32⟩
  | 76 => ⟨S1, .i32⟩
  | 77 => ⟨S_, .i32⟩
  | 78 => ⟨S1, .i32⟩
  | 79 => ⟨S_, .i32⟩
  | 80 => ⟨S512x128x16x16, .i64⟩
  | 81 => ⟨S512x128x16x16, .i64⟩
  | 82 => ⟨S512x128x16x16, .i64⟩
  | 83 => ⟨S512x128x16x16, .i64⟩
  | 84 => ⟨S_, .i64⟩
  | 85 => ⟨S512x128x16x16, .i64⟩
  | 86 => ⟨S512x128x16x16, .i64⟩
  | 87 => ⟨S_, .i64⟩
  | 88 => ⟨S512x128x16x16, .i64⟩
  | 89 => ⟨S512x128x16x16, .i64⟩
  | 90 => ⟨S_, .i64⟩
  | 91 => ⟨S512x128x16x16, .i64⟩
  | 92 => ⟨S512x128x16x16, .i64⟩
  | 93 => ⟨S_, .i64⟩
  | 94 => ⟨S512x128x16x16, .i64⟩
  | 95 => ⟨S512x128x16x16, .i64⟩
  | 96 => ⟨S512x128x16x16, .i64⟩
  | 97 => ⟨S512x128x16x16, .i64⟩
  | 98 => ⟨S512x128x16x16, .i64⟩
  | 99 => ⟨S_, .i64⟩
  | 100 => ⟨S512x128x16x16, .i64⟩
  | 101 => ⟨S512x128x16x16, .i64⟩
  | 102 => ⟨S512x128x16x16, .i32⟩
  | 103 => ⟨S512x128x16x16, .i32⟩
  | 104 => ⟨S_, .i32⟩
  | 105 => ⟨S_, .i32⟩
  | 106 => ⟨S_, .i32⟩
  | 107 => ⟨S512x128x16x16, .i32⟩
  | 108 => ⟨S512x128x16x16, .i32⟩
  | 109 => ⟨S512x128x16x16, .i32⟩
  | 110 => ⟨S512x128x16x16, .i32⟩
  | 111 => ⟨S512x128x16x16, .i32⟩
  | 112 => ⟨S_, .i32⟩
  | 113 => ⟨S512x128x16x16, .i32⟩
  | 114 => ⟨S512x128x16x16, .i32⟩
  | 115 => ⟨S_, .i32⟩
  | 116 => ⟨S512x128x16x16, .i32⟩
  | 117 => ⟨S512x128x16x16, .i32⟩
  | 118 => ⟨S512x128x16x16, .i32⟩
  | 119 => ⟨S512x128x16x16, .i32⟩
  | 120 => ⟨S512x128x16x16, .i32⟩
  | 121 => ⟨S_, .i32⟩
  | 122 => ⟨S512x128x16x16, .i32⟩
  | 123 => ⟨S512x128x16x16, .i32⟩
  | 124 => ⟨S_, .i32⟩
  | 125 => ⟨S512x128x16x16, .i32⟩
  | 126 => ⟨S512x128x16x16, .i32⟩
  | 127 => ⟨S512x128x16x16, .i32⟩
  | _ => ⟨S7x128x16x16, .i32⟩

abbrev hbmTy0_3 (i : Nat) : BufTy := match i % 128 with
  | 0 => ⟨S512x128x16x16, .i32⟩
  | 1 => ⟨S512x128x16x16, .i32⟩
  | 2 => ⟨S_, .i32⟩
  | 3 => ⟨S512x128x16x16, .i32⟩
  | 4 => ⟨S512x128x16x16, .i32⟩
  | 5 => ⟨S_, .i32⟩
  | 6 => ⟨S512x128x16x16, .i32⟩
  | 7 => ⟨S512x128x16x16, .i32⟩
  | 8 => ⟨S512x128x16x16, .i32⟩
  | 9 => ⟨S512x128x16x16, .i32⟩
  | 10 => ⟨S512x128x16x16, .i32⟩
  | 11 => ⟨S_, .i32⟩
  | 12 => ⟨S512x128x16x16, .i32⟩
  | 13 => ⟨S512x128x16x16, .i32⟩
  | 14 => ⟨S_, .i32⟩
  | 15 => ⟨S512x128x16x16, .i32⟩
  | 16 => ⟨S512x128x16x16, .i32⟩
  | 17 => ⟨S512x128x16x16, .i32⟩
  | 18 => ⟨S512x128x16x16, .i32⟩
  | 19 => ⟨S512x128x16x16, .i32⟩
  | 20 => ⟨S512x128x16x16, .i32⟩
  | 21 => ⟨S512x128x16x16, .i32⟩
  | 22 => ⟨S512x128x16x16, .i32⟩
  | 23 => ⟨S_, .i32⟩
  | 24 => ⟨S512x128x16x16, .i32⟩
  | 25 => ⟨S512x128x16x16, .i32⟩
  | 26 => ⟨S512x128x16x16, .i32⟩
  | 27 => ⟨S_, .i32⟩
  | 28 => ⟨S512x128x16x16, .i32⟩
  | 29 => ⟨S512x128x16x16, .i32⟩
  | 30 => ⟨S_, .i32⟩
  | 31 => ⟨S512x128x16x16, .i32⟩
  | 32 => ⟨S512x128x16x16, .i32⟩
  | 33 => ⟨S512x128x16x16, .i32⟩
  | 34 => ⟨S512x128x16x16, .i32⟩
  | 35 => ⟨S512x128x16x16, .i32⟩
  | 36 => ⟨S_, .i32⟩
  | 37 => ⟨S512x128x16x16, .i32⟩
  | 38 => ⟨S512x128x16x16, .i32⟩
  | 39 => ⟨S_, .i32⟩
  | 40 => ⟨S512x128x16x16, .i32⟩
  | 41 => ⟨S512x128x16x16, .i32⟩
  | 42 => ⟨S512x128x16x16, .i32⟩
  | 43 => ⟨S512x128x16x16, .i32⟩
  | 44 => ⟨S512x128x16x16, .i32⟩
  | 45 => ⟨S_, .i32⟩
  | 46 => ⟨S512x128x16x16, .i32⟩
  | 47 => ⟨S512x128x16x16, .i32⟩
  | 48 => ⟨S_, .i32⟩
  | 49 => ⟨S512x128x16x16, .i32⟩
  | 50 => ⟨S512x128x16x16, .i32⟩
  | 51 => ⟨S512x128x16x16, .i32⟩
  | 52 => ⟨S512x128x16x16, .i32⟩
  | 53 => ⟨S512x128x16x16, .i32⟩
  | 54 => ⟨S_, .i32⟩
  | 55 => ⟨S512x128x16x16, .i32⟩
  | 56 => ⟨S512x128x16x16, .i32⟩
  | 57 => ⟨S_, .i32⟩
  | 58 => ⟨S512x128x16x16, .i32⟩
  | 59 => ⟨S512x128x16x16, .i32⟩
  | 60 => ⟨S512x128x16x16, .i32⟩
  | 61 => ⟨S512x128x16x16, .i32⟩
  | 62 => ⟨S512x128x16x16, .i32⟩
  | 63 => ⟨S512x128x16x16, .i32⟩
  | 64 => ⟨S512x128x16x16, .i32⟩
  | 65 => ⟨S512x128x16x16, .i32⟩
  | 66 => ⟨S_, .i32⟩
  | 67 => ⟨S512x128x16x16, .i32⟩
  | 68 => ⟨S512x128x16x16, .i32⟩
  | 69 => ⟨S512x128x16x16, .i32⟩
  | 70 => ⟨S_, .i32⟩
  | 71 => ⟨S512x128x16x16, .i32⟩
  | 72 => ⟨S512x128x16x16, .i32⟩
  | 73 => ⟨S_, .i32⟩
  | 74 => ⟨S512x128x16x16, .i32⟩
  | 75 => ⟨S512x128x16x16, .i32⟩
  | 76 => ⟨S512x128x16x16, .i32⟩
  | 77 => ⟨S512x128x16x16, .i32⟩
  | 78 => ⟨S512x128x16x16, .i32⟩
  | 79 => ⟨S_, .i32⟩
  | 80 => ⟨S512x128x16x16, .i32⟩
  | 81 => ⟨S512x128x16x16, .i32⟩
  | 82 => ⟨S_, .i32⟩
  | 83 => ⟨S512x128x16x16, .i32⟩
  | 84 => ⟨S512x128x16x16, .i32⟩
  | 85 => ⟨S512x128x16x16, .i32⟩
  | 86 => ⟨S512x128x16x16, .i32⟩
  | 87 => ⟨S512x128x16x16, .i32⟩
  | 88 => ⟨S_, .i32⟩
  | 89 => ⟨S512x128x16x16, .i32⟩
  | 90 => ⟨S512x128x16x16, .i32⟩
  | 91 => ⟨S_, .i32⟩
  | 92 => ⟨S512x128x16x16, .i32⟩
  | 93 => ⟨S512x128x16x16, .i32⟩
  | 94 => ⟨S512x128x16x16, .i32⟩
  | 95 => ⟨S512x128x16x16, .i32⟩
  | 96 => ⟨S512x128x16x16, .i32⟩
  | 97 => ⟨S_, .i32⟩
  | 98 => ⟨S512x128x16x16, .i32⟩
  | 99 => ⟨S512x128x16x16, .i32⟩
  | 100 => ⟨S_, .i32⟩
  | 101 => ⟨S512x128x16x16, .i32⟩
  | 102 => ⟨S512x128x16x16, .i32⟩
  | 103 => ⟨S512x128x16x16, .i32⟩
  | 104 => ⟨S512x128x16x16, .i32⟩
  | 105 => ⟨S512x128x16x16, .i32⟩
  | 106 => ⟨S512x128x16x16, .i32⟩
  | 107 => ⟨S512x128x16x16, .i32⟩
  | 108 => ⟨S512x128x16x16, .i32⟩
  | 109 => ⟨S_, .i32⟩
  | 110 => ⟨S512x128x16x16, .i32⟩
  | 111 => ⟨S512x128x16x16, .i32⟩
  | 112 => ⟨S512x128x16x16, .i32⟩
  | 113 => ⟨S_, .i32⟩
  | 114 => ⟨S512x128x16x16, .i32⟩
  | 115 => ⟨S512x128x16x16, .i32⟩
  | 116 => ⟨S_, .i32⟩
  | 117 => ⟨S512x128x16x16, .i32⟩
  | 118 => ⟨S512x128x16x16, .i32⟩
  | 119 => ⟨S512x128x16x16, .i32⟩
  | 120 => ⟨S512x128x16x16, .i32⟩
  | 121 => ⟨S512x128x16x16, .i32⟩
  | 122 => ⟨S_, .i32⟩
  | 123 => ⟨S512x128x16x16, .i32⟩
  | 124 => ⟨S512x128x16x16, .i32⟩
  | 125 => ⟨S_, .i32⟩
  | 126 => ⟨S512x128x16x16, .i32⟩
  | 127 => ⟨S512x128x16x16, .i32⟩
  | _ => ⟨S7x128x16x16, .i32⟩

abbrev hbmTy0_4 (i : Nat) : BufTy := match i % 128 with
  | 0 => ⟨S512x128x16x16, .i32⟩
  | 1 => ⟨S512x128x16x16, .i32⟩
  | 2 => ⟨S512x128x16x16, .i32⟩
  | 3 => ⟨S_, .i32⟩
  | 4 => ⟨S512x128x16x16, .i32⟩
  | 5 => ⟨S512x128x16x16, .i32⟩
  | 6 => ⟨S_, .i32⟩
  | 7 => ⟨S512x128x16x16, .i32⟩
  | 8 => ⟨S512x128x16x16, .i32⟩
  | 9 => ⟨S512x128x16x16, .i32⟩
  | 10 => ⟨S512x128x16x16, .i32⟩
  | 11 => ⟨S512x128x16x16, .i32⟩
  | 12 => ⟨S_, .i32⟩
  | 13 => ⟨S512x128x16x16, .i32⟩
  | 14 => ⟨S512x128x16x16, .i32⟩
  | 15 => ⟨S_, .i32⟩
  | 16 => ⟨S512x128x16x16, .i32⟩
  | 17 => ⟨S512x128x16x16, .i32⟩
  | 18 => ⟨S512x128x16x16, .i32⟩
  | 19 => ⟨S512x128x16x16, .i32⟩
  | 20 => ⟨S512x128x16x16, .i32⟩
  | 21 => ⟨S512x128x16x16, .i32⟩
  | 22 => ⟨S512x128x16x16, .i32⟩
  | 23 => ⟨S512x128x16x16, .i32⟩
  | 24 => ⟨S_, .i32⟩
  | 25 => ⟨S512x128x16x16, .i32⟩
  | 26 => ⟨S512x128x16x16, .i32⟩
  | 27 => ⟨S512x128x16x16, .i32⟩
  | 28 => ⟨S_, .i32⟩
  | 29 => ⟨S512x128x16x16, .i32⟩
  | 30 => ⟨S512x128x16x16, .i32⟩
  | 31 => ⟨S_, .i32⟩
  | 32 => ⟨S512x128x16x16, .i32⟩
  | 33 => ⟨S512x128x16x16, .i32⟩
  | 34 => ⟨S512x128x16x16, .i32⟩
  | 35 => ⟨S512x128x16x16, .i32⟩
  | 36 => ⟨S512x128x16x16, .i32⟩
  | 37 => ⟨S_, .i32⟩
  | 38 => ⟨S512x128x16x16, .i32⟩
  | 39 => ⟨S512x128x16x16, .i32⟩
  | 40 => ⟨S_, .i32⟩
  | 41 => ⟨S512x128x16x16, .i32⟩
  | 42 => ⟨S512x128x16x16, .i32⟩
  | 43 => ⟨S512x128x16x16, .i32⟩
  | 44 => ⟨S512x128x16x16, .i32⟩
  | 45 => ⟨S512x128x16x16, .i32⟩
  | 46 => ⟨S_, .i32⟩
  | 47 => ⟨S512x128x16x16, .i32⟩
  | 48 => ⟨S512x128x16x16, .i32⟩
  | 49 => ⟨S_, .i32⟩
  | 50 => ⟨S512x128x16x16, .i32⟩
  | 51 => ⟨S512x128x16x16, .i32⟩
  | 52 => ⟨S512x128x16x16, .i32⟩
  | 53 => ⟨S512x128x16x16, .i32⟩
  | 54 => ⟨S512x128x16x16, .i32⟩
  | 55 => ⟨S_, .i32⟩
  | 56 => ⟨S512x128x16x16, .i32⟩
  | 57 => ⟨S512x128x16x16, .i32⟩
  | 58 => ⟨S_, .i32⟩
  | 59 => ⟨S512x128x16x16, .i32⟩
  | 60 => ⟨S512x128x16x16, .i32⟩
  | 61 => ⟨S512x128x16x16, .i32⟩
  | 62 => ⟨S512x128x16x16, .i32⟩
  | 63 => ⟨S512x128x16x16, .i32⟩
  | 64 => ⟨S512x128x16x16, .i32⟩
  | 65 => ⟨S512x128x16x16, .i32⟩
  | 66 => ⟨S512x128x16x16, .i32⟩
  | 67 => ⟨S_, .i32⟩
  | 68 => ⟨S512x128x16x16, .i32⟩
  | 69 => ⟨S512x128x16x16, .i32⟩
  | 70 => ⟨S512x128x16x16, .i32⟩
  | 71 => ⟨S_, .i32⟩
  | 72 => ⟨S512x128x16x16, .i32⟩
  | 73 => ⟨S512x128x16x16, .i32⟩
  | 74 => ⟨S_, .i32⟩
  | 75 => ⟨S512x128x16x16, .i32⟩
  | 76 => ⟨S512x128x16x16, .i32⟩
  | 77 => ⟨S512x128x16x16, .f32⟩
  | 78 => ⟨S_, .f32⟩
  | 79 => ⟨S512x128x16x16, .f32⟩
  | 80 => ⟨S512x128x16x16, .f32⟩
  | 81 => ⟨S1x1x1x1, .f32⟩
  | 82 => ⟨S512x128x16x16, .f32⟩
  | 83 => ⟨S512x128x16x16, .f32⟩
  | 84 => ⟨S512x128x16x16, .f32⟩
  | 85 => ⟨S512x128x16x16, .f32⟩
  | 86 => ⟨S512x128x16x16, .f32⟩
  | 87 => ⟨S512x128x16x16, .f32⟩
  | 88 => ⟨S512x128x16x16, .i1⟩
  | 89 => ⟨S512x128x16x16, .f32⟩
  | 90 => ⟨S512x128x16x16, .f32⟩
  | 91 => ⟨S_, .f32⟩
  | 92 => ⟨S_, .f32⟩
  | 93 => ⟨S_, .f32⟩
  | 94 => ⟨S_, .f32⟩
  | 95 => ⟨S1x1x1x1, .f32⟩
  | 96 => ⟨S1x1x1x1, .f32⟩
  | 97 => ⟨S1, .i32⟩
  | 98 => ⟨S_, .i32⟩
  | 99 => ⟨S1, .i32⟩
  | 100 => ⟨S_, .i32⟩
  | 101 => ⟨S512x128x16x16, .i64⟩
  | 102 => ⟨S512x128x16x16, .i64⟩
  | 103 => ⟨S512x128x16x16, .i64⟩
  | 104 => ⟨S512x128x16x16, .i64⟩
  | 105 => ⟨S_, .i64⟩
  | 106 => ⟨S512x128x16x16, .i64⟩
  | 107 => ⟨S512x128x16x16, .i64⟩
  | 108 => ⟨S_, .i64⟩
  | 109 => ⟨S512x128x16x16, .i64⟩
  | 110 => ⟨S512x128x16x16, .i64⟩
  | 111 => ⟨S_, .i64⟩
  | 112 => ⟨S512x128x16x16, .i64⟩
  | 113 => ⟨S512x128x16x16, .i64⟩
  | 114 => ⟨S_, .i64⟩
  | 115 => ⟨S512x128x16x16, .i64⟩
  | 116 => ⟨S512x128x16x16, .i64⟩
  | 117 => ⟨S512x128x16x16, .i64⟩
  | 118 => ⟨S512x128x16x16, .i64⟩
  | 119 => ⟨S512x128x16x16, .i64⟩
  | 120 => ⟨S_, .i64⟩
  | 121 => ⟨S512x128x16x16, .i64⟩
  | 122 => ⟨S512x128x16x16, .i64⟩
  | 123 => ⟨S512x128x16x16, .i32⟩
  | 124 => ⟨S512x128x16x16, .i32⟩
  | 125 => ⟨S_, .i32⟩
  | 126 => ⟨S_, .i32⟩
  | 127 => ⟨S_, .i32⟩
  | _ => ⟨S7x128x16x16, .i32⟩

abbrev hbmTy0_5 (i : Nat) : BufTy := match i % 128 with
  | 0 => ⟨S512x128x16x16, .i32⟩
  | 1 => ⟨S512x128x16x16, .i32⟩
  | 2 => ⟨S512x128x16x16, .i32⟩
  | 3 => ⟨S512x128x16x16, .i32⟩
  | 4 => ⟨S512x128x16x16, .i32⟩
  | 5 => ⟨S_, .i32⟩
  | 6 => ⟨S512x128x16x16, .i32⟩
  | 7 => ⟨S512x128x16x16, .i32⟩
  | 8 => ⟨S_, .i32⟩
  | 9 => ⟨S512x128x16x16, .i32⟩
  | 10 => ⟨S512x128x16x16, .i32⟩
  | 11 => ⟨S512x128x16x16, .i32⟩
  | 12 => ⟨S512x128x16x16, .i32⟩
  | 13 => ⟨S512x128x16x16, .i32⟩
  | 14 => ⟨S_, .i32⟩
  | 15 => ⟨S512x128x16x16, .i32⟩
  | 16 => ⟨S512x128x16x16, .i32⟩
  | 17 => ⟨S_, .i32⟩
  | 18 => ⟨S512x128x16x16, .i32⟩
  | 19 => ⟨S512x128x16x16, .i32⟩
  | 20 => ⟨S512x128x16x16, .i32⟩
  | 21 => ⟨S512x128x16x16, .i32⟩
  | 22 => ⟨S512x128x16x16, .i32⟩
  | 23 => ⟨S_, .i32⟩
  | 24 => ⟨S512x128x16x16, .i32⟩
  | 25 => ⟨S512x128x16x16, .i32⟩
  | 26 => ⟨S_, .i32⟩
  | 27 => ⟨S512x128x16x16, .i32⟩
  | 28 => ⟨S512x128x16x16, .i32⟩
  | 29 => ⟨S512x128x16x16, .i32⟩
  | 30 => ⟨S512x128x16x16, .i32⟩
  | 31 => ⟨S512x128x16x16, .i32⟩
  | 32 => ⟨S_, .i32⟩
  | 33 => ⟨S512x128x16x16, .i32⟩
  | 34 => ⟨S512x128x16x16, .i32⟩
  | 35 => ⟨S_, .i32⟩
  | 36 => ⟨S512x128x16x16, .i32⟩
  | 37 => ⟨S512x128x16x16, .i32⟩
  | 38 => ⟨S512x128x16x16, .i32⟩
  | 39 => ⟨S512x128x16x16, .i32⟩
  | 40 => ⟨S512x128x16x16, .i32⟩
  | 41 => ⟨S512x128x16x16, .i32⟩
  | 42 => ⟨S512x128x16x16, .i32⟩
  | 43 => ⟨S512x128x16x16, .i32⟩
  | 44 => ⟨S_, .i32⟩
  | 45 => ⟨S512x128x16x16, .i32⟩
  | 46 => ⟨S512x128x16x16, .i32⟩
  | 47 => ⟨S512x128x16x16, .i32⟩
  | 48 => ⟨S_, .i32⟩
  | 49 => ⟨S512x128x16x16, .i32⟩
  | 50 => ⟨S512x128x16x16, .i32⟩
  | 51 => ⟨S_, .i32⟩
  | 52 => ⟨S512x128x16x16, .i32⟩
  | 53 => ⟨S512x128x16x16, .i32⟩
  | 54 => ⟨S512x128x16x16, .i32⟩
  | 55 => ⟨S512x128x16x16, .i32⟩
  | 56 => ⟨S512x128x16x16, .i32⟩
  | 57 => ⟨S_, .i32⟩
  | 58 => ⟨S512x128x16x16, .i32⟩
  | 59 => ⟨S512x128x16x16, .i32⟩
  | 60 => ⟨S_, .i32⟩
  | 61 => ⟨S512x128x16x16, .i32⟩
  | 62 => ⟨S512x128x16x16, .i32⟩
  | 63 => ⟨S512x128x16x16, .i32⟩
  | 64 => ⟨S512x128x16x16, .i32⟩
  | 65 => ⟨S512x128x16x16, .i32⟩
  | 66 => ⟨S_, .i32⟩
  | 67 => ⟨S512x128x16x16, .i32⟩
  | 68 => ⟨S512x128x16x16, .i32⟩
  | 69 => ⟨S_, .i32⟩
  | 70 => ⟨S512x128x16x16, .i32⟩
  | 71 => ⟨S512x128x16x16, .i32⟩
  | 72 => ⟨S512x128x16x16, .i32⟩
  | 73 => ⟨S512x128x16x16, .i32⟩
  | 74 => ⟨S512x128x16x16, .i32⟩
  | 75 => ⟨S_, .i32⟩
  | 76 => ⟨S512x128x16x16, .i32⟩
  | 77 => ⟨S512x128x16x16, .i32⟩
  | 78 => ⟨S_, .i32⟩
  | 79 => ⟨S512x128x16x16, .i32⟩
  | 80 => ⟨S512x128x16x16, .i32⟩
  | 81 => ⟨S512x128x16x16, .i32⟩
  | 82 => ⟨S512x128x16x16, .i32⟩
  | 83 => ⟨S512x128x16x16, .i32⟩
  | 84 => ⟨S512x128x16x16, .i32⟩
  | 85 => ⟨S512x128x16x16, .i32⟩
  | 86 => ⟨S512x128x16x16, .i32⟩
  | 87 => ⟨S_, .i32⟩
  | 88 => ⟨S512x128x16x16, .i32⟩
  | 89 => ⟨S512x128x16x16, .i32⟩
  | 90 => ⟨S512x128x16x16, .i32⟩
  | 91 => ⟨S_, .i32⟩
  | 92 => ⟨S512x128x16x16, .i32⟩
  | 93 => ⟨S512x128x16x16, .i32⟩
  | 94 => ⟨S_, .i32⟩
  | 95 => ⟨S512x128x16x16, .i32⟩
  | 96 => ⟨S512x128x16x16, .i32⟩
  | 97 => ⟨S512x128x16x16, .i32⟩
  | 98 => ⟨S512x128x16x16, .i32⟩
  | 99 => ⟨S512x128x16x16, .i32⟩
  | 100 => ⟨S_, .i32⟩
  | 101 => ⟨S512x128x16x16, .i32⟩
  | 102 => ⟨S512x128x16x16, .i32⟩
  | 103 => ⟨S_, .i32⟩
  | 104 => ⟨S512x128x16x16, .i32⟩
  | 105 => ⟨S512x128x16x16, .i32⟩
  | 106 => ⟨S512x128x16x16, .i32⟩
  | 107 => ⟨S512x128x16x16, .i32⟩
  | 108 => ⟨S512x128x16x16, .i32⟩
  | 109 => ⟨S_, .i32⟩
  | 110 => ⟨S512x128x16x16, .i32⟩
  | 111 => ⟨S512x128x16x16, .i32⟩
  | 112 => ⟨S_, .i32⟩
  | 113 => ⟨S512x128x16x16, .i32⟩
  | 114 => ⟨S512x128x16x16, .i32⟩
  | 115 => ⟨S512x128x16x16, .i32⟩
  | 116 => ⟨S512x128x16x16, .i32⟩
  | 117 => ⟨S512x128x16x16, .i32⟩
  | 118 => ⟨S_, .i32⟩
  | 119 => ⟨S512x128x16x16, .i32⟩
  | 120 => ⟨S512x128x16x16, .i32⟩
  | 121 => ⟨S_, .i32⟩
  | 122 => ⟨S512x128x16x16, .i32⟩
  | 123 => ⟨S512x128x16x16, .i32⟩
  | 124 => ⟨S512x128x16x16, .i32⟩
  | 125 => ⟨S512x128x16x16, .i32⟩
  | 126 => ⟨S512x128x16x16, .i32⟩
  | 127 => ⟨S512x128x16x16, .i32⟩
  | _ => ⟨S7x128x16x16, .i32⟩

abbrev hbmTy0_6 (i : Nat) : BufTy := match i % 128 with
  | 0 => ⟨S512x128x16x16, .i32⟩
  | 1 => ⟨S512x128x16x16, .i32⟩
  | 2 => ⟨S_, .i32⟩
  | 3 => ⟨S512x128x16x16, .i32⟩
  | 4 => ⟨S512x128x16x16, .i32⟩
  | 5 => ⟨S512x128x16x16, .i32⟩
  | 6 => ⟨S_, .i32⟩
  | 7 => ⟨S512x128x16x16, .i32⟩
  | 8 => ⟨S512x128x16x16, .i32⟩
  | 9 => ⟨S_, .i32⟩
  | 10 => ⟨S512x128x16x16, .i32⟩
  | 11 => ⟨S512x128x16x16, .i32⟩
  | 12 => ⟨S512x128x16x16, .i32⟩
  | 13 => ⟨S512x128x16x16, .i32⟩
  | 14 => ⟨S512x128x16x16, .i32⟩
  | 15 => ⟨S_, .i32⟩
  | 16 => ⟨S512x128x16x16, .i32⟩
  | 17 => ⟨S512x128x16x16, .i32⟩
  | 18 => ⟨S_, .i32⟩
  | 19 => ⟨S512x128x16x16, .i32⟩
  | 20 => ⟨S512x128x16x16, .i32⟩
  | 21 => ⟨S512x128x16x16, .i32⟩
  | 22 => ⟨S512x128x16x16, .i32⟩
  | 23 => ⟨S512x128x16x16, .i32⟩
  | 24 => ⟨S_, .i32⟩
  | 25 => ⟨S512x128x16x16, .i32⟩
  | 26 => ⟨S512x128x16x16, .i32⟩
  | 27 => ⟨S_, .i32⟩
  | 28 => ⟨S512x128x16x16, .i32⟩
  | 29 => ⟨S512x128x16x16, .i32⟩
  | 30 => ⟨S512x128x16x16, .i32⟩
  | 31 => ⟨S512x128x16x16, .i32⟩
  | 32 => ⟨S512x128x16x16, .i32⟩
  | 33 => ⟨S_, .i32⟩
  | 34 => ⟨S512x128x16x16, .i32⟩
  | 35 => ⟨S512x128x16x16, .i32⟩
  | 36 => ⟨S_, .i32⟩
  | 37 => ⟨S512x128x16x16, .i32⟩
  | 38 => ⟨S512x128x16x16, .i32⟩
  | 39 => ⟨S512x128x16x16, .i32⟩
  | 40 => ⟨S512x128x16x16, .i32⟩
  | 41 => ⟨S512x128x16x16, .i32⟩
  | 42 => ⟨S512x128x16x16, .i32⟩
  | 43 => ⟨S512x128x16x16, .i32⟩
  | 44 => ⟨S512x128x16x16, .i32⟩
  | 45 => ⟨S_, .i32⟩
  | 46 => ⟨S512x128x16x16, .i32⟩
  | 47 => ⟨S512x128x16x16, .i32⟩
  | 48 => ⟨S512x128x16x16, .i32⟩
  | 49 => ⟨S_, .i32⟩
  | 50 => ⟨S512x128x16x16, .i32⟩
  | 51 => ⟨S512x128x16x16, .i32⟩
  | 52 => ⟨S_, .i32⟩
  | 53 => ⟨S512x128x16x16, .i32⟩
  | 54 => ⟨S512x128x16x16, .i32⟩
  | 55 => ⟨S512x128x16x16, .i32⟩
  | 56 => ⟨S512x128x16x16, .i32⟩
  | 57 => ⟨S512x128x16x16, .i32⟩
  | 58 => ⟨S_, .i32⟩
  | 59 => ⟨S512x128x16x16, .i32⟩
  | 60 => ⟨S512x128x16x16, .i32⟩
  | 61 => ⟨S_, .i32⟩
  | 62 => ⟨S512x128x16x16, .i32⟩
  | 63 => ⟨S512x128x16x16, .i32⟩
  | 64 => ⟨S512x128x16x16, .i32⟩
  | 65 => ⟨S512x128x16x16, .i32⟩
  | 66 => ⟨S512x128x16x16, .i32⟩
  | 67 => ⟨S_, .i32⟩
  | 68 => ⟨S512x128x16x16, .i32⟩
  | 69 => ⟨S512x128x16x16, .i32⟩
  | 70 => ⟨S_, .i32⟩
  | 71 => ⟨S512x128x16x16, .i32⟩
  | 72 => ⟨S512x128x16x16, .i32⟩
  | 73 => ⟨S512x128x16x16, .i32⟩
  | 74 => ⟨S512x128x16x16, .i32⟩
  | 75 => ⟨S512x128x16x16, .i32⟩
  | 76 => ⟨S_, .i32⟩
  | 77 => ⟨S512x128x16x16, .i32⟩
  | 78 => ⟨S512x128x16x16, .i32⟩
  | 79 => ⟨S_, .i32⟩
  | 80 => ⟨S512x128x16x16, .i32⟩
  | 81 => ⟨S512x128x16x16, .i32⟩
  | 82 => ⟨S512x128x16x16, .i32⟩
  | 83 => ⟨S512x128x16x16, .i32⟩
  | 84 => ⟨S512x128x16x16, .i32⟩
  | 85 => ⟨S512x128x16x16, .i32⟩
  | 86 => ⟨S512x128x16x16, .i32⟩
  | 87 => ⟨S512x128x16x16, .i32⟩
  | 88 => ⟨S_, .i32⟩
  | 89 => ⟨S512x128x16x16, .i32⟩
  | 90 => ⟨S512x128x16x16, .i32⟩
  | 91 => ⟨S512x128x16x16, .i32⟩
  | 92 => ⟨S_, .i32⟩
  | 93 => ⟨S512x128x16x16, .i32⟩
  | 94 => ⟨S512x128x16x16, .i32⟩
  | 95 => ⟨S_, .i32⟩
  | 96 => ⟨S512x128x16x16, .i32⟩
  | 97 => ⟨S512x128x16x16, .i32⟩
  | 98 => ⟨S512x128x16x16, .f32⟩
  | 99 => ⟨S_, .f32⟩
  | 100 => ⟨S512x128x16x16, .f32⟩
  | 101 => ⟨S512x128x16x16, .f32⟩
  | 102 => ⟨S1x1x1x1, .f32⟩
  | 103 => ⟨S512x128x16x16, .f32⟩
  | 104 => ⟨S512x128x16x16, .f32⟩
  | 105 => ⟨S512x128x16x16, .f32⟩
  | 106 => ⟨S512x128x16x16, .f32⟩
  | 107 => ⟨S512x128x16x16, .f32⟩
  | 108 => ⟨S512x128x16x16, .f32⟩
  | 109 => ⟨S512x128x16x16, .i1⟩
  | 110 => ⟨S512x128x16x16, .f32⟩
  | 111 => ⟨S_, .f32⟩
  | 112 => ⟨S512x128x16x16, .f32⟩
  | 113 => ⟨S512x128x16x16, .f32⟩
  | 114 => ⟨S_, .f32⟩
  | 115 => ⟨S512x128x16x16, .f32⟩
  | 116 => ⟨S512x128x16x16, .f32⟩
  | 117 => ⟨S_, .f32⟩
  | 118 => ⟨S512x128x16x16, .f32⟩
  | 119 => ⟨S512x128x16x16, .f32⟩
  | 120 => ⟨S512x128x16x16, .f32⟩
  | 121 => ⟨S_, .f32⟩
  | 122 => ⟨S_, .f32⟩
  | 123 => ⟨S_, .f32⟩
  | 124 => ⟨S512x128x16x16, .f32⟩
  | 125 => ⟨S512x128x16x16, .f32⟩
  | 126 => ⟨S_, .f32⟩
  | 127 => ⟨S512x128x16x16, .f32⟩
  | _ => ⟨S7x128x16x16, .i32⟩

abbrev hbmTy0_7 (i : Nat) : BufTy := match i % 128 with
  | 0 => ⟨S512x128x16x16, .f32⟩
  | 1 => ⟨S_, .f32⟩
  | 2 => ⟨S512x128x16x16, .f32⟩
  | 3 => ⟨S512x128x16x16, .f32⟩
  | 4 => ⟨S512x128x16x16, .f32⟩
  | 5 => ⟨S_, .f32⟩
  | 6 => ⟨S_, .f32⟩
  | 7 => ⟨S_, .f32⟩
  | 8 => ⟨S512x128x16x16, .f32⟩
  | 9 => ⟨S512x128x16x16, .f32⟩
  | 10 => ⟨S_, .f32⟩
  | 11 => ⟨S512x128x16x16, .f32⟩
  | 12 => ⟨S512x128x16x16, .f32⟩
  | 13 => ⟨S_, .f32⟩
  | 14 => ⟨S_, .f32⟩
  | 15 => ⟨S_, .f32⟩
  | 16 => ⟨S_, .f32⟩
  | 17 => ⟨S1x1x1x1, .f32⟩
  | 18 => ⟨S1x1x1x1, .f32⟩
  | 19 => ⟨S1, .i32⟩
  | 20 => ⟨S_, .i32⟩
  | 21 => ⟨S1, .i32⟩
  | 22 => ⟨S_, .i32⟩
  | 23 => ⟨S512x128x16x16, .i64⟩
  | 24 => ⟨S512x128x16x16, .i64⟩
  | 25 => ⟨S512x128x16x16, .i64⟩
  | 26 => ⟨S512x128x16x16, .i64⟩
  | 27 => ⟨S_, .i64⟩
  | 28 => ⟨S512x128x16x16, .i64⟩
  | 29 => ⟨S512x128x16x16, .i64⟩
  | 30 => ⟨S_, .i64⟩
  | 31 => ⟨S512x128x16x16, .i64⟩
  | 32 => ⟨S512x128x16x16, .i64⟩
  | 33 => ⟨S_, .i64⟩
  | 34 => ⟨S512x128x16x16, .i64⟩
  | 35 => ⟨S512x128x16x16, .i64⟩
  | 36 => ⟨S_, .i64⟩
  | 37 => ⟨S512x128x16x16, .i64⟩
  | 38 => ⟨S512x128x16x16, .i64⟩
  | 39 => ⟨S512x128x16x16, .i64⟩
  | 40 => ⟨S512x128x16x16, .i64⟩
  | 41 => ⟨S512x128x16x16, .i64⟩
  | 42 => ⟨S_, .i64⟩
  | 43 => ⟨S512x128x16x16, .i64⟩
  | 44 => ⟨S512x128x16x16, .i64⟩
  | 45 => ⟨S512x128x16x16, .i32⟩
  | 46 => ⟨S512x128x16x16, .i32⟩
  | 47 => ⟨S_, .i32⟩
  | 48 => ⟨S_, .i32⟩
  | 49 => ⟨S_, .i32⟩
  | 50 => ⟨S512x128x16x16, .i32⟩
  | 51 => ⟨S512x128x16x16, .i32⟩
  | 52 => ⟨S512x128x16x16, .i32⟩
  | 53 => ⟨S512x128x16x16, .i32⟩
  | 54 => ⟨S512x128x16x16, .i32⟩
  | 55 => ⟨S_, .i32⟩
  | 56 => ⟨S512x128x16x16, .i32⟩
  | 57 => ⟨S512x128x16x16, .i32⟩
  | 58 => ⟨S_, .i32⟩
  | 59 => ⟨S512x128x16x16, .i32⟩
  | 60 => ⟨S512x128x16x16, .i32⟩
  | 61 => ⟨S512x128x16x16, .i32⟩
  | 62 => ⟨S512x128x16x16, .i32⟩
  | 63 => ⟨S512x128x16x16, .i32⟩
  | 64 => ⟨S_, .i32⟩
  | 65 => ⟨S512x128x16x16, .i32⟩
  | 66 => ⟨S512x128x16x16, .i32⟩
  | 67 => ⟨S_, .i32⟩
  | 68 => ⟨S512x128x16x16, .i32⟩
  | 69 => ⟨S512x128x16x16, .i32⟩
  | 70 => ⟨S512x128x16x16, .i32⟩
  | 71 => ⟨S512x128x16x16, .i32⟩
  | 72 => ⟨S512x128x16x16, .i32⟩
  | 73 => ⟨S_, .i32⟩
  | 74 => ⟨S512x128x16x16, .i32⟩
  | 75 => ⟨S512x128x16x16, .i32⟩
  | 76 => ⟨S_, .i32⟩
  | 77 => ⟨S512x128x16x16, .i32⟩
  | 78 => ⟨S512x128x16x16, .i32⟩
  | 79 => ⟨S512x128x16x16, .i32⟩
  | 80 => ⟨S512x128x16x16, .i32⟩
  | 81 => ⟨S512x128x16x16, .i32⟩
  | 82 => ⟨S_, .i32⟩
  | 83 => ⟨S512x128x16x16, .i32⟩
  | 84 => ⟨S512x128x16x16, .i32⟩
  | 85 => ⟨S_, .i32⟩
  | 86 => ⟨S512x128x16x16, .i32⟩
  | 87 => ⟨S512x128x16x16, .i32⟩
  | 88 => ⟨S512x128x16x16, .i32⟩
  | 89 => ⟨S512x128x16x16, .i32⟩
  | 90 => ⟨S512x128x16x16, .i32⟩
  | 91 => ⟨S512x128x16x16, .i32⟩
  | 92 => ⟨S512x128x16x16, .i32⟩
  | 93 => ⟨S512x128x16x16, .i32⟩
  | 94 => ⟨S_, .i32⟩
  | 95 => ⟨S512x128x16x16, .i32⟩
  | 96 => ⟨S512x128x16x16, .i32⟩
  | 97 => ⟨S512x128x16x16, .i32⟩
  | 98 => ⟨S_, .i32⟩
  | 99 => ⟨S512x128x16x16, .i32⟩
  | 100 => ⟨S512x128x16x16, .i32⟩
  | 101 => ⟨S_, .i32⟩
  | 102 => ⟨S512x128x16x16, .i32⟩
  | 103 => ⟨S512x128x16x16, .i32⟩
  | 104 => ⟨S512x128x16x16, .i32⟩
  | 105 => ⟨S512x128x16x16, .i32⟩
  | 106 => ⟨S512x128x16x16, .i32⟩
  | 107 => ⟨S_, .i32⟩
  | 108 => ⟨S512x128x16x16, .i32⟩
  | 109 => ⟨S512x128x16x16, .i32⟩
  | 110 => ⟨S_, .i32⟩
  | 111 => ⟨S512x128x16x16, .i32⟩
  | 112 => ⟨S512x128x16x16, .i32⟩
  | 113 => ⟨S512x128x16x16, .i32⟩
  | 114 => ⟨S512x128x16x16, .i32⟩
  | 115 => ⟨S512x128x16x16, .i32⟩
  | 116 => ⟨S_, .i32⟩
  | 117 => ⟨S512x128x16x16, .i32⟩
  | 118 => ⟨S512x128x16x16, .i32⟩
  | 119 => ⟨S_, .i32⟩
  | 120 => ⟨S512x128x16x16, .i32⟩
  | 121 => ⟨S512x128x16x16, .i32⟩
  | 122 => ⟨S512x128x16x16, .i32⟩
  | 123 => ⟨S512x128x16x16, .i32⟩
  | 124 => ⟨S512x128x16x16, .i32⟩
  | 125 => ⟨S_, .i32⟩
  | 126 => ⟨S512x128x16x16, .i32⟩
  | 127 => ⟨S512x128x16x16, .i32⟩
  | _ => ⟨S7x128x16x16, .i32⟩

abbrev hbmTy0_8 (i : Nat) : BufTy := match i % 128 with
  | 0 => ⟨S_, .i32⟩
  | 1 => ⟨S512x128x16x16, .i32⟩
  | 2 => ⟨S512x128x16x16, .i32⟩
  | 3 => ⟨S512x128x16x16, .i32⟩
  | 4 => ⟨S512x128x16x16, .i32⟩
  | 5 => ⟨S512x128x16x16, .i32⟩
  | 6 => ⟨S512x128x16x16, .i32⟩
  | 7 => ⟨S512x128x16x16, .i32⟩
  | 8 => ⟨S512x128x16x16, .i32⟩
  | 9 => ⟨S_, .i32⟩
  | 10 => ⟨S512x128x16x16, .i32⟩
  | 11 => ⟨S512x128x16x16, .i32⟩
  | 12 => ⟨S512x128x16x16, .i32⟩
  | 13 => ⟨S_, .i32⟩
  | 14 => ⟨S512x128x16x16, .i32⟩
  | 15 => ⟨S512x128x16x16, .i32⟩
  | 16 => ⟨S_, .i32⟩
  | 17 => ⟨S512x128x16x16, .i32⟩
  | 18 => ⟨S512x128x16x16, .i32⟩
  | 19 => ⟨S512x128x16x16, .i32⟩
  | 20 => ⟨S512x128x16x16, .i32⟩
  | 21 => ⟨S512x128x16x16, .i32⟩
  | 22 => ⟨S_, .i32⟩
  | 23 => ⟨S512x128x16x16, .i32⟩
  | 24 => ⟨S512x128x16x16, .i32⟩
  | 25 => ⟨S_, .i32⟩
  | 26 => ⟨S512x128x16x16, .i32⟩
  | 27 => ⟨S512x128x16x16, .i32⟩
  | 28 => ⟨S512x128x16x16, .i32⟩
  | 29 => ⟨S512x128x16x16, .i32⟩
  | 30 => ⟨S512x128x16x16, .i32⟩
  | 31 => ⟨S_, .i32⟩
  | 32 => ⟨S512x128x16x16, .i32⟩
  | 33 => ⟨S512x128x16x16, .i32⟩
  | 34 => ⟨S_, .i32⟩
  | 35 => ⟨S512x128x16x16, .i32⟩
  | 36 => ⟨S512x128x16x16, .i32⟩
  | 37 => ⟨S512x128x16x16, .i32⟩
  | 38 => ⟨S512x128x16x16, .i32⟩
  | 39 => ⟨S512x128x16x16, .i32⟩
  | 40 => ⟨S_, .i32⟩
  | 41 => ⟨S512x128x16x16, .i32⟩
  | 42 => ⟨S512x128x16x16, .i32⟩
  | 43 => ⟨S_, .i32⟩
  | 44 => ⟨S512x128x16x16, .i32⟩
  | 45 => ⟨S512x128x16x16, .i32⟩
  | 46 => ⟨S512x128x16x16, .i32⟩
  | 47 => ⟨S512x128x16x16, .i32⟩
  | 48 => ⟨S512x128x16x16, .i32⟩
  | 49 => ⟨S512x128x16x16, .i32⟩
  | 50 => ⟨S512x128x16x16, .i32⟩
  | 51 => ⟨S512x128x16x16, .i32⟩
  | 52 => ⟨S_, .i32⟩
  | 53 => ⟨S512x128x16x16, .i32⟩
  | 54 => ⟨S512x128x16x16, .i32⟩
  | 55 => ⟨S512x128x16x16, .i32⟩
  | 56 => ⟨S_, .i32⟩
  | 57 => ⟨S512x128x16x16, .i32⟩
  | 58 => ⟨S512x128x16x16, .i32⟩
  | 59 => ⟨S_, .i32⟩
  | 60 => ⟨S512x128x16x16, .i32⟩
  | 61 => ⟨S512x128x16x16, .i32⟩
  | 62 => ⟨S512x128x16x16, .i32⟩
  | 63 => ⟨S512x128x16x16, .i32⟩
  | 64 => ⟨S512x128x16x16, .i32⟩
  | 65 => ⟨S_, .i32⟩
  | 66 => ⟨S512x128x16x16, .i32⟩
  | 67 => ⟨S512x128x16x16, .i32⟩
  | 68 => ⟨S_, .i32⟩
  | 69 => ⟨S512x128x16x16, .i32⟩
  | 70 => ⟨S512x128x16x16, .i32⟩
  | 71 => ⟨S512x128x16x16, .i32⟩
  | 72 => ⟨S512x128x16x16, .i32⟩
  | 73 => ⟨S512x128x16x16, .i32⟩
  | 74 => ⟨S_, .i32⟩
  | 75 => ⟨S512x128x16x16, .i32⟩
  | 76 => ⟨S512x128x16x16, .i32⟩
  | 77 => ⟨S_, .i32⟩
  | 78 => ⟨S512x128x16x16, .i32⟩
  | 79 => ⟨S512x128x16x16, .i32⟩
  | 80 => ⟨S512x128x16x16, .i32⟩
  | 81 => ⟨S512x128x16x16, .i32⟩
  | 82 => ⟨S512x128x16x16, .i32⟩
  | 83 => ⟨S_, .i32⟩
  | 84 => ⟨S512x128x16x16, .i32⟩
  | 85 => ⟨S512x128x16x16, .i32⟩
  | 86 => ⟨S_, .i32⟩
  | 87 => ⟨S512x128x16x16, .i32⟩
  | 88 => ⟨S512x128x16x16, .i32⟩
  | 89 => ⟨S512x128x16x16, .i32⟩
  | 90 => ⟨S512x128x16x16, .i32⟩
  | 91 => ⟨S512x128x16x16, .i32⟩
  | 92 => ⟨S512x128x16x16, .i32⟩
  | 93 => ⟨S512x128x16x16, .i32⟩
  | 94 => ⟨S512x128x16x16, .i32⟩
  | 95 => ⟨S_, .i32⟩
  | 96 => ⟨S512x128x16x16, .i32⟩
  | 97 => ⟨S512x128x16x16, .i32⟩
  | 98 => ⟨S512x128x16x16, .i32⟩
  | 99 => ⟨S_, .i32⟩
  | 100 => ⟨S512x128x16x16, .i32⟩
  | 101 => ⟨S512x128x16x16, .i32⟩
  | 102 => ⟨S_, .i32⟩
  | 103 => ⟨S512x128x16x16, .i32⟩
  | 104 => ⟨S512x128x16x16, .i32⟩
  | 105 => ⟨S512x128x16x16, .i32⟩
  | 106 => ⟨S512x128x16x16, .i32⟩
  | 107 => ⟨S512x128x16x16, .i32⟩
  | 108 => ⟨S_, .i32⟩
  | 109 => ⟨S512x128x16x16, .i32⟩
  | 110 => ⟨S512x128x16x16, .i32⟩
  | 111 => ⟨S_, .i32⟩
  | 112 => ⟨S512x128x16x16, .i32⟩
  | 113 => ⟨S512x128x16x16, .i32⟩
  | 114 => ⟨S512x128x16x16, .i32⟩
  | 115 => ⟨S512x128x16x16, .i32⟩
  | 116 => ⟨S512x128x16x16, .i32⟩
  | 117 => ⟨S_, .i32⟩
  | 118 => ⟨S512x128x16x16, .i32⟩
  | 119 => ⟨S512x128x16x16, .i32⟩
  | 120 => ⟨S_, .i32⟩
  | 121 => ⟨S512x128x16x16, .i32⟩
  | 122 => ⟨S512x128x16x16, .i32⟩
  | 123 => ⟨S512x128x16x16, .i32⟩
  | 124 => ⟨S512x128x16x16, .i32⟩
  | 125 => ⟨S512x128x16x16, .i32⟩
  | 126 => ⟨S_, .i32⟩
  | 127 => ⟨S512x128x16x16, .i32⟩
  | _ => ⟨S7x128x16x16, .i32⟩

abbrev hbmTy0_9 (i : Nat) : BufTy := match i % 128 with
  | 0 => ⟨S512x128x16x16, .i32⟩
  | 1 => ⟨S_, .i32⟩
  | 2 => ⟨S512x128x16x16, .i32⟩
  | 3 => ⟨S512x128x16x16, .i32⟩
  | 4 => ⟨S512x128x16x16, .i32⟩
  | 5 => ⟨S512x128x16x16, .i32⟩
  | 6 => ⟨S512x128x16x16, .i32⟩
  | 7 => ⟨S512x128x16x16, .i32⟩
  | 8 => ⟨S512x128x16x16, .i32⟩
  | 9 => ⟨S512x128x16x16, .i32⟩
  | 10 => ⟨S_, .i32⟩
  | 11 => ⟨S512x128x16x16, .i32⟩
  | 12 => ⟨S512x128x16x16, .i32⟩
  | 13 => ⟨S512x128x16x16, .i32⟩
  | 14 => ⟨S_, .i32⟩
  | 15 => ⟨S512x128x16x16, .i32⟩
  | 16 => ⟨S512x128x16x16, .i32⟩
  | 17 => ⟨S_, .i32⟩
  | 18 => ⟨S512x128x16x16, .i32⟩
  | 19 => ⟨S512x128x16x16, .i32⟩
  | 20 => ⟨S512x128x16x16, .f32⟩
  | 21 => ⟨S_, .f32⟩
  | 22 => ⟨S512x128x16x16, .f32⟩
  | 23 => ⟨S512x128x16x16, .f32⟩
  | 24 => ⟨S1x1x1x1, .f32⟩
  | 25 => ⟨S512x128x16x16, .f32⟩
  | 26 => ⟨S512x128x16x16, .f32⟩
  | 27 => ⟨S512x128x16x16, .f32⟩
  | 28 => ⟨S512x128x16x16, .f32⟩
  | 29 => ⟨S512x128x16x16, .f32⟩
  | 30 => ⟨S512x128x16x16, .f32⟩
  | 31 => ⟨S512x128x16x16, .i1⟩
  | 32 => ⟨S512x128x16x16, .f32⟩
  | 33 => ⟨S_, .f32⟩
  | 34 => ⟨S_, .f32⟩
  | 35 => ⟨S_, .f32⟩
  | 36 => ⟨S_, .f32⟩
  | 37 => ⟨S1x1x1x1, .f32⟩
  | 38 => ⟨S1x1x1x1, .f32⟩
  | 39 => ⟨S1, .i32⟩
  | 40 => ⟨S_, .i32⟩
  | 41 => ⟨S1, .i32⟩
  | 42 => ⟨S_, .i32⟩
  | 43 => ⟨S512x128x16x16, .i64⟩
  | 44 => ⟨S512x128x16x16, .i64⟩
  | 45 => ⟨S512x128x16x16, .i64⟩
  | 46 => ⟨S512x128x16x16, .i64⟩
  | 47 => ⟨S_, .i64⟩
  | 48 => ⟨S512x128x16x16, .i64⟩
  | 49 => ⟨S512x128x16x16, .i64⟩
  | 50 => ⟨S_, .i64⟩
  | 51 => ⟨S512x128x16x16, .i64⟩
  | 52 => ⟨S512x128x16x16, .i64⟩
  | 53 => ⟨S_, .i64⟩
  | 54 => ⟨S512x128x16x16, .i64⟩
  | 55 => ⟨S512x128x16x16, .i64⟩
  | 56 => ⟨S_, .i64⟩
  | 57 => ⟨S512x128x16x16, .i64⟩
  | 58 => ⟨S512x128x16x16, .i64⟩
  | 59 => ⟨S512x128x16x16, .i64⟩
  | 60 => ⟨S512x128x16x16, .i64⟩
  | 61 => ⟨S512x128x16x16, .i64⟩
  | 62 => ⟨S_, .i64⟩
  | 63 => ⟨S512x128x16x16, .i64⟩
  | 64 => ⟨S512x128x16x16, .i64⟩
  | 65 => ⟨S512x128x16x16, .i32⟩
  | 66 => ⟨S512x128x16x16, .i32⟩
  | 67 => ⟨S_, .i32⟩
  | 68 => ⟨S_, .i32⟩
  | 69 => ⟨S_, .i32⟩
  | 70 => ⟨S512x128x16x16, .i32⟩
  | 71 => ⟨S512x128x16x16, .i32⟩
  | 72 => ⟨S512x128x16x16, .i32⟩
  | 73 => ⟨S512x128x16x16, .i32⟩
  | 74 => ⟨S512x128x16x16, .i32⟩
  | 75 => ⟨S_, .i32⟩
  | 76 => ⟨S512x128x16x16, .i32⟩
  | 77 => ⟨S512x128x16x16, .i32⟩
  | 78 => ⟨S_, .i32⟩
  | 79 => ⟨S512x128x16x16, .i32⟩
  | 80 => ⟨S512x128x16x16, .i32⟩
  | 81 => ⟨S512x128x16x16, .i32⟩
  | 82 => ⟨S512x128x16x16, .i32⟩
  | 83 => ⟨S512x128x16x16, .i32⟩
  | 84 => ⟨S_, .i32⟩
  | 85 => ⟨S512x128x16x16, .i32⟩
  | 86 => ⟨S512x128x16x16, .i32⟩
  | 87 => ⟨S_, .i32⟩
  | 88 => ⟨S512x128x16x16, .i32⟩
  | 89 => ⟨S512x128x16x16, .i32⟩
  | 90 => ⟨S512x128x16x16, .i32⟩
  | 91 => ⟨S512x128x16x16, .i32⟩
  | 92 => ⟨S512x128x16x16, .i32⟩
  | 93 => ⟨S_, .i32⟩
  | 94 => ⟨S512x128x16x16, .i32⟩
  | 95 => ⟨S512x128x16x16, .i32⟩
  | 96 => ⟨S_, .i32⟩
  | 97 => ⟨S512x128x16x16, .i32⟩
  | 98 => ⟨S512x128x16x16, .i32⟩
  | 99 => ⟨S512x128x16x16, .i32⟩
  | 100 => ⟨S512x128x16x16, .i32⟩
  | 101 => ⟨S512x128x16x16, .i32⟩
  | 102 => ⟨S_, .i32⟩
  | 103 => ⟨S512x128x16x16, .i32⟩
  | 104 => ⟨S512x128x16x16, .i32⟩
  | 105 => ⟨S_, .i32⟩
  | 106 => ⟨S512x128x16x16, .i32⟩
  | 107 => ⟨S512x128x16x16, .i32⟩
  | 108 => ⟨S512x128x16x16, .i32⟩
  | 109 => ⟨S512x128x16x16, .i32⟩
  | 110 => ⟨S512x128x16x16, .i32⟩
  | 111 => ⟨S512x128x16x16, .i32⟩
  | 112 => ⟨S512x128x16x16, .i32⟩
  | 113 => ⟨S512x128x16x16, .i32⟩
  | 114 => ⟨S_, .i32⟩
  | 115 => ⟨S512x128x16x16, .i32⟩
  | 116 => ⟨S512x128x16x16, .i32⟩
  | 117 => ⟨S512x128x16x16, .i32⟩
  | 118 => ⟨S_, .i32⟩
  | 119 => ⟨S512x128x16x16, .i32⟩
  | 120 => ⟨S512x128x16x16, .i32⟩
  | 121 => ⟨S_, .i32⟩
  | 122 => ⟨S512x128x16x16, .i32⟩
  | 123 => ⟨S512x128x16x16, .i32⟩
  | 124 => ⟨S512x128x16x16, .i32⟩
  | 125 => ⟨S512x128x16x16, .i32⟩
  | 126 => ⟨S512x128x16x16, .i32⟩
  | 127 => ⟨S_, .i32⟩
  | _ => ⟨S7x128x16x16, .i32⟩

abbrev hbmTy0_10 (i : Nat) : BufTy := match i % 128 with
  | 0 => ⟨S512x128x16x16, .i32⟩
  | 1 => ⟨S512x128x16x16, .i32⟩
  | 2 => ⟨S_, .i32⟩
  | 3 => ⟨S512x128x16x16, .i32⟩
  | 4 => ⟨S512x128x16x16, .i32⟩
  | 5 => ⟨S512x128x16x16, .i32⟩
  | 6 => ⟨S512x128x16x16, .i32⟩
  | 7 => ⟨S512x128x16x16, .i32⟩
  | 8 => ⟨S_, .i32⟩
  | 9 => ⟨S512x128x16x16, .i32⟩
  | 10 => ⟨S512x128x16x16, .i32⟩
  | 11 => ⟨S_, .i32⟩
  | 12 => ⟨S512x128x16x16, .i32⟩
  | 13 => ⟨S512x128x16x16, .i32⟩
  | 14 => ⟨S512x128x16x16, .i32⟩
  | 15 => ⟨S512x128x16x16, .i32⟩
  | 16 => ⟨S512x128x16x16, .i32⟩
  | 17 => ⟨S_, .i32⟩
  | 18 => ⟨S512x128x16x16, .i32⟩
  | 19 => ⟨S512x128x16x16, .i32⟩
  | 20 => ⟨S_, .i32⟩
  | 21 => ⟨S512x128x16x16, .i32⟩
  | 22 => ⟨S512x128x16x16, .i32⟩
  | 23 => ⟨S512x128x16x16, .i32⟩
  | 24 => ⟨S512x128x16x16, .i32⟩
  | 25 => ⟨S512x128x16x16, .i32⟩
  | 26 => ⟨S512x128x16x16, .i32⟩
  | 27 => ⟨S512x128x16x16, .i32⟩
  | 28 => ⟨S512x128x16x16, .i32⟩
  | 29 => ⟨S_, .i32⟩
  | 30 => ⟨S512x128x16x16, .i32⟩
  | 31 => ⟨S512x128x16x16, .i32⟩
  | 32 => ⟨S512x128x16x16, .i32⟩
  | 33 => ⟨S_, .i32⟩
  | 34 => ⟨S512x128x16x16, .i32⟩
  | 35 => ⟨S512x128x16x16, .i32⟩
  | 36 => ⟨S_, .i32⟩
  | 37 => ⟨S512x128x16x16, .i32⟩
  | 38 => ⟨S512x128x16x16, .i32⟩
  | 39 => ⟨S512x128x16x16, .i32⟩
  | 40 => ⟨S512x128x16x16, .i32⟩
  | 41 => ⟨S512x128x16x16, .i32⟩
  | 42 => ⟨S_, .i32⟩
  | 43 => ⟨S512x128x16x16, .i32⟩
  | 44 => ⟨S512x128x16x16, .i32⟩
  | 45 => ⟨S_, .i32⟩
  | 46 => ⟨S512x128x16x16, .i32⟩
  | 47 => ⟨S512x128x16x16, .i32⟩
  | 48 => ⟨S512x128x16x16, .i32⟩
  | 49 => ⟨S512x128x16x16, .i32⟩
  | 50 => ⟨S512x128x16x16, .i32⟩
  | 51 => ⟨S_, .i32⟩
  | 52 => ⟨S512x128x16x16, .i32⟩
  | 53 => ⟨S512x128x16x16, .i32⟩
  | 54 => ⟨S_, .i32⟩
  | 55 => ⟨S512x128x16x16, .i32⟩
  | 56 => ⟨S512x128x16x16, .i32⟩
  | 57 => ⟨S512x128x16x16, .i32⟩
  | 58 => ⟨S512x128x16x16, .i32⟩
  | 59 => ⟨S512x128x16x16, .i32⟩
  | 60 => ⟨S_, .i32⟩
  | 61 => ⟨S512x128x16x16, .i32⟩
  | 62 => ⟨S512x128x16x16, .i32⟩
  | 63 => ⟨S_, .i32⟩
  | 64 => ⟨S512x128x16x16, .i32⟩
  | 65 => ⟨S512x128x16x16, .i32⟩
  | 66 => ⟨S512x128x16x16, .i32⟩
  | 67 => ⟨S512x128x16x16, .i32⟩
  | 68 => ⟨S512x128x16x16, .i32⟩
  | 69 => ⟨S512x128x16x16, .i32⟩
  | 70 => ⟨S512x128x16x16, .i32⟩
  | 71 => ⟨S512x128x16x16, .i32⟩
  | 72 => ⟨S_, .i32⟩
  | 73 => ⟨S512x128x16x16, .i32⟩
  | 74 => ⟨S512x128x16x16, .i32⟩
  | 75 => ⟨S512x128x16x16, .i32⟩
  | 76 => ⟨S_, .i32⟩
  | 77 => ⟨S512x128x16x16, .i32⟩
  | 78 => ⟨S512x128x16x16, .i32⟩
  | 79 => ⟨S_, .i32⟩
  | 80 => ⟨S512x128x16x16, .i32⟩
  | 81 => ⟨S512x128x16x16, .i32⟩
  | 82 => ⟨S512x128x16x16, .i32⟩
  | 83 => ⟨S512x128x16x16, .i32⟩
  | 84 => ⟨S512x128x16x16, .i32⟩
  | 85 => ⟨S_, .i32⟩
  | 86 => ⟨S512x128x16x16, .i32⟩
  | 87 => ⟨S512x128x16x16, .i32⟩
  | 88 => ⟨S_, .i32⟩
  | 89 => ⟨S512x128x16x16, .i32⟩
  | 90 => ⟨S512x128x16x16, .i32⟩
  | 91 => ⟨S512x128x16x16, .i32⟩
  | 92 => ⟨S512x128x16x16, .i32⟩
  | 93 => ⟨S512x128x16x16, .i32⟩
  | 94 => ⟨S_, .i32⟩
  | 95 => ⟨S512x128x16x16, .i32⟩
  | 96 => ⟨S512x128x16x16, .i32⟩
  | 97 => ⟨S_, .i32⟩
  | 98 => ⟨S512x128x16x16, .i32⟩
  | 99 => ⟨S512x128x16x16, .i32⟩
  | 100 => ⟨S512x128x16x16, .i32⟩
  | 101 => ⟨S512x128x16x16, .i32⟩
  | 102 => ⟨S512x128x16x16, .i32⟩
  | 103 => ⟨S_, .i32⟩
  | 104 => ⟨S512x128x16x16, .i32⟩
  | 105 => ⟨S512x128x16x16, .i32⟩
  | 106 => ⟨S_, .i32⟩
  | 107 => ⟨S512x128x16x16, .i32⟩
  | 108 => ⟨S512x128x16x16, .i32⟩
  | 109 => ⟨S512x128x16x16, .i32⟩
  | 110 => ⟨S512x128x16x16, .i32⟩
  | 111 => ⟨S512x128x16x16, .i32⟩
  | 112 => ⟨S512x128x16x16, .i32⟩
  | 113 => ⟨S512x128x16x16, .i32⟩
  | 114 => ⟨S512x128x16x16, .i32⟩
  | 115 => ⟨S_, .i32⟩
  | 116 => ⟨S512x128x16x16, .i32⟩
  | 117 => ⟨S512x128x16x16, .i32⟩
  | 118 => ⟨S512x128x16x16, .i32⟩
  | 119 => ⟨S_, .i32⟩
  | 120 => ⟨S512x128x16x16, .i32⟩
  | 121 => ⟨S512x128x16x16, .i32⟩
  | 122 => ⟨S_, .i32⟩
  | 123 => ⟨S512x128x16x16, .i32⟩
  | 124 => ⟨S512x128x16x16, .i32⟩
  | 125 => ⟨S512x128x16x16, .i32⟩
  | 126 => ⟨S512x128x16x16, .i32⟩
  | 127 => ⟨S512x128x16x16, .i32⟩
  | _ => ⟨S7x128x16x16, .i32⟩

abbrev hbmTy0_11 (i : Nat) : BufTy := match i % 128 with
  | 0 => ⟨S_, .i32⟩
  | 1 => ⟨S512x128x16x16, .i32⟩
  | 2 => ⟨S512x128x16x16, .i32⟩
  | 3 => ⟨S_, .i32⟩
  | 4 => ⟨S512x128x16x16, .i32⟩
  | 5 => ⟨S512x128x16x16, .i32⟩
  | 6 => ⟨S512x128x16x16, .i32⟩
  | 7 => ⟨S512x128x16x16, .i32⟩
  | 8 => ⟨S512x128x16x16, .i32⟩
  | 9 => ⟨S_, .i32⟩
  | 10 => ⟨S512x128x16x16, .i32⟩
  | 11 => ⟨S512x128x16x16, .i32⟩
  | 12 => ⟨S_, .i32⟩
  | 13 => ⟨S512x128x16x16, .i32⟩
  | 14 => ⟨S512x128x16x16, .i32⟩
  | 15 => ⟨S512x128x16x16, .i32⟩
  | 16 => ⟨S512x128x16x16, .i32⟩
  | 17 => ⟨S512x128x16x16, .i32⟩
  | 18 => ⟨S_, .i32⟩
  | 19 => ⟨S512x128x16x16, .i32⟩
  | 20 => ⟨S512x128x16x16, .i32⟩
  | 21 => ⟨S_, .i32⟩
  | 22 => ⟨S512x128x16x16, .i32⟩
  | 23 => ⟨S512x128x16x16, .i32⟩
  | 24 => ⟨S512x128x16x16, .i32⟩
  | 25 => ⟨S512x128x16x16, .i32⟩
  | 26 => ⟨S512x128x16x16, .i32⟩
  | 27 => ⟨S512x128x16x16, .i32⟩
  | 28 => ⟨S512x128x16x16, .i32⟩
  | 29 => ⟨S512x128x16x16, .i32⟩
  | 30 => ⟨S_, .i32⟩
  | 31 => ⟨S512x128x16x16, .i32⟩
  | 32 => ⟨S512x128x16x16, .i32⟩
  | 33 => ⟨S512x128x16x16, .i32⟩
  | 34 => ⟨S_, .i32⟩
  | 35 => ⟨S512x128x16x16, .i32⟩
  | 36 => ⟨S512x128x16x16, .i32⟩
  | 37 => ⟨S_, .i32⟩
  | 38 => ⟨S512x128x16x16, .i32⟩
  | 39 => ⟨S512x128x16x16, .i32⟩
  | 40 => ⟨S512x128x16x16, .f32⟩
  | 41 => ⟨S_, .f32⟩
  | 42 => ⟨S512x128x16x16, .f32⟩
  | 43 => ⟨S512x128x16x16, .f32⟩
  | 44 => ⟨S1x1x1x1, .f32⟩
  | 45 => ⟨S512x128x16x16, .f32⟩
  | 46 => ⟨S512x128x16x16, .f32⟩
  | 47 => ⟨S512x128x16x16, .f32⟩
  | 48 => ⟨S512x128x16x16, .f32⟩
  | 49 => ⟨S512x128x16x16, .f32⟩
  | 50 => ⟨S512x128x16x16, .f32⟩
  | 51 => ⟨S512x128x16x16, .i1⟩
  | 52 => ⟨S512x128x16x16, .f32⟩
  | 53 => ⟨S_, .f32⟩
  | 54 => ⟨S512x128x16x16, .f32⟩
  | 55 => ⟨S512x128x16x16, .f32⟩
  | 56 => ⟨S_, .f32⟩
  | 57 => ⟨S_, .f32⟩
  | 58 => ⟨S_, .f32⟩
  | 59 => ⟨S_, .f32⟩
  | 60 => ⟨S1x1x1x1, .f32⟩
  | 61 => ⟨S1x1x1x1, .f32⟩
  | 62 => ⟨S1, .i32⟩
  | 63 => ⟨S_, .i32⟩
  | 64 => ⟨S1, .i32⟩
  | 65 => ⟨S_, .i32⟩
  | 66 => ⟨S512x128x16x16, .i64⟩
  | 67 => ⟨S512x128x16x16, .i64⟩
  | 68 => ⟨S512x128x16x16, .i64⟩
  | 69 => ⟨S512x128x16x16, .i64⟩
  | 70 => ⟨S_, .i64⟩
  | 71 => ⟨S512x128x16x16, .i64⟩
  | 72 => ⟨S512x128x16x16, .i64⟩
  | 73 => ⟨S_, .i64⟩
  | 74 => ⟨S512x128x16x16, .i64⟩
  | 75 => ⟨S512x128x16x16, .i64⟩
  | 76 => ⟨S_, .i64⟩
  | 77 => ⟨S512x128x16x16, .i64⟩
  | 78 => ⟨S512x128x16x16, .i64⟩
  | 79 => ⟨S_, .i64⟩
  | 80 => ⟨S512x128x16x16, .i64⟩
  | 81 => ⟨S512x128x16x16, .i64⟩
  | 82 => ⟨S512x128x16x16, .i64⟩
  | 83 => ⟨S512x128x16x16, .i64⟩
  | 84 => ⟨S512x128x16x16, .i64⟩
  | 85 => ⟨S_, .i64⟩
  | 86 => ⟨S512x128x16x16, .i64⟩
  | 87 => ⟨S512x128x16x16, .i64⟩
  | 88 => ⟨S512x128x16x16, .i32⟩
  | 89 => ⟨S512x128x16x16, .i32⟩
  | 90 => ⟨S_, .i32⟩
  | 91 => ⟨S_, .i32⟩
  | 92 => ⟨S_, .i32⟩
  | 93 => ⟨S512x128x16x16, .i32⟩
  | 94 => ⟨S512x128x16x16, .i32⟩
  | 95 => ⟨S512x128x16x16, .i32⟩
  | 96 => ⟨S512x128x16x16, .i32⟩
  | 97 => ⟨S512x128x16x16, .i32⟩
  | 98 => ⟨S_, .i32⟩
  | 99 => ⟨S512x128x16x16, .i32⟩
  | 100 => ⟨S512x128x16x16, .i32⟩
  | 101 => ⟨S_, .i32⟩
  | 102 => ⟨S512x128x16x16, .i32⟩
  | 103 => ⟨S512x128x16x16, .i32⟩
  | 104 => ⟨S512x128x16x16, .i32⟩
  | 105 => ⟨S512x128x16x16, .i32⟩
  | 106 => ⟨S512x128x16x16, .i32⟩
  | 107 => ⟨S_, .i32⟩
  | 108 => ⟨S512x128x16x16, .i32⟩
  | 109 => ⟨S512x128x16x16, .i32⟩
  | 110 => ⟨S_, .i32⟩
  | 111 => ⟨S512x128x16x16, .i32⟩
  | 112 => ⟨S512x128x16x16, .i32⟩
  | 113 => ⟨S512x128x16x16, .i32⟩
  | 114 => ⟨S512x128x16x16, .i32⟩
  | 115 => ⟨S512x128x16x16, .i32⟩
  | 116 => ⟨S_, .i32⟩
  | 117 => ⟨S512x128x16x16, .i32⟩
  | 118 => ⟨S512x128x16x16, .i32⟩
  | 119 => ⟨S_, .i32⟩
  | 120 => ⟨S512x128x16x16, .i32⟩
  | 121 => ⟨S512x128x16x16, .i32⟩
  | 122 => ⟨S512x128x16x16, .i32⟩
  | 123 => ⟨S512x128x16x16, .i32⟩
  | 124 => ⟨S512x128x16x16, .i32⟩
  | 125 => ⟨S_, .i32⟩
  | 126 => ⟨S512x128x16x16, .i32⟩
  | 127 => ⟨S512x128x16x16, .i32⟩
  | _ => ⟨S7x128x16x16, .i32⟩

abbrev hbmTy0_12 (i : Nat) : BufTy := match i % 128 with
  | 0 => ⟨S_, .i32⟩
  | 1 => ⟨S512x128x16x16, .i32⟩
  | 2 => ⟨S512x128x16x16, .i32⟩
  | 3 => ⟨S512x128x16x16, .i32⟩
  | 4 => ⟨S512x128x16x16, .i32⟩
  | 5 => ⟨S512x128x16x16, .i32⟩
  | 6 => ⟨S512x128x16x16, .i32⟩
  | 7 => ⟨S512x128x16x16, .i32⟩
  | 8 => ⟨S512x128x16x16, .i32⟩
  | 9 => ⟨S_, .i32⟩
  | 10 => ⟨S512x128x16x16, .i32⟩
  | 11 => ⟨S512x128x16x16, .i32⟩
  | 12 => ⟨S512x128x16x16, .i32⟩
  | 13 => ⟨S_, .i32⟩
  | 14 => ⟨S512x128x16x16, .i32⟩
  | 15 => ⟨S512x128x16x16, .i32⟩
  | 16 => ⟨S_, .i32⟩
  | 17 => ⟨S512x128x16x16, .i32⟩
  | 18 => ⟨S512x128x16x16, .i32⟩
  | 19 => ⟨S512x128x16x16, .i32⟩
  | 20 => ⟨S512x128x16x16, .i32⟩
  | 21 => ⟨S512x128x16x16, .i32⟩
  | 22 => ⟨S_, .i32⟩
  | 23 => ⟨S512x128x16x16, .i32⟩
  | 24 => ⟨S512x128x16x16, .i32⟩
  | 25 => ⟨S_, .i32⟩
  | 26 => ⟨S512x128x16x16, .i32⟩
  | 27 => ⟨S512x128x16x16, .i32⟩
  | 28 => ⟨S512x128x16x16, .i32⟩
  | 29 => ⟨S512x128x16x16, .i32⟩
  | 30 => ⟨S512x128x16x16, .i32⟩
  | 31 => ⟨S_, .i32⟩
  | 32 => ⟨S512x128x16x16, .i32⟩
  | 33 => ⟨S512x128x16x16, .i32⟩
  | 34 => ⟨S_, .i32⟩
  | 35 => ⟨S512x128x16x16, .i32⟩
  | 36 => ⟨S512x128x16x16, .i32⟩
  | 37 => ⟨S512x128x16x16, .i32⟩
  | 38 => ⟨S512x128x16x16, .i32⟩
  | 39 => ⟨S512x128x16x16, .i32⟩
  | 40 => ⟨S_, .i32⟩
  | 41 => ⟨S512x128x16x16, .i32⟩
  | 42 => ⟨S512x128x16x16, .i32⟩
  | 43 => ⟨S_, .i32⟩
  | 44 => ⟨S512x128x16x16, .i32⟩
  | 45 => ⟨S512x128x16x16, .i32⟩
  | 46 => ⟨S512x128x16x16, .i32⟩
  | 47 => ⟨S512x128x16x16, .i32⟩
  | 48 => ⟨S512x128x16x16, .i32⟩
  | 49 => ⟨S512x128x16x16, .i32⟩
  | 50 => ⟨S512x128x16x16, .i32⟩
  | 51 => ⟨S512x128x16x16, .i32⟩
  | 52 => ⟨S_, .i32⟩
  | 53 => ⟨S512x128x16x16, .i32⟩
  | 54 => ⟨S512x128x16x16, .i32⟩
  | 55 => ⟨S512x128x16x16, .i32⟩
  | 56 => ⟨S_, .i32⟩
  | 57 => ⟨S512x128x16x16, .i32⟩
  | 58 => ⟨S512x128x16x16, .i32⟩
  | 59 => ⟨S_, .i32⟩
  | 60 => ⟨S512x128x16x16, .i32⟩
  | 61 => ⟨S512x128x16x16, .i32⟩
  | 62 => ⟨S512x128x16x16, .i32⟩
  | 63 => ⟨S512x128x16x16, .i32⟩
  | 64 => ⟨S512x128x16x16, .i32⟩
  | 65 => ⟨S_, .i32⟩
  | 66 => ⟨S512x128x16x16, .i32⟩
  | 67 => ⟨S512x128x16x16, .i32⟩
  | 68 => ⟨S_, .i32⟩
  | 69 => ⟨S512x128x16x16, .i32⟩
  | 70 => ⟨S512x128x16x16, .i32⟩
  | 71 => ⟨S512x128x16x16, .i32⟩
  | 72 => ⟨S512x128x16x16, .i32⟩
  | 73 => ⟨S512x128x16x16, .i32⟩
  | 74 => ⟨S_, .i32⟩
  | 75 => ⟨S512x128x16x16, .i32⟩
  | 76 => ⟨S512x128x16x16, .i32⟩
  | 77 => ⟨S_, .i32⟩
  | 78 => ⟨S512x128x16x16, .i32⟩
  | 79 => ⟨S512x128x16x16, .i32⟩
  | 80 => ⟨S512x128x16x16, .i32⟩
  | 81 => ⟨S512x128x16x16, .i32⟩
  | 82 => ⟨S512x128x16x16, .i32⟩
  | 83 => ⟨S_, .i32⟩
  | 84 => ⟨S512x128x16x16, .i32⟩
  | 85 => ⟨S512x128x16x16, .i32⟩
  | 86 => ⟨S_, .i32⟩
  | 87 => ⟨S512x128x16x16, .i32⟩
  | 88 => ⟨S512x128x16x16, .i32⟩
  | 89 => ⟨S512x128x16x16, .i32⟩
  | 90 => ⟨S512x128x16x16, .i32⟩
  | 91 => ⟨S512x128x16x16, .i32⟩
  | 92 => ⟨S512x128x16x16, .i32⟩
  | 93 => ⟨S512x128x16x16, .i32⟩
  | 94 => ⟨S512x128x16x16, .i32⟩
  | 95 => ⟨S_, .i32⟩
  | 96 => ⟨S512x128x16x16, .i32⟩
  | 97 => ⟨S512x128x16x16, .i32⟩
  | 98 => ⟨S512x128x16x16, .i32⟩
  | 99 => ⟨S_, .i32⟩
  | 100 => ⟨S512x128x16x16, .i32⟩
  | 101 => ⟨S512x128x16x16, .i32⟩
  | 102 => ⟨S_, .i32⟩
  | 103 => ⟨S512x128x16x16, .i32⟩
  | 104 => ⟨S512x128x16x16, .i32⟩
  | 105 => ⟨S512x128x16x16, .i32⟩
  | 106 => ⟨S512x128x16x16, .i32⟩
  | 107 => ⟨S512x128x16x16, .i32⟩
  | 108 => ⟨S_, .i32⟩
  | 109 => ⟨S512x128x16x16, .i32⟩
  | 110 => ⟨S512x128x16x16, .i32⟩
  | 111 => ⟨S_, .i32⟩
  | 112 => ⟨S512x128x16x16, .i32⟩
  | 113 => ⟨S512x128x16x16, .i32⟩
  | 114 => ⟨S512x128x16x16, .i32⟩
  | 115 => ⟨S512x128x16x16, .i32⟩
  | 116 => ⟨S512x128x16x16, .i32⟩
  | 117 => ⟨S_, .i32⟩
  | 118 => ⟨S512x128x16x16, .i32⟩
  | 119 => ⟨S512x128x16x16, .i32⟩
  | 120 => ⟨S_, .i32⟩
  | 121 => ⟨S512x128x16x16, .i32⟩
  | 122 => ⟨S512x128x16x16, .i32⟩
  | 123 => ⟨S512x128x16x16, .i32⟩
  | 124 => ⟨S512x128x16x16, .i32⟩
  | 125 => ⟨S512x128x16x16, .i32⟩
  | 126 => ⟨S_, .i32⟩
  | 127 => ⟨S512x128x16x16, .i32⟩
  | _ => ⟨S7x128x16x16, .i32⟩

abbrev hbmTy0_13 (i : Nat) : BufTy := match i % 128 with
  | 0 => ⟨S512x128x16x16, .i32⟩
  | 1 => ⟨S_, .i32⟩
  | 2 => ⟨S512x128x16x16, .i32⟩
  | 3 => ⟨S512x128x16x16, .i32⟩
  | 4 => ⟨S512x128x16x16, .i32⟩
  | 5 => ⟨S512x128x16x16, .i32⟩
  | 6 => ⟨S512x128x16x16, .i32⟩
  | 7 => ⟨S512x128x16x16, .i32⟩
  | 8 => ⟨S512x128x16x16, .i32⟩
  | 9 => ⟨S512x128x16x16, .i32⟩
  | 10 => ⟨S_, .i32⟩
  | 11 => ⟨S512x128x16x16, .i32⟩
  | 12 => ⟨S512x128x16x16, .i32⟩
  | 13 => ⟨S512x128x16x16, .i32⟩
  | 14 => ⟨S_, .i32⟩
  | 15 => ⟨S512x128x16x16, .i32⟩
  | 16 => ⟨S512x128x16x16, .i32⟩
  | 17 => ⟨S_, .i32⟩
  | 18 => ⟨S512x128x16x16, .i32⟩
  | 19 => ⟨S512x128x16x16, .i32⟩
  | 20 => ⟨S512x128x16x16, .i32⟩
  | 21 => ⟨S512x128x16x16, .i32⟩
  | 22 => ⟨S512x128x16x16, .i32⟩
  | 23 => ⟨S_, .i32⟩
  | 24 => ⟨S512x128x16x16, .i32⟩
  | 25 => ⟨S512x128x16x16, .i32⟩
  | 26 => ⟨S_, .i32⟩
  | 27 => ⟨S512x128x16x16, .i32⟩
  | 28 => ⟨S512x128x16x16, .i32⟩
  | 29 => ⟨S512x128x16x16, .i32⟩
  | 30 => ⟨S512x128x16x16, .i32⟩
  | 31 => ⟨S512x128x16x16, .i32⟩
  | 32 => ⟨S_, .i32⟩
  | 33 => ⟨S512x128x16x16, .i32⟩
  | 34 => ⟨S512x128x16x16, .i32⟩
  | 35 => ⟨S_, .i32⟩
  | 36 => ⟨S512x128x16x16, .i32⟩
  | 37 => ⟨S512x128x16x16, .i32⟩
  | 38 => ⟨S512x128x16x16, .i32⟩
  | 39 => ⟨S512x128x16x16, .i32⟩
  | 40 => ⟨S512x128x16x16, .i32⟩
  | 41 => ⟨S_, .i32⟩
  | 42 => ⟨S512x128x16x16, .i32⟩
  | 43 => ⟨S512x128x16x16, .i32⟩
  | 44 => ⟨S_, .i32⟩
  | 45 => ⟨S512x128x16x16, .i32⟩
  | 46 => ⟨S512x128x16x16, .i32⟩
  | 47 => ⟨S512x128x16x16, .i32⟩
  | 48 => ⟨S512x128x16x16, .i32⟩
  | 49 => ⟨S512x128x16x16, .i32⟩
  | 50 => ⟨S512x128x16x16, .i32⟩
  | 51 => ⟨S512x128x16x16, .i32⟩
  | 52 => ⟨S512x128x16x16, .i32⟩
  | 53 => ⟨S_, .i32⟩
  | 54 => ⟨S512x128x16x16, .i32⟩
  | 55 => ⟨S512x128x16x16, .i32⟩
  | 56 => ⟨S512x128x16x16, .i32⟩
  | 57 => ⟨S_, .i32⟩
  | 58 => ⟨S512x128x16x16, .i32⟩
  | 59 => ⟨S512x128x16x16, .i32⟩
  | 60 => ⟨S_, .i32⟩
  | 61 => ⟨S512x128x16x16, .i32⟩
  | 62 => ⟨S512x128x16x16, .i32⟩
  | 63 => ⟨S512x128x16x16, .f32⟩
  | 64 => ⟨S_, .f32⟩
  | 65 => ⟨S512x128x16x16, .f32⟩
  | 66 => ⟨S512x128x16x16, .f32⟩
  | 67 => ⟨S1x1x1x1, .f32⟩
  | 68 => ⟨S512x128x16x16, .f32⟩
  | 69 => ⟨S512x128x16x16, .f32⟩
  | 70 => ⟨S512x128x16x16, .f32⟩
  | 71 => ⟨S512x128x16x16, .f32⟩
  | 72 => ⟨S512x128x16x16, .f32⟩
  | 73 => ⟨S512x128x16x16, .f32⟩
  | 74 => ⟨S512x128x16x16, .i1⟩
  | 75 => ⟨S512x128x16x16, .f32⟩
  | 76 => ⟨S512x128x16x16, .f32⟩
  | 77 => ⟨S512x128x16x16, .f32⟩
  | 78 => ⟨S512x128x16x16, .f32⟩
  | 79 => ⟨S512x128x16x16, .f32⟩
  | 80 => ⟨S512x128x16x16, .f32⟩
  | 81 => ⟨S512x128x16x16, .f32⟩
  | 82 => ⟨S_, .f32⟩
  | 83 => ⟨S_, .f32⟩
  | 84 => ⟨S_, .f32⟩
  | 85 => ⟨S512x128x16x16, .f32⟩
  | 86 => ⟨S512x128x16x16, .f32⟩
  | 87 => ⟨S_, .f32⟩
  | 88 => ⟨S512x128x16x16, .f32⟩
  | 89 => ⟨S512x128x16x16, .f32⟩
  | 90 => ⟨S512x128x16x16, .f32⟩
  | 91 => ⟨S_, .i32⟩
  | 92 => ⟨S1, .i32⟩
  | 93 => ⟨S_, .i32⟩
  | 94 => ⟨S1, .i32⟩
  | 95 => ⟨S2, .i32⟩
  | 96 => ⟨S1x1x512x128x16x16, .f32⟩
  | _ => ⟨S7x128x16x16, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | _ => ⟨S7x128x16x16, .i32⟩

abbrev bufTy : (tb : Table) → Fin (tcTables nBuf tb) → BufTy
  | .hbm, ⟨i, _⟩ => hbmTy i
  | _, _ => ⟨S7x128x16x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c : Ref sig .tc := ⟨.hbm, 32, rfl⟩
abbrev main_call0_v5 : Ref sig .tc := ⟨.hbm, 33, rfl⟩
abbrev main_call0_v6 : Ref sig .tc := ⟨.hbm, 34, rfl⟩
abbrev main_call0_c_0 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_call0_v0 : Ref sig .tc := ⟨.hbm, 40, rfl⟩
abbrev main_call0_call0_c : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_c_0 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_c_1 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_call0_v12 : Ref sig .tc := ⟨.hbm, 55, rfl⟩
abbrev main_call0_call0_v13 : Ref sig .tc := ⟨.hbm, 56, rfl⟩
abbrev main_call0_call0_c_2 : Ref sig .tc := ⟨.hbm, 57, rfl⟩
abbrev main_call0_call0_v14 : Ref sig .tc := ⟨.hbm, 58, rfl⟩
abbrev main_call0_call0_v15 : Ref sig .tc := ⟨.hbm, 59, rfl⟩
abbrev main_call0_call0_c_3 : Ref sig .tc := ⟨.hbm, 60, rfl⟩
abbrev main_call0_call0_v16 : Ref sig .tc := ⟨.hbm, 61, rfl⟩
abbrev main_call0_call0_v17 : Ref sig .tc := ⟨.hbm, 62, rfl⟩
abbrev main_call0_call0_v18 : Ref sig .tc := ⟨.hbm, 63, rfl⟩
abbrev main_call0_call0_v19 : Ref sig .tc := ⟨.hbm, 64, rfl⟩
abbrev main_call0_call0_v20 : Ref sig .tc := ⟨.hbm, 65, rfl⟩
abbrev main_call0_call0_c_4 : Ref sig .tc := ⟨.hbm, 66, rfl⟩
abbrev main_call0_call0_v21 : Ref sig .tc := ⟨.hbm, 67, rfl⟩
abbrev main_call0_call0_v22 : Ref sig .tc := ⟨.hbm, 68, rfl⟩
abbrev main_call0_call0_c_5 : Ref sig .tc := ⟨.hbm, 69, rfl⟩
abbrev main_call0_call0_v23 : Ref sig .tc := ⟨.hbm, 70, rfl⟩
abbrev main_call0_call0_v24 : Ref sig .tc := ⟨.hbm, 71, rfl⟩
abbrev main_call0_call0_v25 : Ref sig .tc := ⟨.hbm, 72, rfl⟩
abbrev main_call0_call0_v26 : Ref sig .tc := ⟨.hbm, 73, rfl⟩
abbrev main_call0_call0_v27 : Ref sig .tc := ⟨.hbm, 74, rfl⟩
abbrev main_call0_call0_c_6 : Ref sig .tc := ⟨.hbm, 75, rfl⟩
abbrev main_call0_call0_v28 : Ref sig .tc := ⟨.hbm, 76, rfl⟩
abbrev main_call0_call0_v29 : Ref sig .tc := ⟨.hbm, 77, rfl⟩
abbrev main_call0_call0_c_7 : Ref sig .tc := ⟨.hbm, 78, rfl⟩
abbrev main_call0_call0_v30 : Ref sig .tc := ⟨.hbm, 79, rfl⟩
abbrev main_call0_call0_v31 : Ref sig .tc := ⟨.hbm, 80, rfl⟩
abbrev main_call0_call0_v32 : Ref sig .tc := ⟨.hbm, 81, rfl⟩
abbrev main_call0_call0_v33 : Ref sig .tc := ⟨.hbm, 82, rfl⟩
abbrev main_call0_call0_v34 : Ref sig .tc := ⟨.hbm, 83, rfl⟩
abbrev main_call0_call0_v35 : Ref sig .tc := ⟨.hbm, 84, rfl⟩
abbrev main_call0_call0_v36 : Ref sig .tc := ⟨.hbm, 85, rfl⟩
abbrev main_call0_call0_v37 : Ref sig .tc := ⟨.hbm, 86, rfl⟩
abbrev main_call0_call0_c_8 : Ref sig .tc := ⟨.hbm, 87, rfl⟩
abbrev main_call0_call0_v38 : Ref sig .tc := ⟨.hbm, 88, rfl⟩
abbrev main_call0_call0_v39 : Ref sig .tc := ⟨.hbm, 89, rfl⟩
abbrev main_call0_call0_v40 : Ref sig .tc := ⟨.hbm, 90, rfl⟩
abbrev main_call0_call0_c_9 : Ref sig .tc := ⟨.hbm, 91, rfl⟩
abbrev main_call0_call0_v41 : Ref sig .tc := ⟨.hbm, 92, rfl⟩
abbrev main_call0_call0_v42 : Ref sig .tc := ⟨.hbm, 93, rfl⟩
abbrev main_call0_call0_c_10 : Ref sig .tc := ⟨.hbm, 94, rfl⟩
abbrev main_call0_call0_v43 : Ref sig .tc := ⟨.hbm, 95, rfl⟩
abbrev main_call0_call0_v44 : Ref sig .tc := ⟨.hbm, 96, rfl⟩
abbrev main_call0_call0_v45 : Ref sig .tc := ⟨.hbm, 97, rfl⟩
abbrev main_call0_call0_v46 : Ref sig .tc := ⟨.hbm, 98, rfl⟩
abbrev main_call0_call0_v47 : Ref sig .tc := ⟨.hbm, 99, rfl⟩
abbrev main_call0_call0_c_11 : Ref sig .tc := ⟨.hbm, 100, rfl⟩
abbrev main_call0_call0_v48 : Ref sig .tc := ⟨.hbm, 101, rfl⟩
abbrev main_call0_call0_v49 : Ref sig .tc := ⟨.hbm, 102, rfl⟩
abbrev main_call0_call0_c_12 : Ref sig .tc := ⟨.hbm, 103, rfl⟩
abbrev main_call0_call0_v50 : Ref sig .tc := ⟨.hbm, 104, rfl⟩
abbrev main_call0_call0_v51 : Ref sig .tc := ⟨.hbm, 105, rfl⟩
abbrev main_call0_call0_v52 : Ref sig .tc := ⟨.hbm, 106, rfl⟩
abbrev main_call0_call0_v53 : Ref sig .tc := ⟨.hbm, 107, rfl⟩
abbrev main_call0_call0_v54 : Ref sig .tc := ⟨.hbm, 108, rfl⟩
abbrev main_call0_call0_c_13 : Ref sig .tc := ⟨.hbm, 109, rfl⟩
abbrev main_call0_call0_v55 : Ref sig .tc := ⟨.hbm, 110, rfl⟩
abbrev main_call0_call0_v56 : Ref sig .tc := ⟨.hbm, 111, rfl⟩
abbrev main_call0_call0_c_14 : Ref sig .tc := ⟨.hbm, 112, rfl⟩
abbrev main_call0_call0_v57 : Ref sig .tc := ⟨.hbm, 113, rfl⟩
abbrev main_call0_call0_v58 : Ref sig .tc := ⟨.hbm, 114, rfl⟩
abbrev main_call0_call0_v59 : Ref sig .tc := ⟨.hbm, 115, rfl⟩
abbrev main_call0_call0_v60 : Ref sig .tc := ⟨.hbm, 116, rfl⟩
abbrev main_call0_call0_v61 : Ref sig .tc := ⟨.hbm, 117, rfl⟩
abbrev main_call0_call0_c_15 : Ref sig .tc := ⟨.hbm, 118, rfl⟩
abbrev main_call0_call0_v62 : Ref sig .tc := ⟨.hbm, 119, rfl⟩
abbrev main_call0_call0_v63 : Ref sig .tc := ⟨.hbm, 120, rfl⟩
abbrev main_call0_call0_c_16 : Ref sig .tc := ⟨.hbm, 121, rfl⟩
abbrev main_call0_call0_v64 : Ref sig .tc := ⟨.hbm, 122, rfl⟩
abbrev main_call0_call0_v65 : Ref sig .tc := ⟨.hbm, 123, rfl⟩
abbrev main_call0_call0_v66 : Ref sig .tc := ⟨.hbm, 124, rfl⟩
abbrev main_call0_call0_v67 : Ref sig .tc := ⟨.hbm, 125, rfl⟩
abbrev main_call0_call0_v68 : Ref sig .tc := ⟨.hbm, 126, rfl⟩
abbrev main_call0_call0_v69 : Ref sig .tc := ⟨.hbm, 127, rfl⟩
abbrev main_call0_call0_v70 : Ref sig .tc := ⟨.hbm, 128, rfl⟩
abbrev main_call0_call0_v71 : Ref sig .tc := ⟨.hbm, 129, rfl⟩
abbrev main_call0_call0_c_17 : Ref sig .tc := ⟨.hbm, 130, rfl⟩
abbrev main_call0_call0_v72 : Ref sig .tc := ⟨.hbm, 131, rfl⟩
abbrev main_call0_call0_v73 : Ref sig .tc := ⟨.hbm, 132, rfl⟩
abbrev main_call0_call0_v74 : Ref sig .tc := ⟨.hbm, 133, rfl⟩
abbrev main_call0_call0_c_18 : Ref sig .tc := ⟨.hbm, 134, rfl⟩
abbrev main_call0_call0_v75 : Ref sig .tc := ⟨.hbm, 135, rfl⟩
abbrev main_call0_call0_v76 : Ref sig .tc := ⟨.hbm, 136, rfl⟩
abbrev main_call0_call0_c_19 : Ref sig .tc := ⟨.hbm, 137, rfl⟩
abbrev main_call0_call0_v77 : Ref sig .tc := ⟨.hbm, 138, rfl⟩
abbrev main_call0_call0_v78 : Ref sig .tc := ⟨.hbm, 139, rfl⟩
abbrev main_call0_call0_v79 : Ref sig .tc := ⟨.hbm, 140, rfl⟩
abbrev main_call0_call0_v80 : Ref sig .tc := ⟨.hbm, 141, rfl⟩
abbrev main_call0_call0_v81 : Ref sig .tc := ⟨.hbm, 142, rfl⟩
abbrev main_call0_call0_c_20 : Ref sig .tc := ⟨.hbm, 143, rfl⟩
abbrev main_call0_call0_v82 : Ref sig .tc := ⟨.hbm, 144, rfl⟩
abbrev main_call0_call0_v83 : Ref sig .tc := ⟨.hbm, 145, rfl⟩
abbrev main_call0_call0_c_21 : Ref sig .tc := ⟨.hbm, 146, rfl⟩
abbrev main_call0_call0_v84 : Ref sig .tc := ⟨.hbm, 147, rfl⟩
abbrev main_call0_call0_v85 : Ref sig .tc := ⟨.hbm, 148, rfl⟩
abbrev main_call0_call0_v86 : Ref sig .tc := ⟨.hbm, 149, rfl⟩
abbrev main_call0_call0_v87 : Ref sig .tc := ⟨.hbm, 150, rfl⟩
abbrev main_call0_call0_v88 : Ref sig .tc := ⟨.hbm, 151, rfl⟩
abbrev main_call0_call0_c_22 : Ref sig .tc := ⟨.hbm, 152, rfl⟩
abbrev main_call0_call0_v89 : Ref sig .tc := ⟨.hbm, 153, rfl⟩
abbrev main_call0_call0_v90 : Ref sig .tc := ⟨.hbm, 154, rfl⟩
abbrev main_call0_call0_c_23 : Ref sig .tc := ⟨.hbm, 155, rfl⟩
abbrev main_call0_call0_v91 : Ref sig .tc := ⟨.hbm, 156, rfl⟩
abbrev main_call0_call0_v92 : Ref sig .tc := ⟨.hbm, 157, rfl⟩
abbrev main_call0_call0_v93 : Ref sig .tc := ⟨.hbm, 158, rfl⟩
abbrev main_call0_call0_v94 : Ref sig .tc := ⟨.hbm, 159, rfl⟩
abbrev main_call0_call0_v95 : Ref sig .tc := ⟨.hbm, 160, rfl⟩
abbrev main_call0_call0_c_24 : Ref sig .tc := ⟨.hbm, 161, rfl⟩
abbrev main_call0_call0_v96 : Ref sig .tc := ⟨.hbm, 162, rfl⟩
abbrev main_call0_call0_v97 : Ref sig .tc := ⟨.hbm, 163, rfl⟩
abbrev main_call0_call0_c_25 : Ref sig .tc := ⟨.hbm, 164, rfl⟩
abbrev main_call0_call0_v98 : Ref sig .tc := ⟨.hbm, 165, rfl⟩
abbrev main_call0_call0_v99 : Ref sig .tc := ⟨.hbm, 166, rfl⟩
abbrev main_call0_call0_v100 : Ref sig .tc := ⟨.hbm, 167, rfl⟩
abbrev main_call0_call0_v101 : Ref sig .tc := ⟨.hbm, 168, rfl⟩
abbrev main_call0_call0_v102 : Ref sig .tc := ⟨.hbm, 169, rfl⟩
abbrev main_call0_call0_v103 : Ref sig .tc := ⟨.hbm, 170, rfl⟩
abbrev main_call0_call0_v104 : Ref sig .tc := ⟨.hbm, 171, rfl⟩
abbrev main_call0_call0_v105 : Ref sig .tc := ⟨.hbm, 172, rfl⟩
abbrev main_call0_call0_c_26 : Ref sig .tc := ⟨.hbm, 173, rfl⟩
abbrev main_call0_call0_v106 : Ref sig .tc := ⟨.hbm, 174, rfl⟩
abbrev main_call0_call0_v107 : Ref sig .tc := ⟨.hbm, 175, rfl⟩
abbrev main_call0_call0_v108 : Ref sig .tc := ⟨.hbm, 176, rfl⟩
abbrev main_call0_call0_c_27 : Ref sig .tc := ⟨.hbm, 177, rfl⟩
abbrev main_call0_call0_v109 : Ref sig .tc := ⟨.hbm, 178, rfl⟩
abbrev main_call0_call0_v110 : Ref sig .tc := ⟨.hbm, 179, rfl⟩
abbrev main_call0_call0_c_28 : Ref sig .tc := ⟨.hbm, 180, rfl⟩
abbrev main_call0_call0_v111 : Ref sig .tc := ⟨.hbm, 181, rfl⟩
abbrev main_call0_call0_v112 : Ref sig .tc := ⟨.hbm, 182, rfl⟩
abbrev main_call0_call0_v113 : Ref sig .tc := ⟨.hbm, 183, rfl⟩
abbrev main_call0_call0_v114 : Ref sig .tc := ⟨.hbm, 184, rfl⟩
abbrev main_call0_call0_v115 : Ref sig .tc := ⟨.hbm, 185, rfl⟩
abbrev main_call0_call0_c_29 : Ref sig .tc := ⟨.hbm, 186, rfl⟩
abbrev main_call0_call0_v116 : Ref sig .tc := ⟨.hbm, 187, rfl⟩
abbrev main_call0_call0_v117 : Ref sig .tc := ⟨.hbm, 188, rfl⟩
abbrev main_call0_call0_c_30 : Ref sig .tc := ⟨.hbm, 189, rfl⟩
abbrev main_call0_call0_v118 : Ref sig .tc := ⟨.hbm, 190, rfl⟩
abbrev main_call0_call0_v119 : Ref sig .tc := ⟨.hbm, 191, rfl⟩
abbrev main_call0_call0_v120 : Ref sig .tc := ⟨.hbm, 192, rfl⟩
abbrev main_call0_call0_v121 : Ref sig .tc := ⟨.hbm, 193, rfl⟩
abbrev main_call0_call0_v122 : Ref sig .tc := ⟨.hbm, 194, rfl⟩
abbrev main_call0_call0_c_31 : Ref sig .tc := ⟨.hbm, 195, rfl⟩
abbrev main_call0_call0_v123 : Ref sig .tc := ⟨.hbm, 196, rfl⟩
abbrev main_call0_call0_v124 : Ref sig .tc := ⟨.hbm, 197, rfl⟩
abbrev main_call0_call0_c_32 : Ref sig .tc := ⟨.hbm, 198, rfl⟩
abbrev main_call0_call0_v125 : Ref sig .tc := ⟨.hbm, 199, rfl⟩
abbrev main_call0_call0_v126 : Ref sig .tc := ⟨.hbm, 200, rfl⟩
abbrev main_call0_call0_v127 : Ref sig .tc := ⟨.hbm, 201, rfl⟩
abbrev main_call0_call0_v128 : Ref sig .tc := ⟨.hbm, 202, rfl⟩
abbrev main_call0_call0_v129 : Ref sig .tc := ⟨.hbm, 203, rfl⟩
abbrev main_call0_call0_c_33 : Ref sig .tc := ⟨.hbm, 204, rfl⟩
abbrev main_call0_call0_v130 : Ref sig .tc := ⟨.hbm, 205, rfl⟩
abbrev main_call0_call0_v131 : Ref sig .tc := ⟨.hbm, 206, rfl⟩
abbrev main_call0_call0_c_34 : Ref sig .tc := ⟨.hbm, 207, rfl⟩
abbrev main_call0_call0_v132 : Ref sig .tc := ⟨.hbm, 208, rfl⟩
abbrev main_call0_call0_v133 : Ref sig .tc := ⟨.hbm, 209, rfl⟩
abbrev main_call0_call0_v134 : Ref sig .tc := ⟨.hbm, 210, rfl⟩
abbrev main_call0_call0_v135 : Ref sig .tc := ⟨.hbm, 211, rfl⟩
abbrev main_call0_call0_v136 : Ref sig .tc := ⟨.hbm, 212, rfl⟩
abbrev main_call0_call0_v137 : Ref sig .tc := ⟨.hbm, 213, rfl⟩
abbrev main_call0_call0_v138 : Ref sig .tc := ⟨.hbm, 214, rfl⟩
abbrev main_call0_call0_v139 : Ref sig .tc := ⟨.hbm, 215, rfl⟩
abbrev main_call0_call0_c_35 : Ref sig .tc := ⟨.hbm, 216, rfl⟩
abbrev main_call0_call0_v140 : Ref sig .tc := ⟨.hbm, 217, rfl⟩
abbrev main_call0_call0_v141 : Ref sig .tc := ⟨.hbm, 218, rfl⟩
abbrev main_call0_call0_v142 : Ref sig .tc := ⟨.hbm, 219, rfl⟩
abbrev main_call0_call0_c_36 : Ref sig .tc := ⟨.hbm, 220, rfl⟩
abbrev main_call0_call0_v143 : Ref sig .tc := ⟨.hbm, 221, rfl⟩
abbrev main_call0_call0_v144 : Ref sig .tc := ⟨.hbm, 222, rfl⟩
abbrev main_call0_call0_c_37 : Ref sig .tc := ⟨.hbm, 223, rfl⟩
abbrev main_call0_call0_v145 : Ref sig .tc := ⟨.hbm, 224, rfl⟩
abbrev main_call0_call0_v146 : Ref sig .tc := ⟨.hbm, 225, rfl⟩
abbrev main_call0_call0_v147 : Ref sig .tc := ⟨.hbm, 226, rfl⟩
abbrev main_call0_call0_v148 : Ref sig .tc := ⟨.hbm, 227, rfl⟩
abbrev main_call0_call0_v149 : Ref sig .tc := ⟨.hbm, 228, rfl⟩
abbrev main_call0_call0_c_38 : Ref sig .tc := ⟨.hbm, 229, rfl⟩
abbrev main_call0_call0_v150 : Ref sig .tc := ⟨.hbm, 230, rfl⟩
abbrev main_call0_call0_v151 : Ref sig .tc := ⟨.hbm, 231, rfl⟩
abbrev main_call0_call0_c_39 : Ref sig .tc := ⟨.hbm, 232, rfl⟩
abbrev main_call0_call0_v152 : Ref sig .tc := ⟨.hbm, 233, rfl⟩
abbrev main_call0_call0_v153 : Ref sig .tc := ⟨.hbm, 234, rfl⟩
abbrev main_call0_call0_v154 : Ref sig .tc := ⟨.hbm, 235, rfl⟩
abbrev main_call0_call0_v155 : Ref sig .tc := ⟨.hbm, 236, rfl⟩
abbrev main_call0_call0_v156 : Ref sig .tc := ⟨.hbm, 237, rfl⟩
abbrev main_call0_call0_c_40 : Ref sig .tc := ⟨.hbm, 238, rfl⟩
abbrev main_call0_call0_v157 : Ref sig .tc := ⟨.hbm, 239, rfl⟩
abbrev main_call0_call0_v158 : Ref sig .tc := ⟨.hbm, 240, rfl⟩
abbrev main_call0_call0_c_41 : Ref sig .tc := ⟨.hbm, 241, rfl⟩
abbrev main_call0_call0_v159 : Ref sig .tc := ⟨.hbm, 242, rfl⟩
abbrev main_call0_call0_v160 : Ref sig .tc := ⟨.hbm, 243, rfl⟩
abbrev main_call0_call0_v161 : Ref sig .tc := ⟨.hbm, 244, rfl⟩
abbrev main_call0_call0_v162 : Ref sig .tc := ⟨.hbm, 245, rfl⟩
abbrev main_call0_call0_v163 : Ref sig .tc := ⟨.hbm, 246, rfl⟩
abbrev main_call0_call0_c_42 : Ref sig .tc := ⟨.hbm, 247, rfl⟩
abbrev main_call0_call0_v164 : Ref sig .tc := ⟨.hbm, 248, rfl⟩
abbrev main_call0_call0_v165 : Ref sig .tc := ⟨.hbm, 249, rfl⟩
abbrev main_call0_call0_c_43 : Ref sig .tc := ⟨.hbm, 250, rfl⟩
abbrev main_call0_call0_v166 : Ref sig .tc := ⟨.hbm, 251, rfl⟩
abbrev main_call0_call0_v167 : Ref sig .tc := ⟨.hbm, 252, rfl⟩
abbrev main_call0_call0_v168 : Ref sig .tc := ⟨.hbm, 253, rfl⟩
abbrev main_call0_call0_v169 : Ref sig .tc := ⟨.hbm, 254, rfl⟩
abbrev main_call0_call0_v170 : Ref sig .tc := ⟨.hbm, 255, rfl⟩
abbrev main_call0_v11_0 : Ref sig .tc := ⟨.hbm, 256, rfl⟩
abbrev main_call0_call0_v172 : Ref sig .tc := ⟨.hbm, 257, rfl⟩
abbrev main_call0_call0_v173 : Ref sig .tc := ⟨.hbm, 258, rfl⟩
abbrev main_call0_call0_c_44 : Ref sig .tc := ⟨.hbm, 259, rfl⟩
abbrev main_call0_call0_v174 : Ref sig .tc := ⟨.hbm, 260, rfl⟩
abbrev main_call0_v11_1 : Ref sig .tc := ⟨.hbm, 261, rfl⟩
abbrev main_call0_v12 : Ref sig .tc := ⟨.hbm, 262, rfl⟩
abbrev main_call0_v13 : Ref sig .tc := ⟨.hbm, 263, rfl⟩
abbrev main_v17 : Ref sig .tc := ⟨.hbm, 264, rfl⟩
abbrev main_v18 : Ref sig .tc := ⟨.hbm, 265, rfl⟩
abbrev main_v19 : Ref sig .tc := ⟨.hbm, 266, rfl⟩
abbrev main_v20 : Ref sig .tc := ⟨.hbm, 267, rfl⟩
abbrev main_v21 : Ref sig .tc := ⟨.hbm, 268, rfl⟩
abbrev main_v22 : Ref sig .tc := ⟨.hbm, 269, rfl⟩
abbrev main_v23 : Ref sig .tc := ⟨.hbm, 270, rfl⟩
abbrev main_v24 : Ref sig .tc := ⟨.hbm, 271, rfl⟩
abbrev main_v25 : Ref sig .tc := ⟨.hbm, 272, rfl⟩
abbrev main_v26 : Ref sig .tc := ⟨.hbm, 273, rfl⟩
abbrev main_v27 : Ref sig .tc := ⟨.hbm, 274, rfl⟩
abbrev main_v28 : Ref sig .tc := ⟨.hbm, 275, rfl⟩
abbrev main_v29 : Ref sig .tc := ⟨.hbm, 276, rfl⟩
abbrev main_v30 : Ref sig .tc := ⟨.hbm, 277, rfl⟩
abbrev main_v31 : Ref sig .tc := ⟨.hbm, 278, rfl⟩
abbrev main_v32 : Ref sig .tc := ⟨.hbm, 279, rfl⟩
abbrev main_v33 : Ref sig .tc := ⟨.hbm, 280, rfl⟩
abbrev main_v34 : Ref sig .tc := ⟨.hbm, 281, rfl⟩
abbrev main_cst_5 : Ref sig .tc := ⟨.hbm, 282, rfl⟩
abbrev main_v35 : Ref sig .tc := ⟨.hbm, 283, rfl⟩
abbrev main_v36 : Ref sig .tc := ⟨.hbm, 284, rfl⟩
abbrev main_cst_6 : Ref sig .tc := ⟨.hbm, 285, rfl⟩
abbrev main_v37 : Ref sig .tc := ⟨.hbm, 286, rfl⟩
abbrev main_v38 : Ref sig .tc := ⟨.hbm, 287, rfl⟩
abbrev main_v39 : Ref sig .tc := ⟨.hbm, 288, rfl⟩
abbrev main_v40 : Ref sig .tc := ⟨.hbm, 289, rfl⟩
abbrev main_v41 : Ref sig .tc := ⟨.hbm, 290, rfl⟩
abbrev main_v42 : Ref sig .tc := ⟨.hbm, 291, rfl⟩
abbrev main_v43 : Ref sig .tc := ⟨.hbm, 292, rfl⟩
abbrev main_v44 : Ref sig .tc := ⟨.hbm, 293, rfl⟩
abbrev main_v45 : Ref sig .tc := ⟨.hbm, 294, rfl⟩
abbrev main_cst_7 : Ref sig .tc := ⟨.hbm, 295, rfl⟩
abbrev main_cst_8 : Ref sig .tc := ⟨.hbm, 296, rfl⟩
abbrev main_call1_v0 : Ref sig .tc := ⟨.hbm, 297, rfl⟩
abbrev main_call1_v1 : Ref sig .tc := ⟨.hbm, 298, rfl⟩
abbrev main_v46 : Ref sig .tc := ⟨.hbm, 299, rfl⟩
abbrev main_v47 : Ref sig .tc := ⟨.hbm, 300, rfl⟩
abbrev main_v48 : Ref sig .tc := ⟨.hbm, 301, rfl⟩
abbrev main_cst_9 : Ref sig .tc := ⟨.hbm, 302, rfl⟩
abbrev main_cst_10 : Ref sig .tc := ⟨.hbm, 303, rfl⟩
abbrev main_call2_v0 : Ref sig .tc := ⟨.hbm, 304, rfl⟩
abbrev main_call2_v1 : Ref sig .tc := ⟨.hbm, 305, rfl⟩
abbrev main_v49 : Ref sig .tc := ⟨.hbm, 306, rfl⟩
abbrev main_v50 : Ref sig .tc := ⟨.hbm, 307, rfl⟩
abbrev main_v51 : Ref sig .tc := ⟨.hbm, 308, rfl⟩
abbrev main_v52 : Ref sig .tc := ⟨.hbm, 309, rfl⟩
abbrev main_v53 : Ref sig .tc := ⟨.hbm, 310, rfl⟩
abbrev main_v54 : Ref sig .tc := ⟨.hbm, 311, rfl⟩
abbrev main_cst_11 : Ref sig .tc := ⟨.hbm, 312, rfl⟩
abbrev main_cst_12 : Ref sig .tc := ⟨.hbm, 313, rfl⟩
abbrev main_call3_v0 : Ref sig .tc := ⟨.hbm, 314, rfl⟩
abbrev main_call3_v1 : Ref sig .tc := ⟨.hbm, 315, rfl⟩
abbrev main_v55 : Ref sig .tc := ⟨.hbm, 316, rfl⟩
abbrev main_v56 : Ref sig .tc := ⟨.hbm, 317, rfl⟩
abbrev main_v57 : Ref sig .tc := ⟨.hbm, 318, rfl⟩
abbrev main_cst_13 : Ref sig .tc := ⟨.hbm, 319, rfl⟩
abbrev main_cst_14 : Ref sig .tc := ⟨.hbm, 320, rfl⟩
abbrev main_call4_v0 : Ref sig .tc := ⟨.hbm, 321, rfl⟩
abbrev main_call4_v1 : Ref sig .tc := ⟨.hbm, 322, rfl⟩
abbrev main_v58 : Ref sig .tc := ⟨.hbm, 323, rfl⟩
abbrev main_v59 : Ref sig .tc := ⟨.hbm, 324, rfl⟩
abbrev main_v60 : Ref sig .tc := ⟨.hbm, 325, rfl⟩
abbrev main_call5_cst : Ref sig .tc := ⟨.hbm, 326, rfl⟩
abbrev main_call5_cst_0 : Ref sig .tc := ⟨.hbm, 327, rfl⟩
abbrev main_call5_call0_v0 : Ref sig .tc := ⟨.hbm, 328, rfl⟩
abbrev main_call5_call0_v1 : Ref sig .tc := ⟨.hbm, 329, rfl⟩
abbrev main_call5_call0_v2 : Ref sig .tc := ⟨.hbm, 330, rfl⟩
abbrev main_call5_call0_v3 : Ref sig .tc := ⟨.hbm, 331, rfl⟩
abbrev main_call5_call0_v4 : Ref sig .tc := ⟨.hbm, 332, rfl⟩
abbrev main_call5_call0_v5 : Ref sig .tc := ⟨.hbm, 333, rfl⟩
abbrev main_call5_call0_v6 : Ref sig .tc := ⟨.hbm, 334, rfl⟩
abbrev main_call5_call0_v7 : Ref sig .tc := ⟨.hbm, 335, rfl⟩
abbrev main_call5_call0_v8 : Ref sig .tc := ⟨.hbm, 336, rfl⟩
abbrev main_call5_call0_v9 : Ref sig .tc := ⟨.hbm, 337, rfl⟩
abbrev main_call5_call0_v10 : Ref sig .tc := ⟨.hbm, 338, rfl⟩
abbrev main_call5_call0_v11 : Ref sig .tc := ⟨.hbm, 339, rfl⟩
abbrev main_call5_call0_c : Ref sig .tc := ⟨.hbm, 340, rfl⟩
abbrev main_call5_call0_v12 : Ref sig .tc := ⟨.hbm, 341, rfl⟩
abbrev main_call5_call0_v13 : Ref sig .tc := ⟨.hbm, 342, rfl⟩
abbrev main_call5_call0_c_0 : Ref sig .tc := ⟨.hbm, 343, rfl⟩
abbrev main_call5_call0_v14 : Ref sig .tc := ⟨.hbm, 344, rfl⟩
abbrev main_call5_call0_v15 : Ref sig .tc := ⟨.hbm, 345, rfl⟩
abbrev main_call5_call0_c_1 : Ref sig .tc := ⟨.hbm, 346, rfl⟩
abbrev main_call5_call0_v16 : Ref sig .tc := ⟨.hbm, 347, rfl⟩
abbrev main_call5_call0_v17 : Ref sig .tc := ⟨.hbm, 348, rfl⟩
abbrev main_call5_call0_c_2 : Ref sig .tc := ⟨.hbm, 349, rfl⟩
abbrev main_call5_call0_v18 : Ref sig .tc := ⟨.hbm, 350, rfl⟩
abbrev main_call5_call0_v19 : Ref sig .tc := ⟨.hbm, 351, rfl⟩
abbrev main_call5_call0_v20 : Ref sig .tc := ⟨.hbm, 352, rfl⟩
abbrev main_call5_call0_v21 : Ref sig .tc := ⟨.hbm, 353, rfl⟩
abbrev main_call5_call0_v22 : Ref sig .tc := ⟨.hbm, 354, rfl⟩
abbrev main_call5_call0_c_3 : Ref sig .tc := ⟨.hbm, 355, rfl⟩
abbrev main_call5_call0_v23 : Ref sig .tc := ⟨.hbm, 356, rfl⟩
abbrev main_call5_call0_v24 : Ref sig .tc := ⟨.hbm, 357, rfl⟩
abbrev main_call5_call0_v25 : Ref sig .tc := ⟨.hbm, 358, rfl⟩
abbrev main_call5_call0_v26 : Ref sig .tc := ⟨.hbm, 359, rfl⟩
abbrev main_call5_call0_call0_v0 : Ref sig .tc := ⟨.hbm, 360, rfl⟩
abbrev main_call5_call0_call0_c : Ref sig .tc := ⟨.hbm, 361, rfl⟩
abbrev main_call5_call0_call0_v1 : Ref sig .tc := ⟨.hbm, 362, rfl⟩
abbrev main_call5_call0_call0_v2 : Ref sig .tc := ⟨.hbm, 363, rfl⟩
abbrev main_call5_call0_call0_v3 : Ref sig .tc := ⟨.hbm, 364, rfl⟩
abbrev main_call5_call0_call0_v4 : Ref sig .tc := ⟨.hbm, 365, rfl⟩
abbrev main_call5_call0_call0_v5 : Ref sig .tc := ⟨.hbm, 366, rfl⟩
abbrev main_call5_call0_call0_v6 : Ref sig .tc := ⟨.hbm, 367, rfl⟩
abbrev main_call5_call0_call0_c_0 : Ref sig .tc := ⟨.hbm, 368, rfl⟩
abbrev main_call5_call0_call0_v7 : Ref sig .tc := ⟨.hbm, 369, rfl⟩
abbrev main_call5_call0_call0_v8 : Ref sig .tc := ⟨.hbm, 370, rfl⟩
abbrev main_call5_call0_call0_c_1 : Ref sig .tc := ⟨.hbm, 371, rfl⟩
abbrev main_call5_call0_call0_v9 : Ref sig .tc := ⟨.hbm, 372, rfl⟩
abbrev main_call5_call0_call0_v10 : Ref sig .tc := ⟨.hbm, 373, rfl⟩
abbrev main_call5_call0_call0_v11 : Ref sig .tc := ⟨.hbm, 374, rfl⟩
abbrev main_call5_call0_call0_v12 : Ref sig .tc := ⟨.hbm, 375, rfl⟩
abbrev main_call5_call0_call0_v13 : Ref sig .tc := ⟨.hbm, 376, rfl⟩
abbrev main_call5_call0_call0_c_2 : Ref sig .tc := ⟨.hbm, 377, rfl⟩
abbrev main_call5_call0_call0_v14 : Ref sig .tc := ⟨.hbm, 378, rfl⟩
abbrev main_call5_call0_call0_v15 : Ref sig .tc := ⟨.hbm, 379, rfl⟩
abbrev main_call5_call0_call0_c_3 : Ref sig .tc := ⟨.hbm, 380, rfl⟩
abbrev main_call5_call0_call0_v16 : Ref sig .tc := ⟨.hbm, 381, rfl⟩
abbrev main_call5_call0_call0_v17 : Ref sig .tc := ⟨.hbm, 382, rfl⟩
abbrev main_call5_call0_call0_v18 : Ref sig .tc := ⟨.hbm, 383, rfl⟩
abbrev main_call5_call0_call0_v19 : Ref sig .tc := ⟨.hbm, 384, rfl⟩
abbrev main_call5_call0_call0_v20 : Ref sig .tc := ⟨.hbm, 385, rfl⟩
abbrev main_call5_call0_call0_c_4 : Ref sig .tc := ⟨.hbm, 386, rfl⟩
abbrev main_call5_call0_call0_v21 : Ref sig .tc := ⟨.hbm, 387, rfl⟩
abbrev main_call5_call0_call0_v22 : Ref sig .tc := ⟨.hbm, 388, rfl⟩
abbrev main_call5_call0_call0_c_5 : Ref sig .tc := ⟨.hbm, 389, rfl⟩
abbrev main_call5_call0_call0_v23 : Ref sig .tc := ⟨.hbm, 390, rfl⟩
abbrev main_call5_call0_call0_v24 : Ref sig .tc := ⟨.hbm, 391, rfl⟩
abbrev main_call5_call0_call0_v25 : Ref sig .tc := ⟨.hbm, 392, rfl⟩
abbrev main_call5_call0_call0_v26 : Ref sig .tc := ⟨.hbm, 393, rfl⟩
abbrev main_call5_call0_call0_v27 : Ref sig .tc := ⟨.hbm, 394, rfl⟩
abbrev main_call5_call0_call0_c_6 : Ref sig .tc := ⟨.hbm, 395, rfl⟩
abbrev main_call5_call0_call0_v28 : Ref sig .tc := ⟨.hbm, 396, rfl⟩
abbrev main_call5_call0_call0_v29 : Ref sig .tc := ⟨.hbm, 397, rfl⟩
abbrev main_call5_call0_call0_c_7 : Ref sig .tc := ⟨.hbm, 398, rfl⟩
abbrev main_call5_call0_call0_v30 : Ref sig .tc := ⟨.hbm, 399, rfl⟩
abbrev main_call5_call0_call0_v31 : Ref sig .tc := ⟨.hbm, 400, rfl⟩
abbrev main_call5_call0_call0_v32 : Ref sig .tc := ⟨.hbm, 401, rfl⟩
abbrev main_call5_call0_call0_v33 : Ref sig .tc := ⟨.hbm, 402, rfl⟩
abbrev main_call5_call0_call0_v34 : Ref sig .tc := ⟨.hbm, 403, rfl⟩
abbrev main_call5_call0_call0_v35 : Ref sig .tc := ⟨.hbm, 404, rfl⟩
abbrev main_call5_call0_call0_v36 : Ref sig .tc := ⟨.hbm, 405, rfl⟩
abbrev main_call5_call0_call0_v37 : Ref sig .tc := ⟨.hbm, 406, rfl⟩
abbrev main_call5_call0_call0_c_8 : Ref sig .tc := ⟨.hbm, 407, rfl⟩
abbrev main_call5_call0_call0_v38 : Ref sig .tc := ⟨.hbm, 408, rfl⟩
abbrev main_call5_call0_call0_v39 : Ref sig .tc := ⟨.hbm, 409, rfl⟩
abbrev main_call5_call0_call0_v40 : Ref sig .tc := ⟨.hbm, 410, rfl⟩
abbrev main_call5_call0_call0_c_9 : Ref sig .tc := ⟨.hbm, 411, rfl⟩
abbrev main_call5_call0_call0_v41 : Ref sig .tc := ⟨.hbm, 412, rfl⟩
abbrev main_call5_call0_call0_v42 : Ref sig .tc := ⟨.hbm, 413, rfl⟩
abbrev main_call5_call0_call0_c_10 : Ref sig .tc := ⟨.hbm, 414, rfl⟩
abbrev main_call5_call0_call0_v43 : Ref sig .tc := ⟨.hbm, 415, rfl⟩
abbrev main_call5_call0_call0_v44 : Ref sig .tc := ⟨.hbm, 416, rfl⟩
abbrev main_call5_call0_call0_v45 : Ref sig .tc := ⟨.hbm, 417, rfl⟩
abbrev main_call5_call0_call0_v46 : Ref sig .tc := ⟨.hbm, 418, rfl⟩
abbrev main_call5_call0_call0_v47 : Ref sig .tc := ⟨.hbm, 419, rfl⟩
abbrev main_call5_call0_call0_c_11 : Ref sig .tc := ⟨.hbm, 420, rfl⟩
abbrev main_call5_call0_call0_v48 : Ref sig .tc := ⟨.hbm, 421, rfl⟩
abbrev main_call5_call0_call0_v49 : Ref sig .tc := ⟨.hbm, 422, rfl⟩
abbrev main_call5_call0_call0_c_12 : Ref sig .tc := ⟨.hbm, 423, rfl⟩
abbrev main_call5_call0_call0_v50 : Ref sig .tc := ⟨.hbm, 424, rfl⟩
abbrev main_call5_call0_call0_v51 : Ref sig .tc := ⟨.hbm, 425, rfl⟩
abbrev main_call5_call0_call0_v52 : Ref sig .tc := ⟨.hbm, 426, rfl⟩
abbrev main_call5_call0_call0_v53 : Ref sig .tc := ⟨.hbm, 427, rfl⟩
abbrev main_call5_call0_call0_v54 : Ref sig .tc := ⟨.hbm, 428, rfl⟩
abbrev main_call5_call0_call0_c_13 : Ref sig .tc := ⟨.hbm, 429, rfl⟩
abbrev main_call5_call0_call0_v55 : Ref sig .tc := ⟨.hbm, 430, rfl⟩
abbrev main_call5_call0_call0_v56 : Ref sig .tc := ⟨.hbm, 431, rfl⟩
abbrev main_call5_call0_call0_c_14 : Ref sig .tc := ⟨.hbm, 432, rfl⟩
abbrev main_call5_call0_call0_v57 : Ref sig .tc := ⟨.hbm, 433, rfl⟩
abbrev main_call5_call0_call0_v58 : Ref sig .tc := ⟨.hbm, 434, rfl⟩
abbrev main_call5_call0_call0_v59 : Ref sig .tc := ⟨.hbm, 435, rfl⟩
abbrev main_call5_call0_call0_v60 : Ref sig .tc := ⟨.hbm, 436, rfl⟩
abbrev main_call5_call0_call0_v61 : Ref sig .tc := ⟨.hbm, 437, rfl⟩
abbrev main_call5_call0_call0_c_15 : Ref sig .tc := ⟨.hbm, 438, rfl⟩
abbrev main_call5_call0_call0_v62 : Ref sig .tc := ⟨.hbm, 439, rfl⟩
abbrev main_call5_call0_call0_v63 : Ref sig .tc := ⟨.hbm, 440, rfl⟩
abbrev main_call5_call0_call0_c_16 : Ref sig .tc := ⟨.hbm, 441, rfl⟩
abbrev main_call5_call0_call0_v64 : Ref sig .tc := ⟨.hbm, 442, rfl⟩
abbrev main_call5_call0_call0_v65 : Ref sig .tc := ⟨.hbm, 443, rfl⟩
abbrev main_call5_call0_call0_v66 : Ref sig .tc := ⟨.hbm, 444, rfl⟩
abbrev main_call5_call0_call0_v67 : Ref sig .tc := ⟨.hbm, 445, rfl⟩
abbrev main_call5_call0_call0_v68 : Ref sig .tc := ⟨.hbm, 446, rfl⟩
abbrev main_call5_call0_call0_v69 : Ref sig .tc := ⟨.hbm, 447, rfl⟩
abbrev main_call5_call0_call0_v70 : Ref sig .tc := ⟨.hbm, 448, rfl⟩
abbrev main_call5_call0_call0_v71 : Ref sig .tc := ⟨.hbm, 449, rfl⟩
abbrev main_call5_call0_call0_c_17 : Ref sig .tc := ⟨.hbm, 450, rfl⟩
abbrev main_call5_call0_call0_v72 : Ref sig .tc := ⟨.hbm, 451, rfl⟩
abbrev main_call5_call0_call0_v73 : Ref sig .tc := ⟨.hbm, 452, rfl⟩
abbrev main_call5_call0_call0_v74 : Ref sig .tc := ⟨.hbm, 453, rfl⟩
abbrev main_call5_call0_call0_c_18 : Ref sig .tc := ⟨.hbm, 454, rfl⟩
abbrev main_call5_call0_call0_v75 : Ref sig .tc := ⟨.hbm, 455, rfl⟩
abbrev main_call5_call0_call0_v76 : Ref sig .tc := ⟨.hbm, 456, rfl⟩
abbrev main_call5_call0_call0_c_19 : Ref sig .tc := ⟨.hbm, 457, rfl⟩
abbrev main_call5_call0_call0_v77 : Ref sig .tc := ⟨.hbm, 458, rfl⟩
abbrev main_call5_call0_call0_v78 : Ref sig .tc := ⟨.hbm, 459, rfl⟩
abbrev main_call5_call0_call0_v79 : Ref sig .tc := ⟨.hbm, 460, rfl⟩
abbrev main_call5_call0_call0_v80 : Ref sig .tc := ⟨.hbm, 461, rfl⟩
abbrev main_call5_call0_call0_v81 : Ref sig .tc := ⟨.hbm, 462, rfl⟩
abbrev main_call5_call0_call0_c_20 : Ref sig .tc := ⟨.hbm, 463, rfl⟩
abbrev main_call5_call0_call0_v82 : Ref sig .tc := ⟨.hbm, 464, rfl⟩
abbrev main_call5_call0_call0_v83 : Ref sig .tc := ⟨.hbm, 465, rfl⟩
abbrev main_call5_call0_call0_c_21 : Ref sig .tc := ⟨.hbm, 466, rfl⟩
abbrev main_call5_call0_call0_v84 : Ref sig .tc := ⟨.hbm, 467, rfl⟩
abbrev main_call5_call0_call0_v85 : Ref sig .tc := ⟨.hbm, 468, rfl⟩
abbrev main_call5_call0_call0_v86 : Ref sig .tc := ⟨.hbm, 469, rfl⟩
abbrev main_call5_call0_call0_v87 : Ref sig .tc := ⟨.hbm, 470, rfl⟩
abbrev main_call5_call0_call0_v88 : Ref sig .tc := ⟨.hbm, 471, rfl⟩
abbrev main_call5_call0_call0_c_22 : Ref sig .tc := ⟨.hbm, 472, rfl⟩
abbrev main_call5_call0_call0_v89 : Ref sig .tc := ⟨.hbm, 473, rfl⟩
abbrev main_call5_call0_call0_v90 : Ref sig .tc := ⟨.hbm, 474, rfl⟩
abbrev main_call5_call0_call0_c_23 : Ref sig .tc := ⟨.hbm, 475, rfl⟩
abbrev main_call5_call0_call0_v91 : Ref sig .tc := ⟨.hbm, 476, rfl⟩
abbrev main_call5_call0_call0_v92 : Ref sig .tc := ⟨.hbm, 477, rfl⟩
abbrev main_call5_call0_call0_v93 : Ref sig .tc := ⟨.hbm, 478, rfl⟩
abbrev main_call5_call0_call0_v94 : Ref sig .tc := ⟨.hbm, 479, rfl⟩
abbrev main_call5_call0_call0_v95 : Ref sig .tc := ⟨.hbm, 480, rfl⟩
abbrev main_call5_call0_call0_c_24 : Ref sig .tc := ⟨.hbm, 481, rfl⟩
abbrev main_call5_call0_call0_v96 : Ref sig .tc := ⟨.hbm, 482, rfl⟩
abbrev main_call5_call0_call0_v97 : Ref sig .tc := ⟨.hbm, 483, rfl⟩
abbrev main_call5_call0_call0_c_25 : Ref sig .tc := ⟨.hbm, 484, rfl⟩
abbrev main_call5_call0_call0_v98 : Ref sig .tc := ⟨.hbm, 485, rfl⟩
abbrev main_call5_call0_call0_v99 : Ref sig .tc := ⟨.hbm, 486, rfl⟩
abbrev main_call5_call0_call0_v100 : Ref sig .tc := ⟨.hbm, 487, rfl⟩
abbrev main_call5_call0_call0_v101 : Ref sig .tc := ⟨.hbm, 488, rfl⟩
abbrev main_call5_call0_call0_v102 : Ref sig .tc := ⟨.hbm, 489, rfl⟩
abbrev main_call5_call0_call0_v103 : Ref sig .tc := ⟨.hbm, 490, rfl⟩
abbrev main_call5_call0_call0_v104 : Ref sig .tc := ⟨.hbm, 491, rfl⟩
abbrev main_call5_call0_call0_v105 : Ref sig .tc := ⟨.hbm, 492, rfl⟩
abbrev main_call5_call0_call0_c_26 : Ref sig .tc := ⟨.hbm, 493, rfl⟩
abbrev main_call5_call0_call0_v106 : Ref sig .tc := ⟨.hbm, 494, rfl⟩
abbrev main_call5_call0_call0_v107 : Ref sig .tc := ⟨.hbm, 495, rfl⟩
abbrev main_call5_call0_call0_v108 : Ref sig .tc := ⟨.hbm, 496, rfl⟩
abbrev main_call5_call0_call0_c_27 : Ref sig .tc := ⟨.hbm, 497, rfl⟩
abbrev main_call5_call0_call0_v109 : Ref sig .tc := ⟨.hbm, 498, rfl⟩
abbrev main_call5_call0_call0_v110 : Ref sig .tc := ⟨.hbm, 499, rfl⟩
abbrev main_call5_call0_call0_c_28 : Ref sig .tc := ⟨.hbm, 500, rfl⟩
abbrev main_call5_call0_call0_v111 : Ref sig .tc := ⟨.hbm, 501, rfl⟩
abbrev main_call5_call0_call0_v112 : Ref sig .tc := ⟨.hbm, 502, rfl⟩
abbrev main_call5_call0_call0_v113 : Ref sig .tc := ⟨.hbm, 503, rfl⟩
abbrev main_call5_call0_call0_v114 : Ref sig .tc := ⟨.hbm, 504, rfl⟩
abbrev main_call5_call0_call0_v115 : Ref sig .tc := ⟨.hbm, 505, rfl⟩
abbrev main_call5_call0_call0_c_29 : Ref sig .tc := ⟨.hbm, 506, rfl⟩
abbrev main_call5_call0_call0_v116 : Ref sig .tc := ⟨.hbm, 507, rfl⟩
abbrev main_call5_call0_call0_v117 : Ref sig .tc := ⟨.hbm, 508, rfl⟩
abbrev main_call5_call0_call0_c_30 : Ref sig .tc := ⟨.hbm, 509, rfl⟩
abbrev main_call5_call0_call0_v118 : Ref sig .tc := ⟨.hbm, 510, rfl⟩
abbrev main_call5_call0_call0_v119 : Ref sig .tc := ⟨.hbm, 511, rfl⟩
abbrev main_call5_call0_call0_v120 : Ref sig .tc := ⟨.hbm, 512, rfl⟩
abbrev main_call5_call0_call0_v121 : Ref sig .tc := ⟨.hbm, 513, rfl⟩
abbrev main_call5_call0_call0_v122 : Ref sig .tc := ⟨.hbm, 514, rfl⟩
abbrev main_call5_call0_call0_c_31 : Ref sig .tc := ⟨.hbm, 515, rfl⟩
abbrev main_call5_call0_call0_v123 : Ref sig .tc := ⟨.hbm, 516, rfl⟩
abbrev main_call5_call0_call0_v124 : Ref sig .tc := ⟨.hbm, 517, rfl⟩
abbrev main_call5_call0_call0_c_32 : Ref sig .tc := ⟨.hbm, 518, rfl⟩
abbrev main_call5_call0_call0_v125 : Ref sig .tc := ⟨.hbm, 519, rfl⟩
abbrev main_call5_call0_call0_v126 : Ref sig .tc := ⟨.hbm, 520, rfl⟩
abbrev main_call5_call0_call0_v127 : Ref sig .tc := ⟨.hbm, 521, rfl⟩
abbrev main_call5_call0_call0_v128 : Ref sig .tc := ⟨.hbm, 522, rfl⟩
abbrev main_call5_call0_call0_v129 : Ref sig .tc := ⟨.hbm, 523, rfl⟩
abbrev main_call5_call0_call0_c_33 : Ref sig .tc := ⟨.hbm, 524, rfl⟩
abbrev main_call5_call0_call0_v130 : Ref sig .tc := ⟨.hbm, 525, rfl⟩
abbrev main_call5_call0_call0_v131 : Ref sig .tc := ⟨.hbm, 526, rfl⟩
abbrev main_call5_call0_call0_c_34 : Ref sig .tc := ⟨.hbm, 527, rfl⟩
abbrev main_call5_call0_call0_v132 : Ref sig .tc := ⟨.hbm, 528, rfl⟩
abbrev main_call5_call0_call0_v133 : Ref sig .tc := ⟨.hbm, 529, rfl⟩
abbrev main_call5_call0_call0_v134 : Ref sig .tc := ⟨.hbm, 530, rfl⟩
abbrev main_call5_call0_call0_v135 : Ref sig .tc := ⟨.hbm, 531, rfl⟩
abbrev main_call5_call0_call0_v136 : Ref sig .tc := ⟨.hbm, 532, rfl⟩
abbrev main_call5_call0_call0_v137 : Ref sig .tc := ⟨.hbm, 533, rfl⟩
abbrev main_call5_call0_call0_v138 : Ref sig .tc := ⟨.hbm, 534, rfl⟩
abbrev main_call5_call0_call0_v139 : Ref sig .tc := ⟨.hbm, 535, rfl⟩
abbrev main_call5_call0_call0_c_35 : Ref sig .tc := ⟨.hbm, 536, rfl⟩
abbrev main_call5_call0_call0_v140 : Ref sig .tc := ⟨.hbm, 537, rfl⟩
abbrev main_call5_call0_call0_v141 : Ref sig .tc := ⟨.hbm, 538, rfl⟩
abbrev main_call5_call0_call0_v142 : Ref sig .tc := ⟨.hbm, 539, rfl⟩
abbrev main_call5_call0_call0_c_36 : Ref sig .tc := ⟨.hbm, 540, rfl⟩
abbrev main_call5_call0_call0_v143 : Ref sig .tc := ⟨.hbm, 541, rfl⟩
abbrev main_call5_call0_call0_v144 : Ref sig .tc := ⟨.hbm, 542, rfl⟩
abbrev main_call5_call0_call0_c_37 : Ref sig .tc := ⟨.hbm, 543, rfl⟩
abbrev main_call5_call0_call0_v145 : Ref sig .tc := ⟨.hbm, 544, rfl⟩
abbrev main_call5_call0_call0_v146 : Ref sig .tc := ⟨.hbm, 545, rfl⟩
abbrev main_call5_call0_call0_v147 : Ref sig .tc := ⟨.hbm, 546, rfl⟩
abbrev main_call5_call0_call0_v148 : Ref sig .tc := ⟨.hbm, 547, rfl⟩
abbrev main_call5_call0_call0_v149 : Ref sig .tc := ⟨.hbm, 548, rfl⟩
abbrev main_call5_call0_call0_c_38 : Ref sig .tc := ⟨.hbm, 549, rfl⟩
abbrev main_call5_call0_call0_v150 : Ref sig .tc := ⟨.hbm, 550, rfl⟩
abbrev main_call5_call0_call0_v151 : Ref sig .tc := ⟨.hbm, 551, rfl⟩
abbrev main_call5_call0_call0_c_39 : Ref sig .tc := ⟨.hbm, 552, rfl⟩
abbrev main_call5_call0_call0_v152 : Ref sig .tc := ⟨.hbm, 553, rfl⟩
abbrev main_call5_call0_call0_v153 : Ref sig .tc := ⟨.hbm, 554, rfl⟩
abbrev main_call5_call0_call0_v154 : Ref sig .tc := ⟨.hbm, 555, rfl⟩
abbrev main_call5_call0_call0_v155 : Ref sig .tc := ⟨.hbm, 556, rfl⟩
abbrev main_call5_call0_call0_v156 : Ref sig .tc := ⟨.hbm, 557, rfl⟩
abbrev main_call5_call0_call0_c_40 : Ref sig .tc := ⟨.hbm, 558, rfl⟩
abbrev main_call5_call0_call0_v157 : Ref sig .tc := ⟨.hbm, 559, rfl⟩
abbrev main_call5_call0_call0_v158 : Ref sig .tc := ⟨.hbm, 560, rfl⟩
abbrev main_call5_call0_call0_c_41 : Ref sig .tc := ⟨.hbm, 561, rfl⟩
abbrev main_call5_call0_call0_v159 : Ref sig .tc := ⟨.hbm, 562, rfl⟩
abbrev main_call5_call0_call0_v160 : Ref sig .tc := ⟨.hbm, 563, rfl⟩
abbrev main_call5_call0_call0_v161 : Ref sig .tc := ⟨.hbm, 564, rfl⟩
abbrev main_call5_call0_call0_v162 : Ref sig .tc := ⟨.hbm, 565, rfl⟩
abbrev main_call5_call0_call0_v163 : Ref sig .tc := ⟨.hbm, 566, rfl⟩
abbrev main_call5_call0_call0_c_42 : Ref sig .tc := ⟨.hbm, 567, rfl⟩
abbrev main_call5_call0_call0_v164 : Ref sig .tc := ⟨.hbm, 568, rfl⟩
abbrev main_call5_call0_call0_v165 : Ref sig .tc := ⟨.hbm, 569, rfl⟩
abbrev main_call5_call0_call0_c_43 : Ref sig .tc := ⟨.hbm, 570, rfl⟩
abbrev main_call5_call0_call0_v166 : Ref sig .tc := ⟨.hbm, 571, rfl⟩
abbrev main_call5_call0_call0_v167 : Ref sig .tc := ⟨.hbm, 572, rfl⟩
abbrev main_call5_call0_call0_v168 : Ref sig .tc := ⟨.hbm, 573, rfl⟩
abbrev main_call5_call0_call0_v169 : Ref sig .tc := ⟨.hbm, 574, rfl⟩
abbrev main_call5_call0_call0_v170 : Ref sig .tc := ⟨.hbm, 575, rfl⟩
abbrev main_call5_call0_v27_0 : Ref sig .tc := ⟨.hbm, 576, rfl⟩
abbrev main_call5_call0_call0_v172 : Ref sig .tc := ⟨.hbm, 577, rfl⟩
abbrev main_call5_call0_call0_v173 : Ref sig .tc := ⟨.hbm, 578, rfl⟩
abbrev main_call5_call0_call0_c_44 : Ref sig .tc := ⟨.hbm, 579, rfl⟩
abbrev main_call5_call0_call0_v174 : Ref sig .tc := ⟨.hbm, 580, rfl⟩
abbrev main_call5_call0_v27_1 : Ref sig .tc := ⟨.hbm, 581, rfl⟩
abbrev main_call5_call0_v28 : Ref sig .tc := ⟨.hbm, 582, rfl⟩
abbrev main_call5_call0_c_4 : Ref sig .tc := ⟨.hbm, 583, rfl⟩
abbrev main_call5_call0_v29 : Ref sig .tc := ⟨.hbm, 584, rfl⟩
abbrev main_call5_call0_v30 : Ref sig .tc := ⟨.hbm, 585, rfl⟩
abbrev main_call5_call0_c_5 : Ref sig .tc := ⟨.hbm, 586, rfl⟩
abbrev main_call5_call0_v31 : Ref sig .tc := ⟨.hbm, 587, rfl⟩
abbrev main_call5_call0_v32 : Ref sig .tc := ⟨.hbm, 588, rfl⟩
abbrev main_call5_call0_v33 : Ref sig .tc := ⟨.hbm, 589, rfl⟩
abbrev main_call5_call0_cst : Ref sig .tc := ⟨.hbm, 590, rfl⟩
abbrev main_call5_call0_v34 : Ref sig .tc := ⟨.hbm, 591, rfl⟩
abbrev main_call5_call0_v35 : Ref sig .tc := ⟨.hbm, 592, rfl⟩
abbrev main_call5_call0_v36 : Ref sig .tc := ⟨.hbm, 593, rfl⟩
abbrev main_call5_call0_v37 : Ref sig .tc := ⟨.hbm, 594, rfl⟩
abbrev main_call5_call0_v38 : Ref sig .tc := ⟨.hbm, 595, rfl⟩
abbrev main_call5_call0_v39 : Ref sig .tc := ⟨.hbm, 596, rfl⟩
abbrev main_call5_call0_v40 : Ref sig .tc := ⟨.hbm, 597, rfl⟩
abbrev main_call5_call0_v41 : Ref sig .tc := ⟨.hbm, 598, rfl⟩
abbrev main_call5_v0 : Ref sig .tc := ⟨.hbm, 599, rfl⟩
abbrev main_v61 : Ref sig .tc := ⟨.hbm, 600, rfl⟩
abbrev main_v62 : Ref sig .tc := ⟨.hbm, 601, rfl⟩
abbrev main_v63 : Ref sig .tc := ⟨.hbm, 602, rfl⟩
abbrev main_call6_cst : Ref sig .tc := ⟨.hbm, 603, rfl⟩
abbrev main_call6_cst_0 : Ref sig .tc := ⟨.hbm, 604, rfl⟩
abbrev main_call6_call0_v0 : Ref sig .tc := ⟨.hbm, 605, rfl⟩
abbrev main_call6_call0_v1 : Ref sig .tc := ⟨.hbm, 606, rfl⟩
abbrev main_call6_call0_v2 : Ref sig .tc := ⟨.hbm, 607, rfl⟩
abbrev main_call6_call0_v3 : Ref sig .tc := ⟨.hbm, 608, rfl⟩
abbrev main_call6_call0_v4 : Ref sig .tc := ⟨.hbm, 609, rfl⟩
abbrev main_call6_call0_v5 : Ref sig .tc := ⟨.hbm, 610, rfl⟩
abbrev main_call6_call0_v6 : Ref sig .tc := ⟨.hbm, 611, rfl⟩
abbrev main_call6_call0_v7 : Ref sig .tc := ⟨.hbm, 612, rfl⟩
abbrev main_call6_call0_v8 : Ref sig .tc := ⟨.hbm, 613, rfl⟩
abbrev main_call6_call0_v9 : Ref sig .tc := ⟨.hbm, 614, rfl⟩
abbrev main_call6_call0_v10 : Ref sig .tc := ⟨.hbm, 615, rfl⟩
abbrev main_call6_call0_v11 : Ref sig .tc := ⟨.hbm, 616, rfl⟩
abbrev main_call6_call0_c : Ref sig .tc := ⟨.hbm, 617, rfl⟩
abbrev main_call6_call0_v12 : Ref sig .tc := ⟨.hbm, 618, rfl⟩
abbrev main_call6_call0_v13 : Ref sig .tc := ⟨.hbm, 619, rfl⟩
abbrev main_call6_call0_c_0 : Ref sig .tc := ⟨.hbm, 620, rfl⟩
abbrev main_call6_call0_v14 : Ref sig .tc := ⟨.hbm, 621, rfl⟩
abbrev main_call6_call0_v15 : Ref sig .tc := ⟨.hbm, 622, rfl⟩
abbrev main_call6_call0_c_1 : Ref sig .tc := ⟨.hbm, 623, rfl⟩
abbrev main_call6_call0_v16 : Ref sig .tc := ⟨.hbm, 624, rfl⟩
abbrev main_call6_call0_v17 : Ref sig .tc := ⟨.hbm, 625, rfl⟩
abbrev main_call6_call0_c_2 : Ref sig .tc := ⟨.hbm, 626, rfl⟩
abbrev main_call6_call0_v18 : Ref sig .tc := ⟨.hbm, 627, rfl⟩
abbrev main_call6_call0_v19 : Ref sig .tc := ⟨.hbm, 628, rfl⟩
abbrev main_call6_call0_v20 : Ref sig .tc := ⟨.hbm, 629, rfl⟩
abbrev main_call6_call0_v21 : Ref sig .tc := ⟨.hbm, 630, rfl⟩
abbrev main_call6_call0_v22 : Ref sig .tc := ⟨.hbm, 631, rfl⟩
abbrev main_call6_call0_c_3 : Ref sig .tc := ⟨.hbm, 632, rfl⟩
abbrev main_call6_call0_v23 : Ref sig .tc := ⟨.hbm, 633, rfl⟩
abbrev main_call6_call0_v24 : Ref sig .tc := ⟨.hbm, 634, rfl⟩
abbrev main_call6_call0_v25 : Ref sig .tc := ⟨.hbm, 635, rfl⟩
abbrev main_call6_call0_v26 : Ref sig .tc := ⟨.hbm, 636, rfl⟩
abbrev main_call6_call0_call0_v0 : Ref sig .tc := ⟨.hbm, 637, rfl⟩
abbrev main_call6_call0_call0_c : Ref sig .tc := ⟨.hbm, 638, rfl⟩
abbrev main_call6_call0_call0_v1 : Ref sig .tc := ⟨.hbm, 639, rfl⟩
abbrev main_call6_call0_call0_v2 : Ref sig .tc := ⟨.hbm, 640, rfl⟩
abbrev main_call6_call0_call0_v3 : Ref sig .tc := ⟨.hbm, 641, rfl⟩
abbrev main_call6_call0_call0_v4 : Ref sig .tc := ⟨.hbm, 642, rfl⟩
abbrev main_call6_call0_call0_v5 : Ref sig .tc := ⟨.hbm, 643, rfl⟩
abbrev main_call6_call0_call0_v6 : Ref sig .tc := ⟨.hbm, 644, rfl⟩
abbrev main_call6_call0_call0_c_0 : Ref sig .tc := ⟨.hbm, 645, rfl⟩
abbrev main_call6_call0_call0_v7 : Ref sig .tc := ⟨.hbm, 646, rfl⟩
abbrev main_call6_call0_call0_v8 : Ref sig .tc := ⟨.hbm, 647, rfl⟩
abbrev main_call6_call0_call0_c_1 : Ref sig .tc := ⟨.hbm, 648, rfl⟩
abbrev main_call6_call0_call0_v9 : Ref sig .tc := ⟨.hbm, 649, rfl⟩
abbrev main_call6_call0_call0_v10 : Ref sig .tc := ⟨.hbm, 650, rfl⟩
abbrev main_call6_call0_call0_v11 : Ref sig .tc := ⟨.hbm, 651, rfl⟩
abbrev main_call6_call0_call0_v12 : Ref sig .tc := ⟨.hbm, 652, rfl⟩
abbrev main_call6_call0_call0_v13 : Ref sig .tc := ⟨.hbm, 653, rfl⟩
abbrev main_call6_call0_call0_c_2 : Ref sig .tc := ⟨.hbm, 654, rfl⟩
abbrev main_call6_call0_call0_v14 : Ref sig .tc := ⟨.hbm, 655, rfl⟩
abbrev main_call6_call0_call0_v15 : Ref sig .tc := ⟨.hbm, 656, rfl⟩
abbrev main_call6_call0_call0_c_3 : Ref sig .tc := ⟨.hbm, 657, rfl⟩
abbrev main_call6_call0_call0_v16 : Ref sig .tc := ⟨.hbm, 658, rfl⟩
abbrev main_call6_call0_call0_v17 : Ref sig .tc := ⟨.hbm, 659, rfl⟩
abbrev main_call6_call0_call0_v18 : Ref sig .tc := ⟨.hbm, 660, rfl⟩
abbrev main_call6_call0_call0_v19 : Ref sig .tc := ⟨.hbm, 661, rfl⟩
abbrev main_call6_call0_call0_v20 : Ref sig .tc := ⟨.hbm, 662, rfl⟩
abbrev main_call6_call0_call0_c_4 : Ref sig .tc := ⟨.hbm, 663, rfl⟩
abbrev main_call6_call0_call0_v21 : Ref sig .tc := ⟨.hbm, 664, rfl⟩
abbrev main_call6_call0_call0_v22 : Ref sig .tc := ⟨.hbm, 665, rfl⟩
abbrev main_call6_call0_call0_c_5 : Ref sig .tc := ⟨.hbm, 666, rfl⟩
abbrev main_call6_call0_call0_v23 : Ref sig .tc := ⟨.hbm, 667, rfl⟩
abbrev main_call6_call0_call0_v24 : Ref sig .tc := ⟨.hbm, 668, rfl⟩
abbrev main_call6_call0_call0_v25 : Ref sig .tc := ⟨.hbm, 669, rfl⟩
abbrev main_call6_call0_call0_v26 : Ref sig .tc := ⟨.hbm, 670, rfl⟩
abbrev main_call6_call0_call0_v27 : Ref sig .tc := ⟨.hbm, 671, rfl⟩
abbrev main_call6_call0_call0_c_6 : Ref sig .tc := ⟨.hbm, 672, rfl⟩
abbrev main_call6_call0_call0_v28 : Ref sig .tc := ⟨.hbm, 673, rfl⟩
abbrev main_call6_call0_call0_v29 : Ref sig .tc := ⟨.hbm, 674, rfl⟩
abbrev main_call6_call0_call0_c_7 : Ref sig .tc := ⟨.hbm, 675, rfl⟩
abbrev main_call6_call0_call0_v30 : Ref sig .tc := ⟨.hbm, 676, rfl⟩
abbrev main_call6_call0_call0_v31 : Ref sig .tc := ⟨.hbm, 677, rfl⟩
abbrev main_call6_call0_call0_v32 : Ref sig .tc := ⟨.hbm, 678, rfl⟩
abbrev main_call6_call0_call0_v33 : Ref sig .tc := ⟨.hbm, 679, rfl⟩
abbrev main_call6_call0_call0_v34 : Ref sig .tc := ⟨.hbm, 680, rfl⟩
abbrev main_call6_call0_call0_v35 : Ref sig .tc := ⟨.hbm, 681, rfl⟩
abbrev main_call6_call0_call0_v36 : Ref sig .tc := ⟨.hbm, 682, rfl⟩
abbrev main_call6_call0_call0_v37 : Ref sig .tc := ⟨.hbm, 683, rfl⟩
abbrev main_call6_call0_call0_c_8 : Ref sig .tc := ⟨.hbm, 684, rfl⟩
abbrev main_call6_call0_call0_v38 : Ref sig .tc := ⟨.hbm, 685, rfl⟩
abbrev main_call6_call0_call0_v39 : Ref sig .tc := ⟨.hbm, 686, rfl⟩
abbrev main_call6_call0_call0_v40 : Ref sig .tc := ⟨.hbm, 687, rfl⟩
abbrev main_call6_call0_call0_c_9 : Ref sig .tc := ⟨.hbm, 688, rfl⟩
abbrev main_call6_call0_call0_v41 : Ref sig .tc := ⟨.hbm, 689, rfl⟩
abbrev main_call6_call0_call0_v42 : Ref sig .tc := ⟨.hbm, 690, rfl⟩
abbrev main_call6_call0_call0_c_10 : Ref sig .tc := ⟨.hbm, 691, rfl⟩
abbrev main_call6_call0_call0_v43 : Ref sig .tc := ⟨.hbm, 692, rfl⟩
abbrev main_call6_call0_call0_v44 : Ref sig .tc := ⟨.hbm, 693, rfl⟩
abbrev main_call6_call0_call0_v45 : Ref sig .tc := ⟨.hbm, 694, rfl⟩
abbrev main_call6_call0_call0_v46 : Ref sig .tc := ⟨.hbm, 695, rfl⟩
abbrev main_call6_call0_call0_v47 : Ref sig .tc := ⟨.hbm, 696, rfl⟩
abbrev main_call6_call0_call0_c_11 : Ref sig .tc := ⟨.hbm, 697, rfl⟩
abbrev main_call6_call0_call0_v48 : Ref sig .tc := ⟨.hbm, 698, rfl⟩
abbrev main_call6_call0_call0_v49 : Ref sig .tc := ⟨.hbm, 699, rfl⟩
abbrev main_call6_call0_call0_c_12 : Ref sig .tc := ⟨.hbm, 700, rfl⟩
abbrev main_call6_call0_call0_v50 : Ref sig .tc := ⟨.hbm, 701, rfl⟩
abbrev main_call6_call0_call0_v51 : Ref sig .tc := ⟨.hbm, 702, rfl⟩
abbrev main_call6_call0_call0_v52 : Ref sig .tc := ⟨.hbm, 703, rfl⟩
abbrev main_call6_call0_call0_v53 : Ref sig .tc := ⟨.hbm, 704, rfl⟩
abbrev main_call6_call0_call0_v54 : Ref sig .tc := ⟨.hbm, 705, rfl⟩
abbrev main_call6_call0_call0_c_13 : Ref sig .tc := ⟨.hbm, 706, rfl⟩
abbrev main_call6_call0_call0_v55 : Ref sig .tc := ⟨.hbm, 707, rfl⟩
abbrev main_call6_call0_call0_v56 : Ref sig .tc := ⟨.hbm, 708, rfl⟩
abbrev main_call6_call0_call0_c_14 : Ref sig .tc := ⟨.hbm, 709, rfl⟩
abbrev main_call6_call0_call0_v57 : Ref sig .tc := ⟨.hbm, 710, rfl⟩
abbrev main_call6_call0_call0_v58 : Ref sig .tc := ⟨.hbm, 711, rfl⟩
abbrev main_call6_call0_call0_v59 : Ref sig .tc := ⟨.hbm, 712, rfl⟩
abbrev main_call6_call0_call0_v60 : Ref sig .tc := ⟨.hbm, 713, rfl⟩
abbrev main_call6_call0_call0_v61 : Ref sig .tc := ⟨.hbm, 714, rfl⟩
abbrev main_call6_call0_call0_c_15 : Ref sig .tc := ⟨.hbm, 715, rfl⟩
abbrev main_call6_call0_call0_v62 : Ref sig .tc := ⟨.hbm, 716, rfl⟩
abbrev main_call6_call0_call0_v63 : Ref sig .tc := ⟨.hbm, 717, rfl⟩
abbrev main_call6_call0_call0_c_16 : Ref sig .tc := ⟨.hbm, 718, rfl⟩
abbrev main_call6_call0_call0_v64 : Ref sig .tc := ⟨.hbm, 719, rfl⟩
abbrev main_call6_call0_call0_v65 : Ref sig .tc := ⟨.hbm, 720, rfl⟩
abbrev main_call6_call0_call0_v66 : Ref sig .tc := ⟨.hbm, 721, rfl⟩
abbrev main_call6_call0_call0_v67 : Ref sig .tc := ⟨.hbm, 722, rfl⟩
abbrev main_call6_call0_call0_v68 : Ref sig .tc := ⟨.hbm, 723, rfl⟩
abbrev main_call6_call0_call0_v69 : Ref sig .tc := ⟨.hbm, 724, rfl⟩
abbrev main_call6_call0_call0_v70 : Ref sig .tc := ⟨.hbm, 725, rfl⟩
abbrev main_call6_call0_call0_v71 : Ref sig .tc := ⟨.hbm, 726, rfl⟩
abbrev main_call6_call0_call0_c_17 : Ref sig .tc := ⟨.hbm, 727, rfl⟩
abbrev main_call6_call0_call0_v72 : Ref sig .tc := ⟨.hbm, 728, rfl⟩
abbrev main_call6_call0_call0_v73 : Ref sig .tc := ⟨.hbm, 729, rfl⟩
abbrev main_call6_call0_call0_v74 : Ref sig .tc := ⟨.hbm, 730, rfl⟩
abbrev main_call6_call0_call0_c_18 : Ref sig .tc := ⟨.hbm, 731, rfl⟩
abbrev main_call6_call0_call0_v75 : Ref sig .tc := ⟨.hbm, 732, rfl⟩
abbrev main_call6_call0_call0_v76 : Ref sig .tc := ⟨.hbm, 733, rfl⟩
abbrev main_call6_call0_call0_c_19 : Ref sig .tc := ⟨.hbm, 734, rfl⟩
abbrev main_call6_call0_call0_v77 : Ref sig .tc := ⟨.hbm, 735, rfl⟩
abbrev main_call6_call0_call0_v78 : Ref sig .tc := ⟨.hbm, 736, rfl⟩
abbrev main_call6_call0_call0_v79 : Ref sig .tc := ⟨.hbm, 737, rfl⟩
abbrev main_call6_call0_call0_v80 : Ref sig .tc := ⟨.hbm, 738, rfl⟩
abbrev main_call6_call0_call0_v81 : Ref sig .tc := ⟨.hbm, 739, rfl⟩
abbrev main_call6_call0_call0_c_20 : Ref sig .tc := ⟨.hbm, 740, rfl⟩
abbrev main_call6_call0_call0_v82 : Ref sig .tc := ⟨.hbm, 741, rfl⟩
abbrev main_call6_call0_call0_v83 : Ref sig .tc := ⟨.hbm, 742, rfl⟩
abbrev main_call6_call0_call0_c_21 : Ref sig .tc := ⟨.hbm, 743, rfl⟩
abbrev main_call6_call0_call0_v84 : Ref sig .tc := ⟨.hbm, 744, rfl⟩
abbrev main_call6_call0_call0_v85 : Ref sig .tc := ⟨.hbm, 745, rfl⟩
abbrev main_call6_call0_call0_v86 : Ref sig .tc := ⟨.hbm, 746, rfl⟩
abbrev main_call6_call0_call0_v87 : Ref sig .tc := ⟨.hbm, 747, rfl⟩
abbrev main_call6_call0_call0_v88 : Ref sig .tc := ⟨.hbm, 748, rfl⟩
abbrev main_call6_call0_call0_c_22 : Ref sig .tc := ⟨.hbm, 749, rfl⟩
abbrev main_call6_call0_call0_v89 : Ref sig .tc := ⟨.hbm, 750, rfl⟩
abbrev main_call6_call0_call0_v90 : Ref sig .tc := ⟨.hbm, 751, rfl⟩
abbrev main_call6_call0_call0_c_23 : Ref sig .tc := ⟨.hbm, 752, rfl⟩
abbrev main_call6_call0_call0_v91 : Ref sig .tc := ⟨.hbm, 753, rfl⟩
abbrev main_call6_call0_call0_v92 : Ref sig .tc := ⟨.hbm, 754, rfl⟩
abbrev main_call6_call0_call0_v93 : Ref sig .tc := ⟨.hbm, 755, rfl⟩
abbrev main_call6_call0_call0_v94 : Ref sig .tc := ⟨.hbm, 756, rfl⟩
abbrev main_call6_call0_call0_v95 : Ref sig .tc := ⟨.hbm, 757, rfl⟩
abbrev main_call6_call0_call0_c_24 : Ref sig .tc := ⟨.hbm, 758, rfl⟩
abbrev main_call6_call0_call0_v96 : Ref sig .tc := ⟨.hbm, 759, rfl⟩
abbrev main_call6_call0_call0_v97 : Ref sig .tc := ⟨.hbm, 760, rfl⟩
abbrev main_call6_call0_call0_c_25 : Ref sig .tc := ⟨.hbm, 761, rfl⟩
abbrev main_call6_call0_call0_v98 : Ref sig .tc := ⟨.hbm, 762, rfl⟩
abbrev main_call6_call0_call0_v99 : Ref sig .tc := ⟨.hbm, 763, rfl⟩
abbrev main_call6_call0_call0_v100 : Ref sig .tc := ⟨.hbm, 764, rfl⟩
abbrev main_call6_call0_call0_v101 : Ref sig .tc := ⟨.hbm, 765, rfl⟩
abbrev main_call6_call0_call0_v102 : Ref sig .tc := ⟨.hbm, 766, rfl⟩
abbrev main_call6_call0_call0_v103 : Ref sig .tc := ⟨.hbm, 767, rfl⟩
abbrev main_call6_call0_call0_v104 : Ref sig .tc := ⟨.hbm, 768, rfl⟩
abbrev main_call6_call0_call0_v105 : Ref sig .tc := ⟨.hbm, 769, rfl⟩
abbrev main_call6_call0_call0_c_26 : Ref sig .tc := ⟨.hbm, 770, rfl⟩
abbrev main_call6_call0_call0_v106 : Ref sig .tc := ⟨.hbm, 771, rfl⟩
abbrev main_call6_call0_call0_v107 : Ref sig .tc := ⟨.hbm, 772, rfl⟩
abbrev main_call6_call0_call0_v108 : Ref sig .tc := ⟨.hbm, 773, rfl⟩
abbrev main_call6_call0_call0_c_27 : Ref sig .tc := ⟨.hbm, 774, rfl⟩
abbrev main_call6_call0_call0_v109 : Ref sig .tc := ⟨.hbm, 775, rfl⟩
abbrev main_call6_call0_call0_v110 : Ref sig .tc := ⟨.hbm, 776, rfl⟩
abbrev main_call6_call0_call0_c_28 : Ref sig .tc := ⟨.hbm, 777, rfl⟩
abbrev main_call6_call0_call0_v111 : Ref sig .tc := ⟨.hbm, 778, rfl⟩
abbrev main_call6_call0_call0_v112 : Ref sig .tc := ⟨.hbm, 779, rfl⟩
abbrev main_call6_call0_call0_v113 : Ref sig .tc := ⟨.hbm, 780, rfl⟩
abbrev main_call6_call0_call0_v114 : Ref sig .tc := ⟨.hbm, 781, rfl⟩
abbrev main_call6_call0_call0_v115 : Ref sig .tc := ⟨.hbm, 782, rfl⟩
abbrev main_call6_call0_call0_c_29 : Ref sig .tc := ⟨.hbm, 783, rfl⟩
abbrev main_call6_call0_call0_v116 : Ref sig .tc := ⟨.hbm, 784, rfl⟩
abbrev main_call6_call0_call0_v117 : Ref sig .tc := ⟨.hbm, 785, rfl⟩
abbrev main_call6_call0_call0_c_30 : Ref sig .tc := ⟨.hbm, 786, rfl⟩
abbrev main_call6_call0_call0_v118 : Ref sig .tc := ⟨.hbm, 787, rfl⟩
abbrev main_call6_call0_call0_v119 : Ref sig .tc := ⟨.hbm, 788, rfl⟩
abbrev main_call6_call0_call0_v120 : Ref sig .tc := ⟨.hbm, 789, rfl⟩
abbrev main_call6_call0_call0_v121 : Ref sig .tc := ⟨.hbm, 790, rfl⟩
abbrev main_call6_call0_call0_v122 : Ref sig .tc := ⟨.hbm, 791, rfl⟩
abbrev main_call6_call0_call0_c_31 : Ref sig .tc := ⟨.hbm, 792, rfl⟩
abbrev main_call6_call0_call0_v123 : Ref sig .tc := ⟨.hbm, 793, rfl⟩
abbrev main_call6_call0_call0_v124 : Ref sig .tc := ⟨.hbm, 794, rfl⟩
abbrev main_call6_call0_call0_c_32 : Ref sig .tc := ⟨.hbm, 795, rfl⟩
abbrev main_call6_call0_call0_v125 : Ref sig .tc := ⟨.hbm, 796, rfl⟩
abbrev main_call6_call0_call0_v126 : Ref sig .tc := ⟨.hbm, 797, rfl⟩
abbrev main_call6_call0_call0_v127 : Ref sig .tc := ⟨.hbm, 798, rfl⟩
abbrev main_call6_call0_call0_v128 : Ref sig .tc := ⟨.hbm, 799, rfl⟩
abbrev main_call6_call0_call0_v129 : Ref sig .tc := ⟨.hbm, 800, rfl⟩
abbrev main_call6_call0_call0_c_33 : Ref sig .tc := ⟨.hbm, 801, rfl⟩
abbrev main_call6_call0_call0_v130 : Ref sig .tc := ⟨.hbm, 802, rfl⟩
abbrev main_call6_call0_call0_v131 : Ref sig .tc := ⟨.hbm, 803, rfl⟩
abbrev main_call6_call0_call0_c_34 : Ref sig .tc := ⟨.hbm, 804, rfl⟩
abbrev main_call6_call0_call0_v132 : Ref sig .tc := ⟨.hbm, 805, rfl⟩
abbrev main_call6_call0_call0_v133 : Ref sig .tc := ⟨.hbm, 806, rfl⟩
abbrev main_call6_call0_call0_v134 : Ref sig .tc := ⟨.hbm, 807, rfl⟩
abbrev main_call6_call0_call0_v135 : Ref sig .tc := ⟨.hbm, 808, rfl⟩
abbrev main_call6_call0_call0_v136 : Ref sig .tc := ⟨.hbm, 809, rfl⟩
abbrev main_call6_call0_call0_v137 : Ref sig .tc := ⟨.hbm, 810, rfl⟩
abbrev main_call6_call0_call0_v138 : Ref sig .tc := ⟨.hbm, 811, rfl⟩
abbrev main_call6_call0_call0_v139 : Ref sig .tc := ⟨.hbm, 812, rfl⟩
abbrev main_call6_call0_call0_c_35 : Ref sig .tc := ⟨.hbm, 813, rfl⟩
abbrev main_call6_call0_call0_v140 : Ref sig .tc := ⟨.hbm, 814, rfl⟩
abbrev main_call6_call0_call0_v141 : Ref sig .tc := ⟨.hbm, 815, rfl⟩
abbrev main_call6_call0_call0_v142 : Ref sig .tc := ⟨.hbm, 816, rfl⟩
abbrev main_call6_call0_call0_c_36 : Ref sig .tc := ⟨.hbm, 817, rfl⟩
abbrev main_call6_call0_call0_v143 : Ref sig .tc := ⟨.hbm, 818, rfl⟩
abbrev main_call6_call0_call0_v144 : Ref sig .tc := ⟨.hbm, 819, rfl⟩
abbrev main_call6_call0_call0_c_37 : Ref sig .tc := ⟨.hbm, 820, rfl⟩
abbrev main_call6_call0_call0_v145 : Ref sig .tc := ⟨.hbm, 821, rfl⟩
abbrev main_call6_call0_call0_v146 : Ref sig .tc := ⟨.hbm, 822, rfl⟩
abbrev main_call6_call0_call0_v147 : Ref sig .tc := ⟨.hbm, 823, rfl⟩
abbrev main_call6_call0_call0_v148 : Ref sig .tc := ⟨.hbm, 824, rfl⟩
abbrev main_call6_call0_call0_v149 : Ref sig .tc := ⟨.hbm, 825, rfl⟩
abbrev main_call6_call0_call0_c_38 : Ref sig .tc := ⟨.hbm, 826, rfl⟩
abbrev main_call6_call0_call0_v150 : Ref sig .tc := ⟨.hbm, 827, rfl⟩
abbrev main_call6_call0_call0_v151 : Ref sig .tc := ⟨.hbm, 828, rfl⟩
abbrev main_call6_call0_call0_c_39 : Ref sig .tc := ⟨.hbm, 829, rfl⟩
abbrev main_call6_call0_call0_v152 : Ref sig .tc := ⟨.hbm, 830, rfl⟩
abbrev main_call6_call0_call0_v153 : Ref sig .tc := ⟨.hbm, 831, rfl⟩
abbrev main_call6_call0_call0_v154 : Ref sig .tc := ⟨.hbm, 832, rfl⟩
abbrev main_call6_call0_call0_v155 : Ref sig .tc := ⟨.hbm, 833, rfl⟩
abbrev main_call6_call0_call0_v156 : Ref sig .tc := ⟨.hbm, 834, rfl⟩
abbrev main_call6_call0_call0_c_40 : Ref sig .tc := ⟨.hbm, 835, rfl⟩
abbrev main_call6_call0_call0_v157 : Ref sig .tc := ⟨.hbm, 836, rfl⟩
abbrev main_call6_call0_call0_v158 : Ref sig .tc := ⟨.hbm, 837, rfl⟩
abbrev main_call6_call0_call0_c_41 : Ref sig .tc := ⟨.hbm, 838, rfl⟩
abbrev main_call6_call0_call0_v159 : Ref sig .tc := ⟨.hbm, 839, rfl⟩
abbrev main_call6_call0_call0_v160 : Ref sig .tc := ⟨.hbm, 840, rfl⟩
abbrev main_call6_call0_call0_v161 : Ref sig .tc := ⟨.hbm, 841, rfl⟩
abbrev main_call6_call0_call0_v162 : Ref sig .tc := ⟨.hbm, 842, rfl⟩
abbrev main_call6_call0_call0_v163 : Ref sig .tc := ⟨.hbm, 843, rfl⟩
abbrev main_call6_call0_call0_c_42 : Ref sig .tc := ⟨.hbm, 844, rfl⟩
abbrev main_call6_call0_call0_v164 : Ref sig .tc := ⟨.hbm, 845, rfl⟩
abbrev main_call6_call0_call0_v165 : Ref sig .tc := ⟨.hbm, 846, rfl⟩
abbrev main_call6_call0_call0_c_43 : Ref sig .tc := ⟨.hbm, 847, rfl⟩
abbrev main_call6_call0_call0_v166 : Ref sig .tc := ⟨.hbm, 848, rfl⟩
abbrev main_call6_call0_call0_v167 : Ref sig .tc := ⟨.hbm, 849, rfl⟩
abbrev main_call6_call0_call0_v168 : Ref sig .tc := ⟨.hbm, 850, rfl⟩
abbrev main_call6_call0_call0_v169 : Ref sig .tc := ⟨.hbm, 851, rfl⟩
abbrev main_call6_call0_call0_v170 : Ref sig .tc := ⟨.hbm, 852, rfl⟩
abbrev main_call6_call0_v27_0 : Ref sig .tc := ⟨.hbm, 853, rfl⟩
abbrev main_call6_call0_call0_v172 : Ref sig .tc := ⟨.hbm, 854, rfl⟩
abbrev main_call6_call0_call0_v173 : Ref sig .tc := ⟨.hbm, 855, rfl⟩
abbrev main_call6_call0_call0_c_44 : Ref sig .tc := ⟨.hbm, 856, rfl⟩
abbrev main_call6_call0_call0_v174 : Ref sig .tc := ⟨.hbm, 857, rfl⟩
abbrev main_call6_call0_v27_1 : Ref sig .tc := ⟨.hbm, 858, rfl⟩
abbrev main_call6_call0_v28 : Ref sig .tc := ⟨.hbm, 859, rfl⟩
abbrev main_call6_call0_c_4 : Ref sig .tc := ⟨.hbm, 860, rfl⟩
abbrev main_call6_call0_v29 : Ref sig .tc := ⟨.hbm, 861, rfl⟩
abbrev main_call6_call0_v30 : Ref sig .tc := ⟨.hbm, 862, rfl⟩
abbrev main_call6_call0_c_5 : Ref sig .tc := ⟨.hbm, 863, rfl⟩
abbrev main_call6_call0_v31 : Ref sig .tc := ⟨.hbm, 864, rfl⟩
abbrev main_call6_call0_v32 : Ref sig .tc := ⟨.hbm, 865, rfl⟩
abbrev main_call6_call0_v33 : Ref sig .tc := ⟨.hbm, 866, rfl⟩
abbrev main_call6_call0_cst : Ref sig .tc := ⟨.hbm, 867, rfl⟩
abbrev main_call6_call0_v34 : Ref sig .tc := ⟨.hbm, 868, rfl⟩
abbrev main_call6_call0_v35 : Ref sig .tc := ⟨.hbm, 869, rfl⟩
abbrev main_call6_call0_v36 : Ref sig .tc := ⟨.hbm, 870, rfl⟩
abbrev main_call6_call0_v37 : Ref sig .tc := ⟨.hbm, 871, rfl⟩
abbrev main_call6_call0_v38 : Ref sig .tc := ⟨.hbm, 872, rfl⟩
abbrev main_call6_call0_v39 : Ref sig .tc := ⟨.hbm, 873, rfl⟩
abbrev main_call6_call0_v40 : Ref sig .tc := ⟨.hbm, 874, rfl⟩
abbrev main_call6_call0_v41 : Ref sig .tc := ⟨.hbm, 875, rfl⟩
abbrev main_call6_v0 : Ref sig .tc := ⟨.hbm, 876, rfl⟩
abbrev main_v64 : Ref sig .tc := ⟨.hbm, 877, rfl⟩
abbrev main_v65 : Ref sig .tc := ⟨.hbm, 878, rfl⟩
abbrev main_cst_15 : Ref sig .tc := ⟨.hbm, 879, rfl⟩
abbrev main_v66 : Ref sig .tc := ⟨.hbm, 880, rfl⟩
abbrev main_v67 : Ref sig .tc := ⟨.hbm, 881, rfl⟩
abbrev main_cst_16 : Ref sig .tc := ⟨.hbm, 882, rfl⟩
abbrev main_v68 : Ref sig .tc := ⟨.hbm, 883, rfl⟩
abbrev main_v69 : Ref sig .tc := ⟨.hbm, 884, rfl⟩
abbrev main_cst_17 : Ref sig .tc := ⟨.hbm, 885, rfl⟩
abbrev main_v70 : Ref sig .tc := ⟨.hbm, 886, rfl⟩
abbrev main_v71 : Ref sig .tc := ⟨.hbm, 887, rfl⟩
abbrev main_v72 : Ref sig .tc := ⟨.hbm, 888, rfl⟩
abbrev main_cst_18 : Ref sig .tc := ⟨.hbm, 889, rfl⟩
abbrev main_cst_19 : Ref sig .tc := ⟨.hbm, 890, rfl⟩
abbrev main_call7_v0 : Ref sig .tc := ⟨.hbm, 891, rfl⟩
abbrev main_call7_v1 : Ref sig .tc := ⟨.hbm, 892, rfl⟩
abbrev main_call7_v2 : Ref sig .tc := ⟨.hbm, 893, rfl⟩
abbrev main_call7_v3 : Ref sig .tc := ⟨.hbm, 894, rfl⟩
abbrev main_call7_v4 : Ref sig .tc := ⟨.hbm, 895, rfl⟩
abbrev main_v73 : Ref sig .tc := ⟨.hbm, 896, rfl⟩
abbrev main_cst_20 : Ref sig .tc := ⟨.hbm, 897, rfl⟩
abbrev main_v74 : Ref sig .tc := ⟨.hbm, 898, rfl⟩
abbrev main_v75 : Ref sig .tc := ⟨.hbm, 899, rfl⟩
abbrev main_v76 : Ref sig .tc := ⟨.hbm, 900, rfl⟩
abbrev main_cst_21 : Ref sig .tc := ⟨.hbm, 901, rfl⟩
abbrev main_cst_22 : Ref sig .tc := ⟨.hbm, 902, rfl⟩
abbrev main_call8_v0 : Ref sig .tc := ⟨.hbm, 903, rfl⟩
abbrev main_call8_v1 : Ref sig .tc := ⟨.hbm, 904, rfl⟩
abbrev main_call8_v2 : Ref sig .tc := ⟨.hbm, 905, rfl⟩
abbrev main_call8_v3 : Ref sig .tc := ⟨.hbm, 906, rfl⟩
abbrev main_call8_v4 : Ref sig .tc := ⟨.hbm, 907, rfl⟩
abbrev main_v77 : Ref sig .tc := ⟨.hbm, 908, rfl⟩
abbrev main_call9_cst : Ref sig .tc := ⟨.hbm, 909, rfl⟩
abbrev main_call9_cst_0 : Ref sig .tc := ⟨.hbm, 910, rfl⟩
abbrev main_call9_call0_v0 : Ref sig .tc := ⟨.hbm, 911, rfl⟩
abbrev main_call9_call0_v1 : Ref sig .tc := ⟨.hbm, 912, rfl⟩
abbrev main_call9_call0_v2 : Ref sig .tc := ⟨.hbm, 913, rfl⟩
abbrev main_call9_call0_v3 : Ref sig .tc := ⟨.hbm, 914, rfl⟩
abbrev main_call9_call0_v4 : Ref sig .tc := ⟨.hbm, 915, rfl⟩
abbrev main_call9_call0_v5 : Ref sig .tc := ⟨.hbm, 916, rfl⟩
abbrev main_call9_call0_v6 : Ref sig .tc := ⟨.hbm, 917, rfl⟩
abbrev main_call9_call0_v7 : Ref sig .tc := ⟨.hbm, 918, rfl⟩
abbrev main_call9_call0_v8 : Ref sig .tc := ⟨.hbm, 919, rfl⟩
abbrev main_call9_call0_v9 : Ref sig .tc := ⟨.hbm, 920, rfl⟩
abbrev main_call9_call0_v10 : Ref sig .tc := ⟨.hbm, 921, rfl⟩
abbrev main_call9_call0_v11 : Ref sig .tc := ⟨.hbm, 922, rfl⟩
abbrev main_call9_call0_c : Ref sig .tc := ⟨.hbm, 923, rfl⟩
abbrev main_call9_call0_v12 : Ref sig .tc := ⟨.hbm, 924, rfl⟩
abbrev main_call9_call0_v13 : Ref sig .tc := ⟨.hbm, 925, rfl⟩
abbrev main_call9_call0_c_0 : Ref sig .tc := ⟨.hbm, 926, rfl⟩
abbrev main_call9_call0_v14 : Ref sig .tc := ⟨.hbm, 927, rfl⟩
abbrev main_call9_call0_v15 : Ref sig .tc := ⟨.hbm, 928, rfl⟩
abbrev main_call9_call0_c_1 : Ref sig .tc := ⟨.hbm, 929, rfl⟩
abbrev main_call9_call0_v16 : Ref sig .tc := ⟨.hbm, 930, rfl⟩
abbrev main_call9_call0_v17 : Ref sig .tc := ⟨.hbm, 931, rfl⟩
abbrev main_call9_call0_c_2 : Ref sig .tc := ⟨.hbm, 932, rfl⟩
abbrev main_call9_call0_v18 : Ref sig .tc := ⟨.hbm, 933, rfl⟩
abbrev main_call9_call0_v19 : Ref sig .tc := ⟨.hbm, 934, rfl⟩
abbrev main_call9_call0_v20 : Ref sig .tc := ⟨.hbm, 935, rfl⟩
abbrev main_call9_call0_v21 : Ref sig .tc := ⟨.hbm, 936, rfl⟩
abbrev main_call9_call0_v22 : Ref sig .tc := ⟨.hbm, 937, rfl⟩
abbrev main_call9_call0_c_3 : Ref sig .tc := ⟨.hbm, 938, rfl⟩
abbrev main_call9_call0_v23 : Ref sig .tc := ⟨.hbm, 939, rfl⟩
abbrev main_call9_call0_v24 : Ref sig .tc := ⟨.hbm, 940, rfl⟩
abbrev main_call9_call0_v25 : Ref sig .tc := ⟨.hbm, 941, rfl⟩
abbrev main_call9_call0_v26 : Ref sig .tc := ⟨.hbm, 942, rfl⟩
abbrev main_call9_call0_call0_v0 : Ref sig .tc := ⟨.hbm, 943, rfl⟩
abbrev main_call9_call0_call0_c : Ref sig .tc := ⟨.hbm, 944, rfl⟩
abbrev main_call9_call0_call0_v1 : Ref sig .tc := ⟨.hbm, 945, rfl⟩
abbrev main_call9_call0_call0_v2 : Ref sig .tc := ⟨.hbm, 946, rfl⟩
abbrev main_call9_call0_call0_v3 : Ref sig .tc := ⟨.hbm, 947, rfl⟩
abbrev main_call9_call0_call0_v4 : Ref sig .tc := ⟨.hbm, 948, rfl⟩
abbrev main_call9_call0_call0_v5 : Ref sig .tc := ⟨.hbm, 949, rfl⟩
abbrev main_call9_call0_call0_v6 : Ref sig .tc := ⟨.hbm, 950, rfl⟩
abbrev main_call9_call0_call0_c_0 : Ref sig .tc := ⟨.hbm, 951, rfl⟩
abbrev main_call9_call0_call0_v7 : Ref sig .tc := ⟨.hbm, 952, rfl⟩
abbrev main_call9_call0_call0_v8 : Ref sig .tc := ⟨.hbm, 953, rfl⟩
abbrev main_call9_call0_call0_c_1 : Ref sig .tc := ⟨.hbm, 954, rfl⟩
abbrev main_call9_call0_call0_v9 : Ref sig .tc := ⟨.hbm, 955, rfl⟩
abbrev main_call9_call0_call0_v10 : Ref sig .tc := ⟨.hbm, 956, rfl⟩
abbrev main_call9_call0_call0_v11 : Ref sig .tc := ⟨.hbm, 957, rfl⟩
abbrev main_call9_call0_call0_v12 : Ref sig .tc := ⟨.hbm, 958, rfl⟩
abbrev main_call9_call0_call0_v13 : Ref sig .tc := ⟨.hbm, 959, rfl⟩
abbrev main_call9_call0_call0_c_2 : Ref sig .tc := ⟨.hbm, 960, rfl⟩
abbrev main_call9_call0_call0_v14 : Ref sig .tc := ⟨.hbm, 961, rfl⟩
abbrev main_call9_call0_call0_v15 : Ref sig .tc := ⟨.hbm, 962, rfl⟩
abbrev main_call9_call0_call0_c_3 : Ref sig .tc := ⟨.hbm, 963, rfl⟩
abbrev main_call9_call0_call0_v16 : Ref sig .tc := ⟨.hbm, 964, rfl⟩
abbrev main_call9_call0_call0_v17 : Ref sig .tc := ⟨.hbm, 965, rfl⟩
abbrev main_call9_call0_call0_v18 : Ref sig .tc := ⟨.hbm, 966, rfl⟩
abbrev main_call9_call0_call0_v19 : Ref sig .tc := ⟨.hbm, 967, rfl⟩
abbrev main_call9_call0_call0_v20 : Ref sig .tc := ⟨.hbm, 968, rfl⟩
abbrev main_call9_call0_call0_c_4 : Ref sig .tc := ⟨.hbm, 969, rfl⟩
abbrev main_call9_call0_call0_v21 : Ref sig .tc := ⟨.hbm, 970, rfl⟩
abbrev main_call9_call0_call0_v22 : Ref sig .tc := ⟨.hbm, 971, rfl⟩
abbrev main_call9_call0_call0_c_5 : Ref sig .tc := ⟨.hbm, 972, rfl⟩
abbrev main_call9_call0_call0_v23 : Ref sig .tc := ⟨.hbm, 973, rfl⟩
abbrev main_call9_call0_call0_v24 : Ref sig .tc := ⟨.hbm, 974, rfl⟩
abbrev main_call9_call0_call0_v25 : Ref sig .tc := ⟨.hbm, 975, rfl⟩
abbrev main_call9_call0_call0_v26 : Ref sig .tc := ⟨.hbm, 976, rfl⟩
abbrev main_call9_call0_call0_v27 : Ref sig .tc := ⟨.hbm, 977, rfl⟩
abbrev main_call9_call0_call0_c_6 : Ref sig .tc := ⟨.hbm, 978, rfl⟩
abbrev main_call9_call0_call0_v28 : Ref sig .tc := ⟨.hbm, 979, rfl⟩
abbrev main_call9_call0_call0_v29 : Ref sig .tc := ⟨.hbm, 980, rfl⟩
abbrev main_call9_call0_call0_c_7 : Ref sig .tc := ⟨.hbm, 981, rfl⟩
abbrev main_call9_call0_call0_v30 : Ref sig .tc := ⟨.hbm, 982, rfl⟩
abbrev main_call9_call0_call0_v31 : Ref sig .tc := ⟨.hbm, 983, rfl⟩
abbrev main_call9_call0_call0_v32 : Ref sig .tc := ⟨.hbm, 984, rfl⟩
abbrev main_call9_call0_call0_v33 : Ref sig .tc := ⟨.hbm, 985, rfl⟩
abbrev main_call9_call0_call0_v34 : Ref sig .tc := ⟨.hbm, 986, rfl⟩
abbrev main_call9_call0_call0_v35 : Ref sig .tc := ⟨.hbm, 987, rfl⟩
abbrev main_call9_call0_call0_v36 : Ref sig .tc := ⟨.hbm, 988, rfl⟩
abbrev main_call9_call0_call0_v37 : Ref sig .tc := ⟨.hbm, 989, rfl⟩
abbrev main_call9_call0_call0_c_8 : Ref sig .tc := ⟨.hbm, 990, rfl⟩
abbrev main_call9_call0_call0_v38 : Ref sig .tc := ⟨.hbm, 991, rfl⟩
abbrev main_call9_call0_call0_v39 : Ref sig .tc := ⟨.hbm, 992, rfl⟩
abbrev main_call9_call0_call0_v40 : Ref sig .tc := ⟨.hbm, 993, rfl⟩
abbrev main_call9_call0_call0_c_9 : Ref sig .tc := ⟨.hbm, 994, rfl⟩
abbrev main_call9_call0_call0_v41 : Ref sig .tc := ⟨.hbm, 995, rfl⟩
abbrev main_call9_call0_call0_v42 : Ref sig .tc := ⟨.hbm, 996, rfl⟩
abbrev main_call9_call0_call0_c_10 : Ref sig .tc := ⟨.hbm, 997, rfl⟩
abbrev main_call9_call0_call0_v43 : Ref sig .tc := ⟨.hbm, 998, rfl⟩
abbrev main_call9_call0_call0_v44 : Ref sig .tc := ⟨.hbm, 999, rfl⟩
abbrev main_call9_call0_call0_v45 : Ref sig .tc := ⟨.hbm, 1000, rfl⟩
abbrev main_call9_call0_call0_v46 : Ref sig .tc := ⟨.hbm, 1001, rfl⟩
abbrev main_call9_call0_call0_v47 : Ref sig .tc := ⟨.hbm, 1002, rfl⟩
abbrev main_call9_call0_call0_c_11 : Ref sig .tc := ⟨.hbm, 1003, rfl⟩
abbrev main_call9_call0_call0_v48 : Ref sig .tc := ⟨.hbm, 1004, rfl⟩
abbrev main_call9_call0_call0_v49 : Ref sig .tc := ⟨.hbm, 1005, rfl⟩
abbrev main_call9_call0_call0_c_12 : Ref sig .tc := ⟨.hbm, 1006, rfl⟩
abbrev main_call9_call0_call0_v50 : Ref sig .tc := ⟨.hbm, 1007, rfl⟩
abbrev main_call9_call0_call0_v51 : Ref sig .tc := ⟨.hbm, 1008, rfl⟩
abbrev main_call9_call0_call0_v52 : Ref sig .tc := ⟨.hbm, 1009, rfl⟩
abbrev main_call9_call0_call0_v53 : Ref sig .tc := ⟨.hbm, 1010, rfl⟩
abbrev main_call9_call0_call0_v54 : Ref sig .tc := ⟨.hbm, 1011, rfl⟩
abbrev main_call9_call0_call0_c_13 : Ref sig .tc := ⟨.hbm, 1012, rfl⟩
abbrev main_call9_call0_call0_v55 : Ref sig .tc := ⟨.hbm, 1013, rfl⟩
abbrev main_call9_call0_call0_v56 : Ref sig .tc := ⟨.hbm, 1014, rfl⟩
abbrev main_call9_call0_call0_c_14 : Ref sig .tc := ⟨.hbm, 1015, rfl⟩
abbrev main_call9_call0_call0_v57 : Ref sig .tc := ⟨.hbm, 1016, rfl⟩
abbrev main_call9_call0_call0_v58 : Ref sig .tc := ⟨.hbm, 1017, rfl⟩
abbrev main_call9_call0_call0_v59 : Ref sig .tc := ⟨.hbm, 1018, rfl⟩
abbrev main_call9_call0_call0_v60 : Ref sig .tc := ⟨.hbm, 1019, rfl⟩
abbrev main_call9_call0_call0_v61 : Ref sig .tc := ⟨.hbm, 1020, rfl⟩
abbrev main_call9_call0_call0_c_15 : Ref sig .tc := ⟨.hbm, 1021, rfl⟩
abbrev main_call9_call0_call0_v62 : Ref sig .tc := ⟨.hbm, 1022, rfl⟩
abbrev main_call9_call0_call0_v63 : Ref sig .tc := ⟨.hbm, 1023, rfl⟩
abbrev main_call9_call0_call0_c_16 : Ref sig .tc := ⟨.hbm, 1024, rfl⟩
abbrev main_call9_call0_call0_v64 : Ref sig .tc := ⟨.hbm, 1025, rfl⟩
abbrev main_call9_call0_call0_v65 : Ref sig .tc := ⟨.hbm, 1026, rfl⟩
abbrev main_call9_call0_call0_v66 : Ref sig .tc := ⟨.hbm, 1027, rfl⟩
abbrev main_call9_call0_call0_v67 : Ref sig .tc := ⟨.hbm, 1028, rfl⟩
abbrev main_call9_call0_call0_v68 : Ref sig .tc := ⟨.hbm, 1029, rfl⟩
abbrev main_call9_call0_call0_v69 : Ref sig .tc := ⟨.hbm, 1030, rfl⟩
abbrev main_call9_call0_call0_v70 : Ref sig .tc := ⟨.hbm, 1031, rfl⟩
abbrev main_call9_call0_call0_v71 : Ref sig .tc := ⟨.hbm, 1032, rfl⟩
abbrev main_call9_call0_call0_c_17 : Ref sig .tc := ⟨.hbm, 1033, rfl⟩
abbrev main_call9_call0_call0_v72 : Ref sig .tc := ⟨.hbm, 1034, rfl⟩
abbrev main_call9_call0_call0_v73 : Ref sig .tc := ⟨.hbm, 1035, rfl⟩
abbrev main_call9_call0_call0_v74 : Ref sig .tc := ⟨.hbm, 1036, rfl⟩
abbrev main_call9_call0_call0_c_18 : Ref sig .tc := ⟨.hbm, 1037, rfl⟩
abbrev main_call9_call0_call0_v75 : Ref sig .tc := ⟨.hbm, 1038, rfl⟩
abbrev main_call9_call0_call0_v76 : Ref sig .tc := ⟨.hbm, 1039, rfl⟩
abbrev main_call9_call0_call0_c_19 : Ref sig .tc := ⟨.hbm, 1040, rfl⟩
abbrev main_call9_call0_call0_v77 : Ref sig .tc := ⟨.hbm, 1041, rfl⟩
abbrev main_call9_call0_call0_v78 : Ref sig .tc := ⟨.hbm, 1042, rfl⟩
abbrev main_call9_call0_call0_v79 : Ref sig .tc := ⟨.hbm, 1043, rfl⟩
abbrev main_call9_call0_call0_v80 : Ref sig .tc := ⟨.hbm, 1044, rfl⟩
abbrev main_call9_call0_call0_v81 : Ref sig .tc := ⟨.hbm, 1045, rfl⟩
abbrev main_call9_call0_call0_c_20 : Ref sig .tc := ⟨.hbm, 1046, rfl⟩
abbrev main_call9_call0_call0_v82 : Ref sig .tc := ⟨.hbm, 1047, rfl⟩
abbrev main_call9_call0_call0_v83 : Ref sig .tc := ⟨.hbm, 1048, rfl⟩
abbrev main_call9_call0_call0_c_21 : Ref sig .tc := ⟨.hbm, 1049, rfl⟩
abbrev main_call9_call0_call0_v84 : Ref sig .tc := ⟨.hbm, 1050, rfl⟩
abbrev main_call9_call0_call0_v85 : Ref sig .tc := ⟨.hbm, 1051, rfl⟩
abbrev main_call9_call0_call0_v86 : Ref sig .tc := ⟨.hbm, 1052, rfl⟩
abbrev main_call9_call0_call0_v87 : Ref sig .tc := ⟨.hbm, 1053, rfl⟩
abbrev main_call9_call0_call0_v88 : Ref sig .tc := ⟨.hbm, 1054, rfl⟩
abbrev main_call9_call0_call0_c_22 : Ref sig .tc := ⟨.hbm, 1055, rfl⟩
abbrev main_call9_call0_call0_v89 : Ref sig .tc := ⟨.hbm, 1056, rfl⟩
abbrev main_call9_call0_call0_v90 : Ref sig .tc := ⟨.hbm, 1057, rfl⟩
abbrev main_call9_call0_call0_c_23 : Ref sig .tc := ⟨.hbm, 1058, rfl⟩
abbrev main_call9_call0_call0_v91 : Ref sig .tc := ⟨.hbm, 1059, rfl⟩
abbrev main_call9_call0_call0_v92 : Ref sig .tc := ⟨.hbm, 1060, rfl⟩
abbrev main_call9_call0_call0_v93 : Ref sig .tc := ⟨.hbm, 1061, rfl⟩
abbrev main_call9_call0_call0_v94 : Ref sig .tc := ⟨.hbm, 1062, rfl⟩
abbrev main_call9_call0_call0_v95 : Ref sig .tc := ⟨.hbm, 1063, rfl⟩
abbrev main_call9_call0_call0_c_24 : Ref sig .tc := ⟨.hbm, 1064, rfl⟩
abbrev main_call9_call0_call0_v96 : Ref sig .tc := ⟨.hbm, 1065, rfl⟩
abbrev main_call9_call0_call0_v97 : Ref sig .tc := ⟨.hbm, 1066, rfl⟩
abbrev main_call9_call0_call0_c_25 : Ref sig .tc := ⟨.hbm, 1067, rfl⟩
abbrev main_call9_call0_call0_v98 : Ref sig .tc := ⟨.hbm, 1068, rfl⟩
abbrev main_call9_call0_call0_v99 : Ref sig .tc := ⟨.hbm, 1069, rfl⟩
abbrev main_call9_call0_call0_v100 : Ref sig .tc := ⟨.hbm, 1070, rfl⟩
abbrev main_call9_call0_call0_v101 : Ref sig .tc := ⟨.hbm, 1071, rfl⟩
abbrev main_call9_call0_call0_v102 : Ref sig .tc := ⟨.hbm, 1072, rfl⟩
abbrev main_call9_call0_call0_v103 : Ref sig .tc := ⟨.hbm, 1073, rfl⟩
abbrev main_call9_call0_call0_v104 : Ref sig .tc := ⟨.hbm, 1074, rfl⟩
abbrev main_call9_call0_call0_v105 : Ref sig .tc := ⟨.hbm, 1075, rfl⟩
abbrev main_call9_call0_call0_c_26 : Ref sig .tc := ⟨.hbm, 1076, rfl⟩
abbrev main_call9_call0_call0_v106 : Ref sig .tc := ⟨.hbm, 1077, rfl⟩
abbrev main_call9_call0_call0_v107 : Ref sig .tc := ⟨.hbm, 1078, rfl⟩
abbrev main_call9_call0_call0_v108 : Ref sig .tc := ⟨.hbm, 1079, rfl⟩
abbrev main_call9_call0_call0_c_27 : Ref sig .tc := ⟨.hbm, 1080, rfl⟩
abbrev main_call9_call0_call0_v109 : Ref sig .tc := ⟨.hbm, 1081, rfl⟩
abbrev main_call9_call0_call0_v110 : Ref sig .tc := ⟨.hbm, 1082, rfl⟩
abbrev main_call9_call0_call0_c_28 : Ref sig .tc := ⟨.hbm, 1083, rfl⟩
abbrev main_call9_call0_call0_v111 : Ref sig .tc := ⟨.hbm, 1084, rfl⟩
abbrev main_call9_call0_call0_v112 : Ref sig .tc := ⟨.hbm, 1085, rfl⟩
abbrev main_call9_call0_call0_v113 : Ref sig .tc := ⟨.hbm, 1086, rfl⟩
abbrev main_call9_call0_call0_v114 : Ref sig .tc := ⟨.hbm, 1087, rfl⟩
abbrev main_call9_call0_call0_v115 : Ref sig .tc := ⟨.hbm, 1088, rfl⟩
abbrev main_call9_call0_call0_c_29 : Ref sig .tc := ⟨.hbm, 1089, rfl⟩
abbrev main_call9_call0_call0_v116 : Ref sig .tc := ⟨.hbm, 1090, rfl⟩
abbrev main_call9_call0_call0_v117 : Ref sig .tc := ⟨.hbm, 1091, rfl⟩
abbrev main_call9_call0_call0_c_30 : Ref sig .tc := ⟨.hbm, 1092, rfl⟩
abbrev main_call9_call0_call0_v118 : Ref sig .tc := ⟨.hbm, 1093, rfl⟩
abbrev main_call9_call0_call0_v119 : Ref sig .tc := ⟨.hbm, 1094, rfl⟩
abbrev main_call9_call0_call0_v120 : Ref sig .tc := ⟨.hbm, 1095, rfl⟩
abbrev main_call9_call0_call0_v121 : Ref sig .tc := ⟨.hbm, 1096, rfl⟩
abbrev main_call9_call0_call0_v122 : Ref sig .tc := ⟨.hbm, 1097, rfl⟩
abbrev main_call9_call0_call0_c_31 : Ref sig .tc := ⟨.hbm, 1098, rfl⟩
abbrev main_call9_call0_call0_v123 : Ref sig .tc := ⟨.hbm, 1099, rfl⟩
abbrev main_call9_call0_call0_v124 : Ref sig .tc := ⟨.hbm, 1100, rfl⟩
abbrev main_call9_call0_call0_c_32 : Ref sig .tc := ⟨.hbm, 1101, rfl⟩
abbrev main_call9_call0_call0_v125 : Ref sig .tc := ⟨.hbm, 1102, rfl⟩
abbrev main_call9_call0_call0_v126 : Ref sig .tc := ⟨.hbm, 1103, rfl⟩
abbrev main_call9_call0_call0_v127 : Ref sig .tc := ⟨.hbm, 1104, rfl⟩
abbrev main_call9_call0_call0_v128 : Ref sig .tc := ⟨.hbm, 1105, rfl⟩
abbrev main_call9_call0_call0_v129 : Ref sig .tc := ⟨.hbm, 1106, rfl⟩
abbrev main_call9_call0_call0_c_33 : Ref sig .tc := ⟨.hbm, 1107, rfl⟩
abbrev main_call9_call0_call0_v130 : Ref sig .tc := ⟨.hbm, 1108, rfl⟩
abbrev main_call9_call0_call0_v131 : Ref sig .tc := ⟨.hbm, 1109, rfl⟩
abbrev main_call9_call0_call0_c_34 : Ref sig .tc := ⟨.hbm, 1110, rfl⟩
abbrev main_call9_call0_call0_v132 : Ref sig .tc := ⟨.hbm, 1111, rfl⟩
abbrev main_call9_call0_call0_v133 : Ref sig .tc := ⟨.hbm, 1112, rfl⟩
abbrev main_call9_call0_call0_v134 : Ref sig .tc := ⟨.hbm, 1113, rfl⟩
abbrev main_call9_call0_call0_v135 : Ref sig .tc := ⟨.hbm, 1114, rfl⟩
abbrev main_call9_call0_call0_v136 : Ref sig .tc := ⟨.hbm, 1115, rfl⟩
abbrev main_call9_call0_call0_v137 : Ref sig .tc := ⟨.hbm, 1116, rfl⟩
abbrev main_call9_call0_call0_v138 : Ref sig .tc := ⟨.hbm, 1117, rfl⟩
abbrev main_call9_call0_call0_v139 : Ref sig .tc := ⟨.hbm, 1118, rfl⟩
abbrev main_call9_call0_call0_c_35 : Ref sig .tc := ⟨.hbm, 1119, rfl⟩
abbrev main_call9_call0_call0_v140 : Ref sig .tc := ⟨.hbm, 1120, rfl⟩
abbrev main_call9_call0_call0_v141 : Ref sig .tc := ⟨.hbm, 1121, rfl⟩
abbrev main_call9_call0_call0_v142 : Ref sig .tc := ⟨.hbm, 1122, rfl⟩
abbrev main_call9_call0_call0_c_36 : Ref sig .tc := ⟨.hbm, 1123, rfl⟩
abbrev main_call9_call0_call0_v143 : Ref sig .tc := ⟨.hbm, 1124, rfl⟩
abbrev main_call9_call0_call0_v144 : Ref sig .tc := ⟨.hbm, 1125, rfl⟩
abbrev main_call9_call0_call0_c_37 : Ref sig .tc := ⟨.hbm, 1126, rfl⟩
abbrev main_call9_call0_call0_v145 : Ref sig .tc := ⟨.hbm, 1127, rfl⟩
abbrev main_call9_call0_call0_v146 : Ref sig .tc := ⟨.hbm, 1128, rfl⟩
abbrev main_call9_call0_call0_v147 : Ref sig .tc := ⟨.hbm, 1129, rfl⟩
abbrev main_call9_call0_call0_v148 : Ref sig .tc := ⟨.hbm, 1130, rfl⟩
abbrev main_call9_call0_call0_v149 : Ref sig .tc := ⟨.hbm, 1131, rfl⟩
abbrev main_call9_call0_call0_c_38 : Ref sig .tc := ⟨.hbm, 1132, rfl⟩
abbrev main_call9_call0_call0_v150 : Ref sig .tc := ⟨.hbm, 1133, rfl⟩
abbrev main_call9_call0_call0_v151 : Ref sig .tc := ⟨.hbm, 1134, rfl⟩
abbrev main_call9_call0_call0_c_39 : Ref sig .tc := ⟨.hbm, 1135, rfl⟩
abbrev main_call9_call0_call0_v152 : Ref sig .tc := ⟨.hbm, 1136, rfl⟩
abbrev main_call9_call0_call0_v153 : Ref sig .tc := ⟨.hbm, 1137, rfl⟩
abbrev main_call9_call0_call0_v154 : Ref sig .tc := ⟨.hbm, 1138, rfl⟩
abbrev main_call9_call0_call0_v155 : Ref sig .tc := ⟨.hbm, 1139, rfl⟩
abbrev main_call9_call0_call0_v156 : Ref sig .tc := ⟨.hbm, 1140, rfl⟩
abbrev main_call9_call0_call0_c_40 : Ref sig .tc := ⟨.hbm, 1141, rfl⟩
abbrev main_call9_call0_call0_v157 : Ref sig .tc := ⟨.hbm, 1142, rfl⟩
abbrev main_call9_call0_call0_v158 : Ref sig .tc := ⟨.hbm, 1143, rfl⟩
abbrev main_call9_call0_call0_c_41 : Ref sig .tc := ⟨.hbm, 1144, rfl⟩
abbrev main_call9_call0_call0_v159 : Ref sig .tc := ⟨.hbm, 1145, rfl⟩
abbrev main_call9_call0_call0_v160 : Ref sig .tc := ⟨.hbm, 1146, rfl⟩
abbrev main_call9_call0_call0_v161 : Ref sig .tc := ⟨.hbm, 1147, rfl⟩
abbrev main_call9_call0_call0_v162 : Ref sig .tc := ⟨.hbm, 1148, rfl⟩
abbrev main_call9_call0_call0_v163 : Ref sig .tc := ⟨.hbm, 1149, rfl⟩
abbrev main_call9_call0_call0_c_42 : Ref sig .tc := ⟨.hbm, 1150, rfl⟩
abbrev main_call9_call0_call0_v164 : Ref sig .tc := ⟨.hbm, 1151, rfl⟩
abbrev main_call9_call0_call0_v165 : Ref sig .tc := ⟨.hbm, 1152, rfl⟩
abbrev main_call9_call0_call0_c_43 : Ref sig .tc := ⟨.hbm, 1153, rfl⟩
abbrev main_call9_call0_call0_v166 : Ref sig .tc := ⟨.hbm, 1154, rfl⟩
abbrev main_call9_call0_call0_v167 : Ref sig .tc := ⟨.hbm, 1155, rfl⟩
abbrev main_call9_call0_call0_v168 : Ref sig .tc := ⟨.hbm, 1156, rfl⟩
abbrev main_call9_call0_call0_v169 : Ref sig .tc := ⟨.hbm, 1157, rfl⟩
abbrev main_call9_call0_call0_v170 : Ref sig .tc := ⟨.hbm, 1158, rfl⟩
abbrev main_call9_call0_v27_0 : Ref sig .tc := ⟨.hbm, 1159, rfl⟩
abbrev main_call9_call0_call0_v172 : Ref sig .tc := ⟨.hbm, 1160, rfl⟩
abbrev main_call9_call0_call0_v173 : Ref sig .tc := ⟨.hbm, 1161, rfl⟩
abbrev main_call9_call0_call0_c_44 : Ref sig .tc := ⟨.hbm, 1162, rfl⟩
abbrev main_call9_call0_call0_v174 : Ref sig .tc := ⟨.hbm, 1163, rfl⟩
abbrev main_call9_call0_v27_1 : Ref sig .tc := ⟨.hbm, 1164, rfl⟩
abbrev main_call9_call0_v28 : Ref sig .tc := ⟨.hbm, 1165, rfl⟩
abbrev main_call9_call0_c_4 : Ref sig .tc := ⟨.hbm, 1166, rfl⟩
abbrev main_call9_call0_v29 : Ref sig .tc := ⟨.hbm, 1167, rfl⟩
abbrev main_call9_call0_v30 : Ref sig .tc := ⟨.hbm, 1168, rfl⟩
abbrev main_call9_call0_c_5 : Ref sig .tc := ⟨.hbm, 1169, rfl⟩
abbrev main_call9_call0_v31 : Ref sig .tc := ⟨.hbm, 1170, rfl⟩
abbrev main_call9_call0_v32 : Ref sig .tc := ⟨.hbm, 1171, rfl⟩
abbrev main_call9_call0_v33 : Ref sig .tc := ⟨.hbm, 1172, rfl⟩
abbrev main_call9_call0_cst : Ref sig .tc := ⟨.hbm, 1173, rfl⟩
abbrev main_call9_call0_v34 : Ref sig .tc := ⟨.hbm, 1174, rfl⟩
abbrev main_call9_call0_v35 : Ref sig .tc := ⟨.hbm, 1175, rfl⟩
abbrev main_call9_call0_v36 : Ref sig .tc := ⟨.hbm, 1176, rfl⟩
abbrev main_call9_call0_v37 : Ref sig .tc := ⟨.hbm, 1177, rfl⟩
abbrev main_call9_call0_v38 : Ref sig .tc := ⟨.hbm, 1178, rfl⟩
abbrev main_call9_call0_v39 : Ref sig .tc := ⟨.hbm, 1179, rfl⟩
abbrev main_call9_call0_v40 : Ref sig .tc := ⟨.hbm, 1180, rfl⟩
abbrev main_call9_call0_v41 : Ref sig .tc := ⟨.hbm, 1181, rfl⟩
abbrev main_call9_v0 : Ref sig .tc := ⟨.hbm, 1182, rfl⟩
abbrev main_v78 : Ref sig .tc := ⟨.hbm, 1183, rfl⟩
abbrev main_v79 : Ref sig .tc := ⟨.hbm, 1184, rfl⟩
abbrev main_call10_cst : Ref sig .tc := ⟨.hbm, 1185, rfl⟩
abbrev main_call10_cst_0 : Ref sig .tc := ⟨.hbm, 1186, rfl⟩
abbrev main_call10_call0_v0 : Ref sig .tc := ⟨.hbm, 1187, rfl⟩
abbrev main_call10_call0_v1 : Ref sig .tc := ⟨.hbm, 1188, rfl⟩
abbrev main_call10_call0_v2 : Ref sig .tc := ⟨.hbm, 1189, rfl⟩
abbrev main_call10_call0_v3 : Ref sig .tc := ⟨.hbm, 1190, rfl⟩
abbrev main_call10_call0_v4 : Ref sig .tc := ⟨.hbm, 1191, rfl⟩
abbrev main_call10_call0_v5 : Ref sig .tc := ⟨.hbm, 1192, rfl⟩
abbrev main_call10_call0_v6 : Ref sig .tc := ⟨.hbm, 1193, rfl⟩
abbrev main_call10_call0_v7 : Ref sig .tc := ⟨.hbm, 1194, rfl⟩
abbrev main_call10_call0_v8 : Ref sig .tc := ⟨.hbm, 1195, rfl⟩
abbrev main_call10_call0_v9 : Ref sig .tc := ⟨.hbm, 1196, rfl⟩
abbrev main_call10_call0_v10 : Ref sig .tc := ⟨.hbm, 1197, rfl⟩
abbrev main_call10_call0_v11 : Ref sig .tc := ⟨.hbm, 1198, rfl⟩
abbrev main_call10_call0_c : Ref sig .tc := ⟨.hbm, 1199, rfl⟩
abbrev main_call10_call0_v12 : Ref sig .tc := ⟨.hbm, 1200, rfl⟩
abbrev main_call10_call0_v13 : Ref sig .tc := ⟨.hbm, 1201, rfl⟩
abbrev main_call10_call0_c_0 : Ref sig .tc := ⟨.hbm, 1202, rfl⟩
abbrev main_call10_call0_v14 : Ref sig .tc := ⟨.hbm, 1203, rfl⟩
abbrev main_call10_call0_v15 : Ref sig .tc := ⟨.hbm, 1204, rfl⟩
abbrev main_call10_call0_c_1 : Ref sig .tc := ⟨.hbm, 1205, rfl⟩
abbrev main_call10_call0_v16 : Ref sig .tc := ⟨.hbm, 1206, rfl⟩
abbrev main_call10_call0_v17 : Ref sig .tc := ⟨.hbm, 1207, rfl⟩
abbrev main_call10_call0_c_2 : Ref sig .tc := ⟨.hbm, 1208, rfl⟩
abbrev main_call10_call0_v18 : Ref sig .tc := ⟨.hbm, 1209, rfl⟩
abbrev main_call10_call0_v19 : Ref sig .tc := ⟨.hbm, 1210, rfl⟩
abbrev main_call10_call0_v20 : Ref sig .tc := ⟨.hbm, 1211, rfl⟩
abbrev main_call10_call0_v21 : Ref sig .tc := ⟨.hbm, 1212, rfl⟩
abbrev main_call10_call0_v22 : Ref sig .tc := ⟨.hbm, 1213, rfl⟩
abbrev main_call10_call0_c_3 : Ref sig .tc := ⟨.hbm, 1214, rfl⟩
abbrev main_call10_call0_v23 : Ref sig .tc := ⟨.hbm, 1215, rfl⟩
abbrev main_call10_call0_v24 : Ref sig .tc := ⟨.hbm, 1216, rfl⟩
abbrev main_call10_call0_v25 : Ref sig .tc := ⟨.hbm, 1217, rfl⟩
abbrev main_call10_call0_v26 : Ref sig .tc := ⟨.hbm, 1218, rfl⟩
abbrev main_call10_call0_call0_v0 : Ref sig .tc := ⟨.hbm, 1219, rfl⟩
abbrev main_call10_call0_call0_c : Ref sig .tc := ⟨.hbm, 1220, rfl⟩
abbrev main_call10_call0_call0_v1 : Ref sig .tc := ⟨.hbm, 1221, rfl⟩
abbrev main_call10_call0_call0_v2 : Ref sig .tc := ⟨.hbm, 1222, rfl⟩
abbrev main_call10_call0_call0_v3 : Ref sig .tc := ⟨.hbm, 1223, rfl⟩
abbrev main_call10_call0_call0_v4 : Ref sig .tc := ⟨.hbm, 1224, rfl⟩
abbrev main_call10_call0_call0_v5 : Ref sig .tc := ⟨.hbm, 1225, rfl⟩
abbrev main_call10_call0_call0_v6 : Ref sig .tc := ⟨.hbm, 1226, rfl⟩
abbrev main_call10_call0_call0_c_0 : Ref sig .tc := ⟨.hbm, 1227, rfl⟩
abbrev main_call10_call0_call0_v7 : Ref sig .tc := ⟨.hbm, 1228, rfl⟩
abbrev main_call10_call0_call0_v8 : Ref sig .tc := ⟨.hbm, 1229, rfl⟩
abbrev main_call10_call0_call0_c_1 : Ref sig .tc := ⟨.hbm, 1230, rfl⟩
abbrev main_call10_call0_call0_v9 : Ref sig .tc := ⟨.hbm, 1231, rfl⟩
abbrev main_call10_call0_call0_v10 : Ref sig .tc := ⟨.hbm, 1232, rfl⟩
abbrev main_call10_call0_call0_v11 : Ref sig .tc := ⟨.hbm, 1233, rfl⟩
abbrev main_call10_call0_call0_v12 : Ref sig .tc := ⟨.hbm, 1234, rfl⟩
abbrev main_call10_call0_call0_v13 : Ref sig .tc := ⟨.hbm, 1235, rfl⟩
abbrev main_call10_call0_call0_c_2 : Ref sig .tc := ⟨.hbm, 1236, rfl⟩
abbrev main_call10_call0_call0_v14 : Ref sig .tc := ⟨.hbm, 1237, rfl⟩
abbrev main_call10_call0_call0_v15 : Ref sig .tc := ⟨.hbm, 1238, rfl⟩
abbrev main_call10_call0_call0_c_3 : Ref sig .tc := ⟨.hbm, 1239, rfl⟩
abbrev main_call10_call0_call0_v16 : Ref sig .tc := ⟨.hbm, 1240, rfl⟩
abbrev main_call10_call0_call0_v17 : Ref sig .tc := ⟨.hbm, 1241, rfl⟩
abbrev main_call10_call0_call0_v18 : Ref sig .tc := ⟨.hbm, 1242, rfl⟩
abbrev main_call10_call0_call0_v19 : Ref sig .tc := ⟨.hbm, 1243, rfl⟩
abbrev main_call10_call0_call0_v20 : Ref sig .tc := ⟨.hbm, 1244, rfl⟩
abbrev main_call10_call0_call0_c_4 : Ref sig .tc := ⟨.hbm, 1245, rfl⟩
abbrev main_call10_call0_call0_v21 : Ref sig .tc := ⟨.hbm, 1246, rfl⟩
abbrev main_call10_call0_call0_v22 : Ref sig .tc := ⟨.hbm, 1247, rfl⟩
abbrev main_call10_call0_call0_c_5 : Ref sig .tc := ⟨.hbm, 1248, rfl⟩
abbrev main_call10_call0_call0_v23 : Ref sig .tc := ⟨.hbm, 1249, rfl⟩
abbrev main_call10_call0_call0_v24 : Ref sig .tc := ⟨.hbm, 1250, rfl⟩
abbrev main_call10_call0_call0_v25 : Ref sig .tc := ⟨.hbm, 1251, rfl⟩
abbrev main_call10_call0_call0_v26 : Ref sig .tc := ⟨.hbm, 1252, rfl⟩
abbrev main_call10_call0_call0_v27 : Ref sig .tc := ⟨.hbm, 1253, rfl⟩
abbrev main_call10_call0_call0_c_6 : Ref sig .tc := ⟨.hbm, 1254, rfl⟩
abbrev main_call10_call0_call0_v28 : Ref sig .tc := ⟨.hbm, 1255, rfl⟩
abbrev main_call10_call0_call0_v29 : Ref sig .tc := ⟨.hbm, 1256, rfl⟩
abbrev main_call10_call0_call0_c_7 : Ref sig .tc := ⟨.hbm, 1257, rfl⟩
abbrev main_call10_call0_call0_v30 : Ref sig .tc := ⟨.hbm, 1258, rfl⟩
abbrev main_call10_call0_call0_v31 : Ref sig .tc := ⟨.hbm, 1259, rfl⟩
abbrev main_call10_call0_call0_v32 : Ref sig .tc := ⟨.hbm, 1260, rfl⟩
abbrev main_call10_call0_call0_v33 : Ref sig .tc := ⟨.hbm, 1261, rfl⟩
abbrev main_call10_call0_call0_v34 : Ref sig .tc := ⟨.hbm, 1262, rfl⟩
abbrev main_call10_call0_call0_v35 : Ref sig .tc := ⟨.hbm, 1263, rfl⟩
abbrev main_call10_call0_call0_v36 : Ref sig .tc := ⟨.hbm, 1264, rfl⟩
abbrev main_call10_call0_call0_v37 : Ref sig .tc := ⟨.hbm, 1265, rfl⟩
abbrev main_call10_call0_call0_c_8 : Ref sig .tc := ⟨.hbm, 1266, rfl⟩
abbrev main_call10_call0_call0_v38 : Ref sig .tc := ⟨.hbm, 1267, rfl⟩
abbrev main_call10_call0_call0_v39 : Ref sig .tc := ⟨.hbm, 1268, rfl⟩
abbrev main_call10_call0_call0_v40 : Ref sig .tc := ⟨.hbm, 1269, rfl⟩
abbrev main_call10_call0_call0_c_9 : Ref sig .tc := ⟨.hbm, 1270, rfl⟩
abbrev main_call10_call0_call0_v41 : Ref sig .tc := ⟨.hbm, 1271, rfl⟩
abbrev main_call10_call0_call0_v42 : Ref sig .tc := ⟨.hbm, 1272, rfl⟩
abbrev main_call10_call0_call0_c_10 : Ref sig .tc := ⟨.hbm, 1273, rfl⟩
abbrev main_call10_call0_call0_v43 : Ref sig .tc := ⟨.hbm, 1274, rfl⟩
abbrev main_call10_call0_call0_v44 : Ref sig .tc := ⟨.hbm, 1275, rfl⟩
abbrev main_call10_call0_call0_v45 : Ref sig .tc := ⟨.hbm, 1276, rfl⟩
abbrev main_call10_call0_call0_v46 : Ref sig .tc := ⟨.hbm, 1277, rfl⟩
abbrev main_call10_call0_call0_v47 : Ref sig .tc := ⟨.hbm, 1278, rfl⟩
abbrev main_call10_call0_call0_c_11 : Ref sig .tc := ⟨.hbm, 1279, rfl⟩
abbrev main_call10_call0_call0_v48 : Ref sig .tc := ⟨.hbm, 1280, rfl⟩
abbrev main_call10_call0_call0_v49 : Ref sig .tc := ⟨.hbm, 1281, rfl⟩
abbrev main_call10_call0_call0_c_12 : Ref sig .tc := ⟨.hbm, 1282, rfl⟩
abbrev main_call10_call0_call0_v50 : Ref sig .tc := ⟨.hbm, 1283, rfl⟩
abbrev main_call10_call0_call0_v51 : Ref sig .tc := ⟨.hbm, 1284, rfl⟩
abbrev main_call10_call0_call0_v52 : Ref sig .tc := ⟨.hbm, 1285, rfl⟩
abbrev main_call10_call0_call0_v53 : Ref sig .tc := ⟨.hbm, 1286, rfl⟩
abbrev main_call10_call0_call0_v54 : Ref sig .tc := ⟨.hbm, 1287, rfl⟩
abbrev main_call10_call0_call0_c_13 : Ref sig .tc := ⟨.hbm, 1288, rfl⟩
abbrev main_call10_call0_call0_v55 : Ref sig .tc := ⟨.hbm, 1289, rfl⟩
abbrev main_call10_call0_call0_v56 : Ref sig .tc := ⟨.hbm, 1290, rfl⟩
abbrev main_call10_call0_call0_c_14 : Ref sig .tc := ⟨.hbm, 1291, rfl⟩
abbrev main_call10_call0_call0_v57 : Ref sig .tc := ⟨.hbm, 1292, rfl⟩
abbrev main_call10_call0_call0_v58 : Ref sig .tc := ⟨.hbm, 1293, rfl⟩
abbrev main_call10_call0_call0_v59 : Ref sig .tc := ⟨.hbm, 1294, rfl⟩
abbrev main_call10_call0_call0_v60 : Ref sig .tc := ⟨.hbm, 1295, rfl⟩
abbrev main_call10_call0_call0_v61 : Ref sig .tc := ⟨.hbm, 1296, rfl⟩
abbrev main_call10_call0_call0_c_15 : Ref sig .tc := ⟨.hbm, 1297, rfl⟩
abbrev main_call10_call0_call0_v62 : Ref sig .tc := ⟨.hbm, 1298, rfl⟩
abbrev main_call10_call0_call0_v63 : Ref sig .tc := ⟨.hbm, 1299, rfl⟩
abbrev main_call10_call0_call0_c_16 : Ref sig .tc := ⟨.hbm, 1300, rfl⟩
abbrev main_call10_call0_call0_v64 : Ref sig .tc := ⟨.hbm, 1301, rfl⟩
abbrev main_call10_call0_call0_v65 : Ref sig .tc := ⟨.hbm, 1302, rfl⟩
abbrev main_call10_call0_call0_v66 : Ref sig .tc := ⟨.hbm, 1303, rfl⟩
abbrev main_call10_call0_call0_v67 : Ref sig .tc := ⟨.hbm, 1304, rfl⟩
abbrev main_call10_call0_call0_v68 : Ref sig .tc := ⟨.hbm, 1305, rfl⟩
abbrev main_call10_call0_call0_v69 : Ref sig .tc := ⟨.hbm, 1306, rfl⟩
abbrev main_call10_call0_call0_v70 : Ref sig .tc := ⟨.hbm, 1307, rfl⟩
abbrev main_call10_call0_call0_v71 : Ref sig .tc := ⟨.hbm, 1308, rfl⟩
abbrev main_call10_call0_call0_c_17 : Ref sig .tc := ⟨.hbm, 1309, rfl⟩
abbrev main_call10_call0_call0_v72 : Ref sig .tc := ⟨.hbm, 1310, rfl⟩
abbrev main_call10_call0_call0_v73 : Ref sig .tc := ⟨.hbm, 1311, rfl⟩
abbrev main_call10_call0_call0_v74 : Ref sig .tc := ⟨.hbm, 1312, rfl⟩
abbrev main_call10_call0_call0_c_18 : Ref sig .tc := ⟨.hbm, 1313, rfl⟩
abbrev main_call10_call0_call0_v75 : Ref sig .tc := ⟨.hbm, 1314, rfl⟩
abbrev main_call10_call0_call0_v76 : Ref sig .tc := ⟨.hbm, 1315, rfl⟩
abbrev main_call10_call0_call0_c_19 : Ref sig .tc := ⟨.hbm, 1316, rfl⟩
abbrev main_call10_call0_call0_v77 : Ref sig .tc := ⟨.hbm, 1317, rfl⟩
abbrev main_call10_call0_call0_v78 : Ref sig .tc := ⟨.hbm, 1318, rfl⟩
abbrev main_call10_call0_call0_v79 : Ref sig .tc := ⟨.hbm, 1319, rfl⟩
abbrev main_call10_call0_call0_v80 : Ref sig .tc := ⟨.hbm, 1320, rfl⟩
abbrev main_call10_call0_call0_v81 : Ref sig .tc := ⟨.hbm, 1321, rfl⟩
abbrev main_call10_call0_call0_c_20 : Ref sig .tc := ⟨.hbm, 1322, rfl⟩
abbrev main_call10_call0_call0_v82 : Ref sig .tc := ⟨.hbm, 1323, rfl⟩
abbrev main_call10_call0_call0_v83 : Ref sig .tc := ⟨.hbm, 1324, rfl⟩
abbrev main_call10_call0_call0_c_21 : Ref sig .tc := ⟨.hbm, 1325, rfl⟩
abbrev main_call10_call0_call0_v84 : Ref sig .tc := ⟨.hbm, 1326, rfl⟩
abbrev main_call10_call0_call0_v85 : Ref sig .tc := ⟨.hbm, 1327, rfl⟩
abbrev main_call10_call0_call0_v86 : Ref sig .tc := ⟨.hbm, 1328, rfl⟩
abbrev main_call10_call0_call0_v87 : Ref sig .tc := ⟨.hbm, 1329, rfl⟩
abbrev main_call10_call0_call0_v88 : Ref sig .tc := ⟨.hbm, 1330, rfl⟩
abbrev main_call10_call0_call0_c_22 : Ref sig .tc := ⟨.hbm, 1331, rfl⟩
abbrev main_call10_call0_call0_v89 : Ref sig .tc := ⟨.hbm, 1332, rfl⟩
abbrev main_call10_call0_call0_v90 : Ref sig .tc := ⟨.hbm, 1333, rfl⟩
abbrev main_call10_call0_call0_c_23 : Ref sig .tc := ⟨.hbm, 1334, rfl⟩
abbrev main_call10_call0_call0_v91 : Ref sig .tc := ⟨.hbm, 1335, rfl⟩
abbrev main_call10_call0_call0_v92 : Ref sig .tc := ⟨.hbm, 1336, rfl⟩
abbrev main_call10_call0_call0_v93 : Ref sig .tc := ⟨.hbm, 1337, rfl⟩
abbrev main_call10_call0_call0_v94 : Ref sig .tc := ⟨.hbm, 1338, rfl⟩
abbrev main_call10_call0_call0_v95 : Ref sig .tc := ⟨.hbm, 1339, rfl⟩
abbrev main_call10_call0_call0_c_24 : Ref sig .tc := ⟨.hbm, 1340, rfl⟩
abbrev main_call10_call0_call0_v96 : Ref sig .tc := ⟨.hbm, 1341, rfl⟩
abbrev main_call10_call0_call0_v97 : Ref sig .tc := ⟨.hbm, 1342, rfl⟩
abbrev main_call10_call0_call0_c_25 : Ref sig .tc := ⟨.hbm, 1343, rfl⟩
abbrev main_call10_call0_call0_v98 : Ref sig .tc := ⟨.hbm, 1344, rfl⟩
abbrev main_call10_call0_call0_v99 : Ref sig .tc := ⟨.hbm, 1345, rfl⟩
abbrev main_call10_call0_call0_v100 : Ref sig .tc := ⟨.hbm, 1346, rfl⟩
abbrev main_call10_call0_call0_v101 : Ref sig .tc := ⟨.hbm, 1347, rfl⟩
abbrev main_call10_call0_call0_v102 : Ref sig .tc := ⟨.hbm, 1348, rfl⟩
abbrev main_call10_call0_call0_v103 : Ref sig .tc := ⟨.hbm, 1349, rfl⟩
abbrev main_call10_call0_call0_v104 : Ref sig .tc := ⟨.hbm, 1350, rfl⟩
abbrev main_call10_call0_call0_v105 : Ref sig .tc := ⟨.hbm, 1351, rfl⟩
abbrev main_call10_call0_call0_c_26 : Ref sig .tc := ⟨.hbm, 1352, rfl⟩
abbrev main_call10_call0_call0_v106 : Ref sig .tc := ⟨.hbm, 1353, rfl⟩
abbrev main_call10_call0_call0_v107 : Ref sig .tc := ⟨.hbm, 1354, rfl⟩
abbrev main_call10_call0_call0_v108 : Ref sig .tc := ⟨.hbm, 1355, rfl⟩
abbrev main_call10_call0_call0_c_27 : Ref sig .tc := ⟨.hbm, 1356, rfl⟩
abbrev main_call10_call0_call0_v109 : Ref sig .tc := ⟨.hbm, 1357, rfl⟩
abbrev main_call10_call0_call0_v110 : Ref sig .tc := ⟨.hbm, 1358, rfl⟩
abbrev main_call10_call0_call0_c_28 : Ref sig .tc := ⟨.hbm, 1359, rfl⟩
abbrev main_call10_call0_call0_v111 : Ref sig .tc := ⟨.hbm, 1360, rfl⟩
abbrev main_call10_call0_call0_v112 : Ref sig .tc := ⟨.hbm, 1361, rfl⟩
abbrev main_call10_call0_call0_v113 : Ref sig .tc := ⟨.hbm, 1362, rfl⟩
abbrev main_call10_call0_call0_v114 : Ref sig .tc := ⟨.hbm, 1363, rfl⟩
abbrev main_call10_call0_call0_v115 : Ref sig .tc := ⟨.hbm, 1364, rfl⟩
abbrev main_call10_call0_call0_c_29 : Ref sig .tc := ⟨.hbm, 1365, rfl⟩
abbrev main_call10_call0_call0_v116 : Ref sig .tc := ⟨.hbm, 1366, rfl⟩
abbrev main_call10_call0_call0_v117 : Ref sig .tc := ⟨.hbm, 1367, rfl⟩
abbrev main_call10_call0_call0_c_30 : Ref sig .tc := ⟨.hbm, 1368, rfl⟩
abbrev main_call10_call0_call0_v118 : Ref sig .tc := ⟨.hbm, 1369, rfl⟩
abbrev main_call10_call0_call0_v119 : Ref sig .tc := ⟨.hbm, 1370, rfl⟩
abbrev main_call10_call0_call0_v120 : Ref sig .tc := ⟨.hbm, 1371, rfl⟩
abbrev main_call10_call0_call0_v121 : Ref sig .tc := ⟨.hbm, 1372, rfl⟩
abbrev main_call10_call0_call0_v122 : Ref sig .tc := ⟨.hbm, 1373, rfl⟩
abbrev main_call10_call0_call0_c_31 : Ref sig .tc := ⟨.hbm, 1374, rfl⟩
abbrev main_call10_call0_call0_v123 : Ref sig .tc := ⟨.hbm, 1375, rfl⟩
abbrev main_call10_call0_call0_v124 : Ref sig .tc := ⟨.hbm, 1376, rfl⟩
abbrev main_call10_call0_call0_c_32 : Ref sig .tc := ⟨.hbm, 1377, rfl⟩
abbrev main_call10_call0_call0_v125 : Ref sig .tc := ⟨.hbm, 1378, rfl⟩
abbrev main_call10_call0_call0_v126 : Ref sig .tc := ⟨.hbm, 1379, rfl⟩
abbrev main_call10_call0_call0_v127 : Ref sig .tc := ⟨.hbm, 1380, rfl⟩
abbrev main_call10_call0_call0_v128 : Ref sig .tc := ⟨.hbm, 1381, rfl⟩
abbrev main_call10_call0_call0_v129 : Ref sig .tc := ⟨.hbm, 1382, rfl⟩
abbrev main_call10_call0_call0_c_33 : Ref sig .tc := ⟨.hbm, 1383, rfl⟩
abbrev main_call10_call0_call0_v130 : Ref sig .tc := ⟨.hbm, 1384, rfl⟩
abbrev main_call10_call0_call0_v131 : Ref sig .tc := ⟨.hbm, 1385, rfl⟩
abbrev main_call10_call0_call0_c_34 : Ref sig .tc := ⟨.hbm, 1386, rfl⟩
abbrev main_call10_call0_call0_v132 : Ref sig .tc := ⟨.hbm, 1387, rfl⟩
abbrev main_call10_call0_call0_v133 : Ref sig .tc := ⟨.hbm, 1388, rfl⟩
abbrev main_call10_call0_call0_v134 : Ref sig .tc := ⟨.hbm, 1389, rfl⟩
abbrev main_call10_call0_call0_v135 : Ref sig .tc := ⟨.hbm, 1390, rfl⟩
abbrev main_call10_call0_call0_v136 : Ref sig .tc := ⟨.hbm, 1391, rfl⟩
abbrev main_call10_call0_call0_v137 : Ref sig .tc := ⟨.hbm, 1392, rfl⟩
abbrev main_call10_call0_call0_v138 : Ref sig .tc := ⟨.hbm, 1393, rfl⟩
abbrev main_call10_call0_call0_v139 : Ref sig .tc := ⟨.hbm, 1394, rfl⟩
abbrev main_call10_call0_call0_c_35 : Ref sig .tc := ⟨.hbm, 1395, rfl⟩
abbrev main_call10_call0_call0_v140 : Ref sig .tc := ⟨.hbm, 1396, rfl⟩
abbrev main_call10_call0_call0_v141 : Ref sig .tc := ⟨.hbm, 1397, rfl⟩
abbrev main_call10_call0_call0_v142 : Ref sig .tc := ⟨.hbm, 1398, rfl⟩
abbrev main_call10_call0_call0_c_36 : Ref sig .tc := ⟨.hbm, 1399, rfl⟩
abbrev main_call10_call0_call0_v143 : Ref sig .tc := ⟨.hbm, 1400, rfl⟩
abbrev main_call10_call0_call0_v144 : Ref sig .tc := ⟨.hbm, 1401, rfl⟩
abbrev main_call10_call0_call0_c_37 : Ref sig .tc := ⟨.hbm, 1402, rfl⟩
abbrev main_call10_call0_call0_v145 : Ref sig .tc := ⟨.hbm, 1403, rfl⟩
abbrev main_call10_call0_call0_v146 : Ref sig .tc := ⟨.hbm, 1404, rfl⟩
abbrev main_call10_call0_call0_v147 : Ref sig .tc := ⟨.hbm, 1405, rfl⟩
abbrev main_call10_call0_call0_v148 : Ref sig .tc := ⟨.hbm, 1406, rfl⟩
abbrev main_call10_call0_call0_v149 : Ref sig .tc := ⟨.hbm, 1407, rfl⟩
abbrev main_call10_call0_call0_c_38 : Ref sig .tc := ⟨.hbm, 1408, rfl⟩
abbrev main_call10_call0_call0_v150 : Ref sig .tc := ⟨.hbm, 1409, rfl⟩
abbrev main_call10_call0_call0_v151 : Ref sig .tc := ⟨.hbm, 1410, rfl⟩
abbrev main_call10_call0_call0_c_39 : Ref sig .tc := ⟨.hbm, 1411, rfl⟩
abbrev main_call10_call0_call0_v152 : Ref sig .tc := ⟨.hbm, 1412, rfl⟩
abbrev main_call10_call0_call0_v153 : Ref sig .tc := ⟨.hbm, 1413, rfl⟩
abbrev main_call10_call0_call0_v154 : Ref sig .tc := ⟨.hbm, 1414, rfl⟩
abbrev main_call10_call0_call0_v155 : Ref sig .tc := ⟨.hbm, 1415, rfl⟩
abbrev main_call10_call0_call0_v156 : Ref sig .tc := ⟨.hbm, 1416, rfl⟩
abbrev main_call10_call0_call0_c_40 : Ref sig .tc := ⟨.hbm, 1417, rfl⟩
abbrev main_call10_call0_call0_v157 : Ref sig .tc := ⟨.hbm, 1418, rfl⟩
abbrev main_call10_call0_call0_v158 : Ref sig .tc := ⟨.hbm, 1419, rfl⟩
abbrev main_call10_call0_call0_c_41 : Ref sig .tc := ⟨.hbm, 1420, rfl⟩
abbrev main_call10_call0_call0_v159 : Ref sig .tc := ⟨.hbm, 1421, rfl⟩
abbrev main_call10_call0_call0_v160 : Ref sig .tc := ⟨.hbm, 1422, rfl⟩
abbrev main_call10_call0_call0_v161 : Ref sig .tc := ⟨.hbm, 1423, rfl⟩
abbrev main_call10_call0_call0_v162 : Ref sig .tc := ⟨.hbm, 1424, rfl⟩
abbrev main_call10_call0_call0_v163 : Ref sig .tc := ⟨.hbm, 1425, rfl⟩
abbrev main_call10_call0_call0_c_42 : Ref sig .tc := ⟨.hbm, 1426, rfl⟩
abbrev main_call10_call0_call0_v164 : Ref sig .tc := ⟨.hbm, 1427, rfl⟩
abbrev main_call10_call0_call0_v165 : Ref sig .tc := ⟨.hbm, 1428, rfl⟩
abbrev main_call10_call0_call0_c_43 : Ref sig .tc := ⟨.hbm, 1429, rfl⟩
abbrev main_call10_call0_call0_v166 : Ref sig .tc := ⟨.hbm, 1430, rfl⟩
abbrev main_call10_call0_call0_v167 : Ref sig .tc := ⟨.hbm, 1431, rfl⟩
abbrev main_call10_call0_call0_v168 : Ref sig .tc := ⟨.hbm, 1432, rfl⟩
abbrev main_call10_call0_call0_v169 : Ref sig .tc := ⟨.hbm, 1433, rfl⟩
abbrev main_call10_call0_call0_v170 : Ref sig .tc := ⟨.hbm, 1434, rfl⟩
abbrev main_call10_call0_v27_0 : Ref sig .tc := ⟨.hbm, 1435, rfl⟩
abbrev main_call10_call0_call0_v172 : Ref sig .tc := ⟨.hbm, 1436, rfl⟩
abbrev main_call10_call0_call0_v173 : Ref sig .tc := ⟨.hbm, 1437, rfl⟩
abbrev main_call10_call0_call0_c_44 : Ref sig .tc := ⟨.hbm, 1438, rfl⟩
abbrev main_call10_call0_call0_v174 : Ref sig .tc := ⟨.hbm, 1439, rfl⟩
abbrev main_call10_call0_v27_1 : Ref sig .tc := ⟨.hbm, 1440, rfl⟩
abbrev main_call10_call0_v28 : Ref sig .tc := ⟨.hbm, 1441, rfl⟩
abbrev main_call10_call0_c_4 : Ref sig .tc := ⟨.hbm, 1442, rfl⟩
abbrev main_call10_call0_v29 : Ref sig .tc := ⟨.hbm, 1443, rfl⟩
abbrev main_call10_call0_v30 : Ref sig .tc := ⟨.hbm, 1444, rfl⟩
abbrev main_call10_call0_c_5 : Ref sig .tc := ⟨.hbm, 1445, rfl⟩
abbrev main_call10_call0_v31 : Ref sig .tc := ⟨.hbm, 1446, rfl⟩
abbrev main_call10_call0_v32 : Ref sig .tc := ⟨.hbm, 1447, rfl⟩
abbrev main_call10_call0_v33 : Ref sig .tc := ⟨.hbm, 1448, rfl⟩
abbrev main_call10_call0_cst : Ref sig .tc := ⟨.hbm, 1449, rfl⟩
abbrev main_call10_call0_v34 : Ref sig .tc := ⟨.hbm, 1450, rfl⟩
abbrev main_call10_call0_v35 : Ref sig .tc := ⟨.hbm, 1451, rfl⟩
abbrev main_call10_call0_v36 : Ref sig .tc := ⟨.hbm, 1452, rfl⟩
abbrev main_call10_call0_v37 : Ref sig .tc := ⟨.hbm, 1453, rfl⟩
abbrev main_call10_call0_v38 : Ref sig .tc := ⟨.hbm, 1454, rfl⟩
abbrev main_call10_call0_v39 : Ref sig .tc := ⟨.hbm, 1455, rfl⟩
abbrev main_call10_call0_v40 : Ref sig .tc := ⟨.hbm, 1456, rfl⟩
abbrev main_call10_call0_v41 : Ref sig .tc := ⟨.hbm, 1457, rfl⟩
abbrev main_call10_v0 : Ref sig .tc := ⟨.hbm, 1458, rfl⟩
abbrev main_v80 : Ref sig .tc := ⟨.hbm, 1459, rfl⟩
abbrev main_v81 : Ref sig .tc := ⟨.hbm, 1460, rfl⟩
abbrev main_cst_23 : Ref sig .tc := ⟨.hbm, 1461, rfl⟩
abbrev main_v82 : Ref sig .tc := ⟨.hbm, 1462, rfl⟩
abbrev main_v83 : Ref sig .tc := ⟨.hbm, 1463, rfl⟩
abbrev main_call11_cst : Ref sig .tc := ⟨.hbm, 1464, rfl⟩
abbrev main_call11_cst_0 : Ref sig .tc := ⟨.hbm, 1465, rfl⟩
abbrev main_call11_call0_v0 : Ref sig .tc := ⟨.hbm, 1466, rfl⟩
abbrev main_call11_call0_v1 : Ref sig .tc := ⟨.hbm, 1467, rfl⟩
abbrev main_call11_call0_v2 : Ref sig .tc := ⟨.hbm, 1468, rfl⟩
abbrev main_call11_call0_v3 : Ref sig .tc := ⟨.hbm, 1469, rfl⟩
abbrev main_call11_call0_v4 : Ref sig .tc := ⟨.hbm, 1470, rfl⟩
abbrev main_call11_call0_v5 : Ref sig .tc := ⟨.hbm, 1471, rfl⟩
abbrev main_call11_call0_v6 : Ref sig .tc := ⟨.hbm, 1472, rfl⟩
abbrev main_call11_call0_v7 : Ref sig .tc := ⟨.hbm, 1473, rfl⟩
abbrev main_call11_call0_v8 : Ref sig .tc := ⟨.hbm, 1474, rfl⟩
abbrev main_call11_call0_v9 : Ref sig .tc := ⟨.hbm, 1475, rfl⟩
abbrev main_call11_call0_v10 : Ref sig .tc := ⟨.hbm, 1476, rfl⟩
abbrev main_call11_call0_v11 : Ref sig .tc := ⟨.hbm, 1477, rfl⟩
abbrev main_call11_call0_c : Ref sig .tc := ⟨.hbm, 1478, rfl⟩
abbrev main_call11_call0_v12 : Ref sig .tc := ⟨.hbm, 1479, rfl⟩
abbrev main_call11_call0_v13 : Ref sig .tc := ⟨.hbm, 1480, rfl⟩
abbrev main_call11_call0_c_0 : Ref sig .tc := ⟨.hbm, 1481, rfl⟩
abbrev main_call11_call0_v14 : Ref sig .tc := ⟨.hbm, 1482, rfl⟩
abbrev main_call11_call0_v15 : Ref sig .tc := ⟨.hbm, 1483, rfl⟩
abbrev main_call11_call0_c_1 : Ref sig .tc := ⟨.hbm, 1484, rfl⟩
abbrev main_call11_call0_v16 : Ref sig .tc := ⟨.hbm, 1485, rfl⟩
abbrev main_call11_call0_v17 : Ref sig .tc := ⟨.hbm, 1486, rfl⟩
abbrev main_call11_call0_c_2 : Ref sig .tc := ⟨.hbm, 1487, rfl⟩
abbrev main_call11_call0_v18 : Ref sig .tc := ⟨.hbm, 1488, rfl⟩
abbrev main_call11_call0_v19 : Ref sig .tc := ⟨.hbm, 1489, rfl⟩
abbrev main_call11_call0_v20 : Ref sig .tc := ⟨.hbm, 1490, rfl⟩
abbrev main_call11_call0_v21 : Ref sig .tc := ⟨.hbm, 1491, rfl⟩
abbrev main_call11_call0_v22 : Ref sig .tc := ⟨.hbm, 1492, rfl⟩
abbrev main_call11_call0_c_3 : Ref sig .tc := ⟨.hbm, 1493, rfl⟩
abbrev main_call11_call0_v23 : Ref sig .tc := ⟨.hbm, 1494, rfl⟩
abbrev main_call11_call0_v24 : Ref sig .tc := ⟨.hbm, 1495, rfl⟩
abbrev main_call11_call0_v25 : Ref sig .tc := ⟨.hbm, 1496, rfl⟩
abbrev main_call11_call0_v26 : Ref sig .tc := ⟨.hbm, 1497, rfl⟩
abbrev main_call11_call0_call0_v0 : Ref sig .tc := ⟨.hbm, 1498, rfl⟩
abbrev main_call11_call0_call0_c : Ref sig .tc := ⟨.hbm, 1499, rfl⟩
abbrev main_call11_call0_call0_v1 : Ref sig .tc := ⟨.hbm, 1500, rfl⟩
abbrev main_call11_call0_call0_v2 : Ref sig .tc := ⟨.hbm, 1501, rfl⟩
abbrev main_call11_call0_call0_v3 : Ref sig .tc := ⟨.hbm, 1502, rfl⟩
abbrev main_call11_call0_call0_v4 : Ref sig .tc := ⟨.hbm, 1503, rfl⟩
abbrev main_call11_call0_call0_v5 : Ref sig .tc := ⟨.hbm, 1504, rfl⟩
abbrev main_call11_call0_call0_v6 : Ref sig .tc := ⟨.hbm, 1505, rfl⟩
abbrev main_call11_call0_call0_c_0 : Ref sig .tc := ⟨.hbm, 1506, rfl⟩
abbrev main_call11_call0_call0_v7 : Ref sig .tc := ⟨.hbm, 1507, rfl⟩
abbrev main_call11_call0_call0_v8 : Ref sig .tc := ⟨.hbm, 1508, rfl⟩
abbrev main_call11_call0_call0_c_1 : Ref sig .tc := ⟨.hbm, 1509, rfl⟩
abbrev main_call11_call0_call0_v9 : Ref sig .tc := ⟨.hbm, 1510, rfl⟩
abbrev main_call11_call0_call0_v10 : Ref sig .tc := ⟨.hbm, 1511, rfl⟩
abbrev main_call11_call0_call0_v11 : Ref sig .tc := ⟨.hbm, 1512, rfl⟩
abbrev main_call11_call0_call0_v12 : Ref sig .tc := ⟨.hbm, 1513, rfl⟩
abbrev main_call11_call0_call0_v13 : Ref sig .tc := ⟨.hbm, 1514, rfl⟩
abbrev main_call11_call0_call0_c_2 : Ref sig .tc := ⟨.hbm, 1515, rfl⟩
abbrev main_call11_call0_call0_v14 : Ref sig .tc := ⟨.hbm, 1516, rfl⟩
abbrev main_call11_call0_call0_v15 : Ref sig .tc := ⟨.hbm, 1517, rfl⟩
abbrev main_call11_call0_call0_c_3 : Ref sig .tc := ⟨.hbm, 1518, rfl⟩
abbrev main_call11_call0_call0_v16 : Ref sig .tc := ⟨.hbm, 1519, rfl⟩
abbrev main_call11_call0_call0_v17 : Ref sig .tc := ⟨.hbm, 1520, rfl⟩
abbrev main_call11_call0_call0_v18 : Ref sig .tc := ⟨.hbm, 1521, rfl⟩
abbrev main_call11_call0_call0_v19 : Ref sig .tc := ⟨.hbm, 1522, rfl⟩
abbrev main_call11_call0_call0_v20 : Ref sig .tc := ⟨.hbm, 1523, rfl⟩
abbrev main_call11_call0_call0_c_4 : Ref sig .tc := ⟨.hbm, 1524, rfl⟩
abbrev main_call11_call0_call0_v21 : Ref sig .tc := ⟨.hbm, 1525, rfl⟩
abbrev main_call11_call0_call0_v22 : Ref sig .tc := ⟨.hbm, 1526, rfl⟩
abbrev main_call11_call0_call0_c_5 : Ref sig .tc := ⟨.hbm, 1527, rfl⟩
abbrev main_call11_call0_call0_v23 : Ref sig .tc := ⟨.hbm, 1528, rfl⟩
abbrev main_call11_call0_call0_v24 : Ref sig .tc := ⟨.hbm, 1529, rfl⟩
abbrev main_call11_call0_call0_v25 : Ref sig .tc := ⟨.hbm, 1530, rfl⟩
abbrev main_call11_call0_call0_v26 : Ref sig .tc := ⟨.hbm, 1531, rfl⟩
abbrev main_call11_call0_call0_v27 : Ref sig .tc := ⟨.hbm, 1532, rfl⟩
abbrev main_call11_call0_call0_c_6 : Ref sig .tc := ⟨.hbm, 1533, rfl⟩
abbrev main_call11_call0_call0_v28 : Ref sig .tc := ⟨.hbm, 1534, rfl⟩
abbrev main_call11_call0_call0_v29 : Ref sig .tc := ⟨.hbm, 1535, rfl⟩
abbrev main_call11_call0_call0_c_7 : Ref sig .tc := ⟨.hbm, 1536, rfl⟩
abbrev main_call11_call0_call0_v30 : Ref sig .tc := ⟨.hbm, 1537, rfl⟩
abbrev main_call11_call0_call0_v31 : Ref sig .tc := ⟨.hbm, 1538, rfl⟩
abbrev main_call11_call0_call0_v32 : Ref sig .tc := ⟨.hbm, 1539, rfl⟩
abbrev main_call11_call0_call0_v33 : Ref sig .tc := ⟨.hbm, 1540, rfl⟩
abbrev main_call11_call0_call0_v34 : Ref sig .tc := ⟨.hbm, 1541, rfl⟩
abbrev main_call11_call0_call0_v35 : Ref sig .tc := ⟨.hbm, 1542, rfl⟩
abbrev main_call11_call0_call0_v36 : Ref sig .tc := ⟨.hbm, 1543, rfl⟩
abbrev main_call11_call0_call0_v37 : Ref sig .tc := ⟨.hbm, 1544, rfl⟩
abbrev main_call11_call0_call0_c_8 : Ref sig .tc := ⟨.hbm, 1545, rfl⟩
abbrev main_call11_call0_call0_v38 : Ref sig .tc := ⟨.hbm, 1546, rfl⟩
abbrev main_call11_call0_call0_v39 : Ref sig .tc := ⟨.hbm, 1547, rfl⟩
abbrev main_call11_call0_call0_v40 : Ref sig .tc := ⟨.hbm, 1548, rfl⟩
abbrev main_call11_call0_call0_c_9 : Ref sig .tc := ⟨.hbm, 1549, rfl⟩
abbrev main_call11_call0_call0_v41 : Ref sig .tc := ⟨.hbm, 1550, rfl⟩
abbrev main_call11_call0_call0_v42 : Ref sig .tc := ⟨.hbm, 1551, rfl⟩
abbrev main_call11_call0_call0_c_10 : Ref sig .tc := ⟨.hbm, 1552, rfl⟩
abbrev main_call11_call0_call0_v43 : Ref sig .tc := ⟨.hbm, 1553, rfl⟩
abbrev main_call11_call0_call0_v44 : Ref sig .tc := ⟨.hbm, 1554, rfl⟩
abbrev main_call11_call0_call0_v45 : Ref sig .tc := ⟨.hbm, 1555, rfl⟩
abbrev main_call11_call0_call0_v46 : Ref sig .tc := ⟨.hbm, 1556, rfl⟩
abbrev main_call11_call0_call0_v47 : Ref sig .tc := ⟨.hbm, 1557, rfl⟩
abbrev main_call11_call0_call0_c_11 : Ref sig .tc := ⟨.hbm, 1558, rfl⟩
abbrev main_call11_call0_call0_v48 : Ref sig .tc := ⟨.hbm, 1559, rfl⟩
abbrev main_call11_call0_call0_v49 : Ref sig .tc := ⟨.hbm, 1560, rfl⟩
abbrev main_call11_call0_call0_c_12 : Ref sig .tc := ⟨.hbm, 1561, rfl⟩
abbrev main_call11_call0_call0_v50 : Ref sig .tc := ⟨.hbm, 1562, rfl⟩
abbrev main_call11_call0_call0_v51 : Ref sig .tc := ⟨.hbm, 1563, rfl⟩
abbrev main_call11_call0_call0_v52 : Ref sig .tc := ⟨.hbm, 1564, rfl⟩
abbrev main_call11_call0_call0_v53 : Ref sig .tc := ⟨.hbm, 1565, rfl⟩
abbrev main_call11_call0_call0_v54 : Ref sig .tc := ⟨.hbm, 1566, rfl⟩
abbrev main_call11_call0_call0_c_13 : Ref sig .tc := ⟨.hbm, 1567, rfl⟩
abbrev main_call11_call0_call0_v55 : Ref sig .tc := ⟨.hbm, 1568, rfl⟩
abbrev main_call11_call0_call0_v56 : Ref sig .tc := ⟨.hbm, 1569, rfl⟩
abbrev main_call11_call0_call0_c_14 : Ref sig .tc := ⟨.hbm, 1570, rfl⟩
abbrev main_call11_call0_call0_v57 : Ref sig .tc := ⟨.hbm, 1571, rfl⟩
abbrev main_call11_call0_call0_v58 : Ref sig .tc := ⟨.hbm, 1572, rfl⟩
abbrev main_call11_call0_call0_v59 : Ref sig .tc := ⟨.hbm, 1573, rfl⟩
abbrev main_call11_call0_call0_v60 : Ref sig .tc := ⟨.hbm, 1574, rfl⟩
abbrev main_call11_call0_call0_v61 : Ref sig .tc := ⟨.hbm, 1575, rfl⟩
abbrev main_call11_call0_call0_c_15 : Ref sig .tc := ⟨.hbm, 1576, rfl⟩
abbrev main_call11_call0_call0_v62 : Ref sig .tc := ⟨.hbm, 1577, rfl⟩
abbrev main_call11_call0_call0_v63 : Ref sig .tc := ⟨.hbm, 1578, rfl⟩
abbrev main_call11_call0_call0_c_16 : Ref sig .tc := ⟨.hbm, 1579, rfl⟩
abbrev main_call11_call0_call0_v64 : Ref sig .tc := ⟨.hbm, 1580, rfl⟩
abbrev main_call11_call0_call0_v65 : Ref sig .tc := ⟨.hbm, 1581, rfl⟩
abbrev main_call11_call0_call0_v66 : Ref sig .tc := ⟨.hbm, 1582, rfl⟩
abbrev main_call11_call0_call0_v67 : Ref sig .tc := ⟨.hbm, 1583, rfl⟩
abbrev main_call11_call0_call0_v68 : Ref sig .tc := ⟨.hbm, 1584, rfl⟩
abbrev main_call11_call0_call0_v69 : Ref sig .tc := ⟨.hbm, 1585, rfl⟩
abbrev main_call11_call0_call0_v70 : Ref sig .tc := ⟨.hbm, 1586, rfl⟩
abbrev main_call11_call0_call0_v71 : Ref sig .tc := ⟨.hbm, 1587, rfl⟩
abbrev main_call11_call0_call0_c_17 : Ref sig .tc := ⟨.hbm, 1588, rfl⟩
abbrev main_call11_call0_call0_v72 : Ref sig .tc := ⟨.hbm, 1589, rfl⟩
abbrev main_call11_call0_call0_v73 : Ref sig .tc := ⟨.hbm, 1590, rfl⟩
abbrev main_call11_call0_call0_v74 : Ref sig .tc := ⟨.hbm, 1591, rfl⟩
abbrev main_call11_call0_call0_c_18 : Ref sig .tc := ⟨.hbm, 1592, rfl⟩
abbrev main_call11_call0_call0_v75 : Ref sig .tc := ⟨.hbm, 1593, rfl⟩
abbrev main_call11_call0_call0_v76 : Ref sig .tc := ⟨.hbm, 1594, rfl⟩
abbrev main_call11_call0_call0_c_19 : Ref sig .tc := ⟨.hbm, 1595, rfl⟩
abbrev main_call11_call0_call0_v77 : Ref sig .tc := ⟨.hbm, 1596, rfl⟩
abbrev main_call11_call0_call0_v78 : Ref sig .tc := ⟨.hbm, 1597, rfl⟩
abbrev main_call11_call0_call0_v79 : Ref sig .tc := ⟨.hbm, 1598, rfl⟩
abbrev main_call11_call0_call0_v80 : Ref sig .tc := ⟨.hbm, 1599, rfl⟩
abbrev main_call11_call0_call0_v81 : Ref sig .tc := ⟨.hbm, 1600, rfl⟩
abbrev main_call11_call0_call0_c_20 : Ref sig .tc := ⟨.hbm, 1601, rfl⟩
abbrev main_call11_call0_call0_v82 : Ref sig .tc := ⟨.hbm, 1602, rfl⟩
abbrev main_call11_call0_call0_v83 : Ref sig .tc := ⟨.hbm, 1603, rfl⟩
abbrev main_call11_call0_call0_c_21 : Ref sig .tc := ⟨.hbm, 1604, rfl⟩
abbrev main_call11_call0_call0_v84 : Ref sig .tc := ⟨.hbm, 1605, rfl⟩
abbrev main_call11_call0_call0_v85 : Ref sig .tc := ⟨.hbm, 1606, rfl⟩
abbrev main_call11_call0_call0_v86 : Ref sig .tc := ⟨.hbm, 1607, rfl⟩
abbrev main_call11_call0_call0_v87 : Ref sig .tc := ⟨.hbm, 1608, rfl⟩
abbrev main_call11_call0_call0_v88 : Ref sig .tc := ⟨.hbm, 1609, rfl⟩
abbrev main_call11_call0_call0_c_22 : Ref sig .tc := ⟨.hbm, 1610, rfl⟩
abbrev main_call11_call0_call0_v89 : Ref sig .tc := ⟨.hbm, 1611, rfl⟩
abbrev main_call11_call0_call0_v90 : Ref sig .tc := ⟨.hbm, 1612, rfl⟩
abbrev main_call11_call0_call0_c_23 : Ref sig .tc := ⟨.hbm, 1613, rfl⟩
abbrev main_call11_call0_call0_v91 : Ref sig .tc := ⟨.hbm, 1614, rfl⟩
abbrev main_call11_call0_call0_v92 : Ref sig .tc := ⟨.hbm, 1615, rfl⟩
abbrev main_call11_call0_call0_v93 : Ref sig .tc := ⟨.hbm, 1616, rfl⟩
abbrev main_call11_call0_call0_v94 : Ref sig .tc := ⟨.hbm, 1617, rfl⟩
abbrev main_call11_call0_call0_v95 : Ref sig .tc := ⟨.hbm, 1618, rfl⟩
abbrev main_call11_call0_call0_c_24 : Ref sig .tc := ⟨.hbm, 1619, rfl⟩
abbrev main_call11_call0_call0_v96 : Ref sig .tc := ⟨.hbm, 1620, rfl⟩
abbrev main_call11_call0_call0_v97 : Ref sig .tc := ⟨.hbm, 1621, rfl⟩
abbrev main_call11_call0_call0_c_25 : Ref sig .tc := ⟨.hbm, 1622, rfl⟩
abbrev main_call11_call0_call0_v98 : Ref sig .tc := ⟨.hbm, 1623, rfl⟩
abbrev main_call11_call0_call0_v99 : Ref sig .tc := ⟨.hbm, 1624, rfl⟩
abbrev main_call11_call0_call0_v100 : Ref sig .tc := ⟨.hbm, 1625, rfl⟩
abbrev main_call11_call0_call0_v101 : Ref sig .tc := ⟨.hbm, 1626, rfl⟩
abbrev main_call11_call0_call0_v102 : Ref sig .tc := ⟨.hbm, 1627, rfl⟩
abbrev main_call11_call0_call0_v103 : Ref sig .tc := ⟨.hbm, 1628, rfl⟩
abbrev main_call11_call0_call0_v104 : Ref sig .tc := ⟨.hbm, 1629, rfl⟩
abbrev main_call11_call0_call0_v105 : Ref sig .tc := ⟨.hbm, 1630, rfl⟩
abbrev main_call11_call0_call0_c_26 : Ref sig .tc := ⟨.hbm, 1631, rfl⟩
abbrev main_call11_call0_call0_v106 : Ref sig .tc := ⟨.hbm, 1632, rfl⟩
abbrev main_call11_call0_call0_v107 : Ref sig .tc := ⟨.hbm, 1633, rfl⟩
abbrev main_call11_call0_call0_v108 : Ref sig .tc := ⟨.hbm, 1634, rfl⟩
abbrev main_call11_call0_call0_c_27 : Ref sig .tc := ⟨.hbm, 1635, rfl⟩
abbrev main_call11_call0_call0_v109 : Ref sig .tc := ⟨.hbm, 1636, rfl⟩
abbrev main_call11_call0_call0_v110 : Ref sig .tc := ⟨.hbm, 1637, rfl⟩
abbrev main_call11_call0_call0_c_28 : Ref sig .tc := ⟨.hbm, 1638, rfl⟩
abbrev main_call11_call0_call0_v111 : Ref sig .tc := ⟨.hbm, 1639, rfl⟩
abbrev main_call11_call0_call0_v112 : Ref sig .tc := ⟨.hbm, 1640, rfl⟩
abbrev main_call11_call0_call0_v113 : Ref sig .tc := ⟨.hbm, 1641, rfl⟩
abbrev main_call11_call0_call0_v114 : Ref sig .tc := ⟨.hbm, 1642, rfl⟩
abbrev main_call11_call0_call0_v115 : Ref sig .tc := ⟨.hbm, 1643, rfl⟩
abbrev main_call11_call0_call0_c_29 : Ref sig .tc := ⟨.hbm, 1644, rfl⟩
abbrev main_call11_call0_call0_v116 : Ref sig .tc := ⟨.hbm, 1645, rfl⟩
abbrev main_call11_call0_call0_v117 : Ref sig .tc := ⟨.hbm, 1646, rfl⟩
abbrev main_call11_call0_call0_c_30 : Ref sig .tc := ⟨.hbm, 1647, rfl⟩
abbrev main_call11_call0_call0_v118 : Ref sig .tc := ⟨.hbm, 1648, rfl⟩
abbrev main_call11_call0_call0_v119 : Ref sig .tc := ⟨.hbm, 1649, rfl⟩
abbrev main_call11_call0_call0_v120 : Ref sig .tc := ⟨.hbm, 1650, rfl⟩
abbrev main_call11_call0_call0_v121 : Ref sig .tc := ⟨.hbm, 1651, rfl⟩
abbrev main_call11_call0_call0_v122 : Ref sig .tc := ⟨.hbm, 1652, rfl⟩
abbrev main_call11_call0_call0_c_31 : Ref sig .tc := ⟨.hbm, 1653, rfl⟩
abbrev main_call11_call0_call0_v123 : Ref sig .tc := ⟨.hbm, 1654, rfl⟩
abbrev main_call11_call0_call0_v124 : Ref sig .tc := ⟨.hbm, 1655, rfl⟩
abbrev main_call11_call0_call0_c_32 : Ref sig .tc := ⟨.hbm, 1656, rfl⟩
abbrev main_call11_call0_call0_v125 : Ref sig .tc := ⟨.hbm, 1657, rfl⟩
abbrev main_call11_call0_call0_v126 : Ref sig .tc := ⟨.hbm, 1658, rfl⟩
abbrev main_call11_call0_call0_v127 : Ref sig .tc := ⟨.hbm, 1659, rfl⟩
abbrev main_call11_call0_call0_v128 : Ref sig .tc := ⟨.hbm, 1660, rfl⟩
abbrev main_call11_call0_call0_v129 : Ref sig .tc := ⟨.hbm, 1661, rfl⟩
abbrev main_call11_call0_call0_c_33 : Ref sig .tc := ⟨.hbm, 1662, rfl⟩
abbrev main_call11_call0_call0_v130 : Ref sig .tc := ⟨.hbm, 1663, rfl⟩
abbrev main_call11_call0_call0_v131 : Ref sig .tc := ⟨.hbm, 1664, rfl⟩
abbrev main_call11_call0_call0_c_34 : Ref sig .tc := ⟨.hbm, 1665, rfl⟩
abbrev main_call11_call0_call0_v132 : Ref sig .tc := ⟨.hbm, 1666, rfl⟩
abbrev main_call11_call0_call0_v133 : Ref sig .tc := ⟨.hbm, 1667, rfl⟩
abbrev main_call11_call0_call0_v134 : Ref sig .tc := ⟨.hbm, 1668, rfl⟩
abbrev main_call11_call0_call0_v135 : Ref sig .tc := ⟨.hbm, 1669, rfl⟩
abbrev main_call11_call0_call0_v136 : Ref sig .tc := ⟨.hbm, 1670, rfl⟩
abbrev main_call11_call0_call0_v137 : Ref sig .tc := ⟨.hbm, 1671, rfl⟩
abbrev main_call11_call0_call0_v138 : Ref sig .tc := ⟨.hbm, 1672, rfl⟩
abbrev main_call11_call0_call0_v139 : Ref sig .tc := ⟨.hbm, 1673, rfl⟩
abbrev main_call11_call0_call0_c_35 : Ref sig .tc := ⟨.hbm, 1674, rfl⟩
abbrev main_call11_call0_call0_v140 : Ref sig .tc := ⟨.hbm, 1675, rfl⟩
abbrev main_call11_call0_call0_v141 : Ref sig .tc := ⟨.hbm, 1676, rfl⟩
abbrev main_call11_call0_call0_v142 : Ref sig .tc := ⟨.hbm, 1677, rfl⟩
abbrev main_call11_call0_call0_c_36 : Ref sig .tc := ⟨.hbm, 1678, rfl⟩
abbrev main_call11_call0_call0_v143 : Ref sig .tc := ⟨.hbm, 1679, rfl⟩
abbrev main_call11_call0_call0_v144 : Ref sig .tc := ⟨.hbm, 1680, rfl⟩
abbrev main_call11_call0_call0_c_37 : Ref sig .tc := ⟨.hbm, 1681, rfl⟩
abbrev main_call11_call0_call0_v145 : Ref sig .tc := ⟨.hbm, 1682, rfl⟩
abbrev main_call11_call0_call0_v146 : Ref sig .tc := ⟨.hbm, 1683, rfl⟩
abbrev main_call11_call0_call0_v147 : Ref sig .tc := ⟨.hbm, 1684, rfl⟩
abbrev main_call11_call0_call0_v148 : Ref sig .tc := ⟨.hbm, 1685, rfl⟩
abbrev main_call11_call0_call0_v149 : Ref sig .tc := ⟨.hbm, 1686, rfl⟩
abbrev main_call11_call0_call0_c_38 : Ref sig .tc := ⟨.hbm, 1687, rfl⟩
abbrev main_call11_call0_call0_v150 : Ref sig .tc := ⟨.hbm, 1688, rfl⟩
abbrev main_call11_call0_call0_v151 : Ref sig .tc := ⟨.hbm, 1689, rfl⟩
abbrev main_call11_call0_call0_c_39 : Ref sig .tc := ⟨.hbm, 1690, rfl⟩
abbrev main_call11_call0_call0_v152 : Ref sig .tc := ⟨.hbm, 1691, rfl⟩
abbrev main_call11_call0_call0_v153 : Ref sig .tc := ⟨.hbm, 1692, rfl⟩
abbrev main_call11_call0_call0_v154 : Ref sig .tc := ⟨.hbm, 1693, rfl⟩
abbrev main_call11_call0_call0_v155 : Ref sig .tc := ⟨.hbm, 1694, rfl⟩
abbrev main_call11_call0_call0_v156 : Ref sig .tc := ⟨.hbm, 1695, rfl⟩
abbrev main_call11_call0_call0_c_40 : Ref sig .tc := ⟨.hbm, 1696, rfl⟩
abbrev main_call11_call0_call0_v157 : Ref sig .tc := ⟨.hbm, 1697, rfl⟩
abbrev main_call11_call0_call0_v158 : Ref sig .tc := ⟨.hbm, 1698, rfl⟩
abbrev main_call11_call0_call0_c_41 : Ref sig .tc := ⟨.hbm, 1699, rfl⟩
abbrev main_call11_call0_call0_v159 : Ref sig .tc := ⟨.hbm, 1700, rfl⟩
abbrev main_call11_call0_call0_v160 : Ref sig .tc := ⟨.hbm, 1701, rfl⟩
abbrev main_call11_call0_call0_v161 : Ref sig .tc := ⟨.hbm, 1702, rfl⟩
abbrev main_call11_call0_call0_v162 : Ref sig .tc := ⟨.hbm, 1703, rfl⟩
abbrev main_call11_call0_call0_v163 : Ref sig .tc := ⟨.hbm, 1704, rfl⟩
abbrev main_call11_call0_call0_c_42 : Ref sig .tc := ⟨.hbm, 1705, rfl⟩
abbrev main_call11_call0_call0_v164 : Ref sig .tc := ⟨.hbm, 1706, rfl⟩
abbrev main_call11_call0_call0_v165 : Ref sig .tc := ⟨.hbm, 1707, rfl⟩
abbrev main_call11_call0_call0_c_43 : Ref sig .tc := ⟨.hbm, 1708, rfl⟩
abbrev main_call11_call0_call0_v166 : Ref sig .tc := ⟨.hbm, 1709, rfl⟩
abbrev main_call11_call0_call0_v167 : Ref sig .tc := ⟨.hbm, 1710, rfl⟩
abbrev main_call11_call0_call0_v168 : Ref sig .tc := ⟨.hbm, 1711, rfl⟩
abbrev main_call11_call0_call0_v169 : Ref sig .tc := ⟨.hbm, 1712, rfl⟩
abbrev main_call11_call0_call0_v170 : Ref sig .tc := ⟨.hbm, 1713, rfl⟩
abbrev main_call11_call0_v27_0 : Ref sig .tc := ⟨.hbm, 1714, rfl⟩
abbrev main_call11_call0_call0_v172 : Ref sig .tc := ⟨.hbm, 1715, rfl⟩
abbrev main_call11_call0_call0_v173 : Ref sig .tc := ⟨.hbm, 1716, rfl⟩
abbrev main_call11_call0_call0_c_44 : Ref sig .tc := ⟨.hbm, 1717, rfl⟩
abbrev main_call11_call0_call0_v174 : Ref sig .tc := ⟨.hbm, 1718, rfl⟩
abbrev main_call11_call0_v27_1 : Ref sig .tc := ⟨.hbm, 1719, rfl⟩
abbrev main_call11_call0_v28 : Ref sig .tc := ⟨.hbm, 1720, rfl⟩
abbrev main_call11_call0_c_4 : Ref sig .tc := ⟨.hbm, 1721, rfl⟩
abbrev main_call11_call0_v29 : Ref sig .tc := ⟨.hbm, 1722, rfl⟩
abbrev main_call11_call0_v30 : Ref sig .tc := ⟨.hbm, 1723, rfl⟩
abbrev main_call11_call0_c_5 : Ref sig .tc := ⟨.hbm, 1724, rfl⟩
abbrev main_call11_call0_v31 : Ref sig .tc := ⟨.hbm, 1725, rfl⟩
abbrev main_call11_call0_v32 : Ref sig .tc := ⟨.hbm, 1726, rfl⟩
abbrev main_call11_call0_v33 : Ref sig .tc := ⟨.hbm, 1727, rfl⟩
abbrev main_call11_call0_cst : Ref sig .tc := ⟨.hbm, 1728, rfl⟩
abbrev main_call11_call0_v34 : Ref sig .tc := ⟨.hbm, 1729, rfl⟩
abbrev main_call11_call0_v35 : Ref sig .tc := ⟨.hbm, 1730, rfl⟩
abbrev main_call11_call0_v36 : Ref sig .tc := ⟨.hbm, 1731, rfl⟩
abbrev main_call11_call0_v37 : Ref sig .tc := ⟨.hbm, 1732, rfl⟩
abbrev main_call11_call0_v38 : Ref sig .tc := ⟨.hbm, 1733, rfl⟩
abbrev main_call11_call0_v39 : Ref sig .tc := ⟨.hbm, 1734, rfl⟩
abbrev main_call11_call0_v40 : Ref sig .tc := ⟨.hbm, 1735, rfl⟩
abbrev main_call11_call0_v41 : Ref sig .tc := ⟨.hbm, 1736, rfl⟩
abbrev main_call11_v0 : Ref sig .tc := ⟨.hbm, 1737, rfl⟩
abbrev main_v84 : Ref sig .tc := ⟨.hbm, 1738, rfl⟩
abbrev main_v85 : Ref sig .tc := ⟨.hbm, 1739, rfl⟩
abbrev main_v86 : Ref sig .tc := ⟨.hbm, 1740, rfl⟩
abbrev main_v87 : Ref sig .tc := ⟨.hbm, 1741, rfl⟩
abbrev main_v88 : Ref sig .tc := ⟨.hbm, 1742, rfl⟩
abbrev main_v89 : Ref sig .tc := ⟨.hbm, 1743, rfl⟩
abbrev main_v90 : Ref sig .tc := ⟨.hbm, 1744, rfl⟩
abbrev main_v91 : Ref sig .tc := ⟨.hbm, 1745, rfl⟩
abbrev main_cst_24 : Ref sig .tc := ⟨.hbm, 1746, rfl⟩
abbrev main_cst_25 : Ref sig .tc := ⟨.hbm, 1747, rfl⟩
abbrev main_call12_v0 : Ref sig .tc := ⟨.hbm, 1748, rfl⟩
abbrev main_call12_v1 : Ref sig .tc := ⟨.hbm, 1749, rfl⟩
abbrev main_call12_v2 : Ref sig .tc := ⟨.hbm, 1750, rfl⟩
abbrev main_call12_v3 : Ref sig .tc := ⟨.hbm, 1751, rfl⟩
abbrev main_call12_v4 : Ref sig .tc := ⟨.hbm, 1752, rfl⟩
abbrev main_v92 : Ref sig .tc := ⟨.hbm, 1753, rfl⟩
abbrev main_v93 : Ref sig .tc := ⟨.hbm, 1754, rfl⟩
abbrev main_c_26 : Ref sig .tc := ⟨.hbm, 1755, rfl⟩
abbrev main_v94 : Ref sig .tc := ⟨.hbm, 1756, rfl⟩
abbrev main_c_27 : Ref sig .tc := ⟨.hbm, 1757, rfl⟩
abbrev main_v95 : Ref sig .tc := ⟨.hbm, 1758, rfl⟩
abbrev main_v96 : Ref sig .tc := ⟨.hbm, 1759, rfl⟩
abbrev main_v97 : Ref sig .tc := ⟨.hbm, 1760, rfl⟩

abbrev nD : Nat := 1
abbrev τ : Topo := Topo.v7x

variable {F : FTy → Type} [FloatOps F]
-- ==== Proof.Ssa.lean ====
/-
Straight lines of host operations in which every operation writes a buffer of its own, later than all buffers written
before it. At the end of such a line every operation's equation holds of the final contents (`all_laws`), and buffers
before the line's first are as they were (`after_keep`). So a long host program is read equation by equation, function
by function, without running it.
-/
module

public import Idealize.ShloMosaic.Lib.StableHlo.RunHlo

@[expose] public section

noncomputable section

namespace Cert.Ssa

open Idealize.ShloMosaic Idealize.ShloMosaic.TcCoe Idealize.ShloMosaic.StableHlo
open Idealize.SL.Sem

variable {nD : Nat} {τ : Topo} {sig : RefSig} {Val : EltTy → Type} {Λ : Labels}

/-- One host operation with the buffer it writes, the buffers it reads and the equation it establishes. -/
structure Line (τ : Topo) (sig : RefSig) (Val : EltTy → Type) where
  op : HloOp τ sig Val
  dst : Ref sig .tc
  srcs : List (Ref sig .tc)
  Law : Valuation τ sig Val → Prop
  writes : op.writes = {(dst : DevRef τ sig)}
  fresh : op.fresh = ∅
  sub : op.bufs ⊆ tcRefs τ sig
  sound : ∀ V V' : Valuation τ sig Val, V' (dst : DevRef τ sig) = op.result V (dst : DevRef τ sig) →
    (∀ s ∈ srcs, V' ((s : Ref sig .tc) : DevRef τ sig) = V (s : DevRef τ sig)) → Law V'

/-- The contents of a typed reference. -/
abbrev rd {T : BufTy} (V : Valuation τ sig Val) (x : TRef sig T) : T.Contents Val := x.ofBuf (V (x.ref : DevRef τ sig))

/-- What the builders ask of a buffer. -/
abbrev OnDev (τ : Topo) (x : Ref sig .tc) : Prop := x.space ≠ .host ∧ (x : DevRef τ sig).isScoped = false

theorem mem_tcRefs (r : Ref sig .tc) : (r : DevRef τ sig) ∈ tcRefs τ sig := by
  simp [tcRefs]

namespace Line

/-- A constant. -/
def nullary (y : Ref sig .tc) (v : y.ty.Contents Val) (hy : OnDev τ y) : Line τ sig Val where
  op := StableHlo.nullary y v hy
  dst := y
  srcs := []
  Law V := V (y : DevRef τ sig) = v
  writes := rfl
  fresh := rfl
  sub := by intro b hb; cases Finset.mem_singleton.mp hb; exact mem_tcRefs _
  sound V V' hd _ := by rw [hd, nullary_result']

/-- An operation of one operand. -/
def unary (x y : Ref sig .tc) (f : x.ty.Contents Val → y.ty.Contents Val) (hx : OnDev τ x) (hy : OnDev τ y) : Line τ sig Val where
  op := StableHlo.unary x y f hx hy
  dst := y
  srcs := [x]
  Law V := V (y : DevRef τ sig) = f (V (x : DevRef τ sig))
  writes := rfl
  fresh := rfl
  sub := by
    intro b hb
    rcases Finset.mem_insert.mp hb with rfl | hb
    · exact mem_tcRefs _
    · cases Finset.mem_singleton.mp hb; exact mem_tcRefs _
  sound V V' hd hs := by rw [hd, unary_result', hs x (by simp)]

/-- A reshape. -/
def reshape (x y : Ref sig .tc) (he : x.ty.elt = y.ty.elt) (hn : x.ty.shape.ShapeCasts y.ty.shape) (hx : OnDev τ x) (hy : OnDev τ y) :
    Line τ sig Val where
  op := StableHlo.reshape x y he hn hx hy
  dst := y
  srcs := [x]
  Law V := V (y : DevRef τ sig) = fun i => he ▸ shapeCast y.ty.shape (V (x : DevRef τ sig)) hn i
  writes := rfl
  fresh := rfl
  sub := by
    intro b hb
    rcases Finset.mem_insert.mp hb with rfl | hb
    · exact mem_tcRefs _
    · cases Finset.mem_singleton.mp hb; exact mem_tcRefs _
  sound V V' hd hs := by rw [hd, reshape_result', hs x (by simp)]

/-- An operation of two operands. -/
def binary (a b y : Ref sig .tc) (f : a.ty.Contents Val → b.ty.Contents Val → y.ty.Contents Val) (ha : OnDev τ a) (hb : OnDev τ b) (hy : OnDev τ y) :
    Line τ sig Val where
  op := StableHlo.binary a b y f ha hb hy
  dst := y
  srcs := [a, b]
  Law V := V (y : DevRef τ sig) = f (V (a : DevRef τ sig)) (V (b : DevRef τ sig))
  writes := rfl
  fresh := rfl
  sub := by
    intro c hc
    rcases Finset.mem_insert.mp hc with rfl | hc
    · exact mem_tcRefs _
    rcases Finset.mem_insert.mp hc with rfl | hc
    · exact mem_tcRefs _
    · cases Finset.mem_singleton.mp hc; exact mem_tcRefs _
  sound V V' hd hs := by rw [hd, binary_result', hs a (by simp), hs b (by simp)]

/-- An operation of three operands. -/
def ternary (c a b y : Ref sig .tc)
    (f : c.ty.Contents Val → a.ty.Contents Val → b.ty.Contents Val → y.ty.Contents Val) (hc : OnDev τ c) (ha : OnDev τ a) (hb : OnDev τ b) (hy : OnDev τ y) :
    Line τ sig Val where
  op := StableHlo.ternary c a b y f hc ha hb hy
  dst := y
  srcs := [c, a, b]
  Law V := V (y : DevRef τ sig) = f (V (c : DevRef τ sig)) (V (a : DevRef τ sig)) (V (b : DevRef τ sig))
  writes := rfl
  fresh := rfl
  sub := by
    intro d hd
    rcases Finset.mem_insert.mp hd with rfl | hd
    · exact mem_tcRefs _
    rcases Finset.mem_insert.mp hd with rfl | hd
    · exact mem_tcRefs _
    rcases Finset.mem_insert.mp hd with rfl | hd
    · exact mem_tcRefs _
    · cases Finset.mem_singleton.mp hd; exact mem_tcRefs _
  sound V V' hd hs := by rw [hd, ternary_result', hs c (by simp), hs a (by simp), hs b (by simp)]

variable {Tx Ta Tb Tc Ty : BufTy}

/-- The same, at typed references (inside a function of the module). -/
def tnullary (y : TRef sig Ty) (v : Ty.Contents Val) : Line τ sig Val where
  op := TRef.nullary y v
  dst := y.ref
  srcs := []
  Law V := rd V y = v
  writes := rfl
  fresh := rfl
  sub := (nullary (τ := τ) y.ref (y.toBuf v) y.dev).sub
  sound V V' hd hs := by
    obtain ⟨y, rfl, h1, h2⟩ := y
    exact (nullary (τ := τ) y v ⟨h1, h2⟩).sound V V' hd hs

@[inherit_doc tnullary]
def tunary (x : TRef sig Tx) (y : TRef sig Ty) (f : Tx.Contents Val → Ty.Contents Val) : Line τ sig Val where
  op := TRef.unary x y f
  dst := y.ref
  srcs := [x.ref]
  Law V := rd V y = f (rd V x)
  writes := rfl
  fresh := rfl
  sub := (unary (τ := τ) x.ref y.ref (fun u => y.toBuf (f (x.ofBuf u))) x.dev y.dev).sub
  sound V V' hd hs := by
    obtain ⟨x, rfl, h1, h2⟩ := x; obtain ⟨y, rfl, h3, h4⟩ := y
    exact (unary (τ := τ) x y f ⟨h1, h2⟩ ⟨h3, h4⟩).sound V V' hd hs

@[inherit_doc tnullary]
def treshape (x : TRef sig Tx) (y : TRef sig Ty) (he : Tx.elt = Ty.elt) (hn : Tx.shape.ShapeCasts Ty.shape) :
    Line τ sig Val where
  op := TRef.reshape x y he hn
  dst := y.ref
  srcs := [x.ref]
  Law V := rd V y = fun i => he ▸ shapeCast Ty.shape (rd V x) hn i
  writes := rfl
  fresh := rfl
  sub := by
    obtain ⟨x, rfl, h1, h2⟩ := x; obtain ⟨y, rfl, h3, h4⟩ := y
    exact (reshape (τ := τ) (Val := Val) x y he hn ⟨h1, h2⟩ ⟨h3, h4⟩).sub
  sound V V' hd hs := by
    obtain ⟨x, rfl, h1, h2⟩ := x; obtain ⟨y, rfl, h3, h4⟩ := y
    exact (reshape (τ := τ) (Val := Val) x y he hn ⟨h1, h2⟩ ⟨h3, h4⟩).sound V V' hd hs

@[inherit_doc tnullary]
def tbinary (a : TRef sig Ta) (b : TRef sig Tb) (y : TRef sig Ty)
    (f : Ta.Contents Val → Tb.Contents Val → Ty.Contents Val) : Line τ sig Val where
  op := TRef.binary a b y f
  dst := y.ref
  srcs := [a.ref, b.ref]
  Law V := rd V y = f (rd V a) (rd V b)
  writes := rfl
  fresh := rfl
  sub := (binary (τ := τ) a.ref b.ref y.ref (fun u v => y.toBuf (f (a.ofBuf u) (b.ofBuf v))) a.dev b.dev y.dev).sub
  sound V V' hd hs := by
    obtain ⟨a, rfl, h1, h2⟩ := a; obtain ⟨b, rfl, h3, h4⟩ := b; obtain ⟨y, rfl, h5, h6⟩ := y
    exact (binary (τ := τ) a b y f ⟨h1, h2⟩ ⟨h3, h4⟩ ⟨h5, h6⟩).sound V V' hd hs

@[inherit_doc tnullary]
def tternary (c : TRef sig Tc) (a : TRef sig Ta) (b : TRef sig Tb) (y : TRef sig Ty)
    (f : Tc.Contents Val → Ta.Contents Val → Tb.Contents Val → Ty.Contents Val) : Line τ sig Val where
  op := TRef.ternary c a b y f
  dst := y.ref
  srcs := [c.ref, a.ref, b.ref]
  Law V := rd V y = f (rd V c) (rd V a) (rd V b)
  writes := rfl
  fresh := rfl
  sub := (ternary (τ := τ) c.ref a.ref b.ref y.ref
    (fun w u v => y.toBuf (f (c.ofBuf w) (a.ofBuf u) (b.ofBuf v))) c.dev a.dev b.dev y.dev).sub
  sound V V' hd hs := by
    obtain ⟨c, rfl, h7, h8⟩ := c
    obtain ⟨a, rfl, h1, h2⟩ := a; obtain ⟨b, rfl, h3, h4⟩ := b; obtain ⟨y, rfl, h5, h6⟩ := y
    exact (ternary (τ := τ) c a b y f ⟨h7, h8⟩ ⟨h1, h2⟩ ⟨h3, h4⟩ ⟨h5, h6⟩).sound V V' hd hs

end Line

/-- Every line's equation holds of `W`. -/
def All : List (Line τ sig Val) → Valuation τ sig Val → Prop
  | [], _ => True
  | l :: ls, W => l.Law W ∧ All ls W

theorem all_append (l₁ l₂ : List (Line τ sig Val)) (W : Valuation τ sig Val) :
    All (l₁ ++ l₂) W ↔ All l₁ W ∧ All l₂ W := by
  induction l₁ with
  | nil => simp [All]
  | cons l ls ih => simp [All, ih, and_assoc]

/-- A reference's number, when it is in device memory. -/
def num (r : Ref sig .tc) : Option Nat :=
  match r.space with
  | .hbm => some r.idx.val
  | _ => none

/-- `num r` is less than `n`. -/
def below (n : Nat) (r : Ref sig .tc) : Bool :=
  match num r with
  | some k => Nat.blt k n
  | none => false

/-- Every line writes a buffer numbered `n` or more, later than its own operands and than all buffers written before. -/
def ordered : Nat → List (Line τ sig Val) → Bool
  | _, [] => true
  | n, l :: ls =>
    match num l.dst with
    | none => false
    | some k => Nat.ble n k && (l.srcs.all (below k) && ordered (k + 1) ls)

/-- The operations of the lines. -/
abbrev ops (ls : List (Line τ sig Val)) : List (HloOp τ sig Val) := ls.map Line.op

theorem ne_of_below {n k : Nat} {r y : Ref sig .tc} (h : below n r = true) (hy : num y = some k) (hk : n ≤ k) : r ≠ y := by
  rintro rfl
  unfold below at h
  rw [hy] at h
  have := Nat.blt_eq.mp h
  omega

theorem below_mono {n k : Nat} {r : Ref sig .tc} (h : below n r = true) (hk : n ≤ k) : below k r = true := by
  unfold below at h ⊢
  cases hr : num r with
  | none => rw [hr] at h; simp at h
  | some j =>
    rw [hr] at h
    have := Nat.blt_eq.mp h
    exact Nat.blt_eq.mpr (by omega)

theorem result_keep (l : Line τ sig Val) (V : Valuation τ sig Val) {r : Ref sig .tc} (h : r ≠ l.dst) :
    l.op.result V (r : DevRef τ sig) = V (r : DevRef τ sig) := by
  apply HloOp.result_of_not_mem
  rw [l.writes]
  simp only [Finset.mem_singleton]
  exact devRef_ne_of_ne h

/-- A buffer numbered before the line's first is left alone. -/
theorem after_keep : ∀ (ls : List (Line τ sig Val)) (n : Nat), ordered n ls = true → ∀ (V : Valuation τ sig Val)
    (r : Ref sig .tc), below n r = true → after (ops ls) V (r : DevRef τ sig) = V (r : DevRef τ sig)
  | [], _, _, _, _, _ => rfl
  | l :: ls, n, h, V, r, hr => by
    unfold ordered at h
    cases hk : num l.dst with
    | none => rw [hk] at h; simp at h
    | some k =>
      rw [hk] at h
      simp only [Bool.and_eq_true, Nat.ble_eq] at h
      obtain ⟨h1, h2, h3⟩ := h
      show after (ops ls) (l.op.result V) _ = _
      rw [after_keep ls (k + 1) h3 _ r (below_mono hr (by omega)), result_keep l V (ne_of_below hr hk h1)]

/-- At the end every line's equation holds. -/
theorem all_laws : ∀ (ls : List (Line τ sig Val)) (n : Nat), ordered n ls = true → ∀ V : Valuation τ sig Val,
    All ls (after (ops ls) V)
  | [], _, _, _ => trivial
  | l :: ls, n, h, V => by
    unfold ordered at h
    cases hk : num l.dst with
    | none => rw [hk] at h; simp at h
    | some k =>
      rw [hk] at h
      simp only [Bool.and_eq_true, Nat.ble_eq, List.all_eq_true] at h
      obtain ⟨h1, h2, h3⟩ := h
      have hd : below (k + 1) l.dst = true := by
        unfold below; rw [hk]; exact Nat.blt_eq.mpr (by omega)
      refine ⟨l.sound V _ (after_keep ls (k + 1) h3 _ _ hd) fun s hs => ?_, all_laws ls (k + 1) h3 _⟩
      show after (ops ls) (l.op.result V) _ = _
      rw [after_keep ls (k + 1) h3 _ s (below_mono (h2 s hs) (by omega)), result_keep l V (ne_of_below (h2 s hs) hk le_rfl)]

theorem ops_sub (ls : List (Line τ sig Val)) : (ops ls).Forall fun op => op.bufs ⊆ tcRefs τ sig := by
  rw [List.forall_iff_forall_mem]
  intro op h
  obtain ⟨l, _, rfl⟩ := List.mem_map.mp h
  exact l.sub

theorem ops_fresh (ls : List (Line τ sig Val)) : ∀ op ∈ ops ls, op.fresh = ∅ := by
  intro op h
  obtain ⟨l, _, rfl⟩ := List.mem_map.mp h
  exact l.fresh

/-! ## Reading the lines off a printed program -/

/-- The program runs these lines. -/
def Reads (p : Prog (TpuEff nD τ sig Val Λ .tc) PUnit) (ls : List (Line τ sig Val)) : Prop := IsSeq p (ops ls)

namespace Reads

variable {k p : Prog (TpuEff nD τ sig Val Λ .tc) PUnit} {ls l₁ l₂ : List (Line τ sig Val)}

theorem nil : Reads (pure ⟨⟩ : Prog (TpuEff nD τ sig Val Λ .tc) PUnit) [] := IsSeq.nil

theorem cons (l : Line τ sig Val) (h : Reads k ls) : Reads ((hlo rfl l.op fun _ => .ret (⟨⟩ : PUnit)) >>= fun _ => k) (l :: ls) :=
  IsSeq.cons h

theorem append (h₁ : Reads p l₁) (h₂ : Reads k l₂) : Reads (p >>= fun _ => k) (l₁ ++ l₂) := by
  unfold Reads IsSeq ops at *
  rw [List.map_append, seq_append, h₁, h₂]

theorem last (l : Line τ sig Val) : Reads (nD := nD) (τ := τ) (Λ := Λ) (hlo rfl l.op fun _ => .ret (⟨⟩ : PUnit)) [l] := rfl

section
variable {x a b c y : Ref sig .tc}

theorem nullary {v : y.ty.Contents Val} {hy : OnDev τ y} (h : Reads k ls) :
    Reads ((hlo rfl (StableHlo.nullary y v hy) fun _ => .ret (⟨⟩ : PUnit)) >>= fun _ => k) (Line.nullary y v hy :: ls) := cons (Line.nullary y v hy) h
theorem unary {f : x.ty.Contents Val → y.ty.Contents Val} {hx : OnDev τ x} {hy : OnDev τ y} (h : Reads k ls) :
    Reads ((hlo rfl (StableHlo.unary x y f hx hy) fun _ => .ret (⟨⟩ : PUnit)) >>= fun _ => k) (Line.unary x y f hx hy :: ls) := cons (Line.unary x y f hx hy) h
theorem reshape {he : x.ty.elt = y.ty.elt} {hn : x.ty.shape.ShapeCasts y.ty.shape} {hx : OnDev τ x} {hy : OnDev τ y} (h : Reads k ls) :
    Reads ((hlo rfl (StableHlo.reshape x y he hn hx hy) fun _ => .ret (⟨⟩ : PUnit)) >>= fun _ => k) (Line.reshape x y he hn hx hy :: ls) := cons (Line.reshape x y he hn hx hy) h
theorem binary {f : a.ty.Contents Val → b.ty.Contents Val → y.ty.Contents Val} {ha : OnDev τ a} {hb : OnDev τ b} {hy : OnDev τ y} (h : Reads k ls) :
    Reads ((hlo rfl (StableHlo.binary a b y f ha hb hy) fun _ => .ret (⟨⟩ : PUnit)) >>= fun _ => k) (Line.binary a b y f ha hb hy :: ls) := cons (Line.binary a b y f ha hb hy) h
theorem ternary {f : c.ty.Contents Val → a.ty.Contents Val → b.ty.Contents Val → y.ty.Contents Val} {hc : OnDev τ c} {ha : OnDev τ a} {hb : OnDev τ b} {hy : OnDev τ y} (h : Reads k ls) :
    Reads ((hlo rfl (StableHlo.ternary c a b y f hc ha hb hy) fun _ => .ret (⟨⟩ : PUnit)) >>= fun _ => k) (Line.ternary c a b y f hc ha hb hy :: ls) := cons (Line.ternary c a b y f hc ha hb hy) h
theorem lastNullary {v : y.ty.Contents Val} {hy : OnDev τ y} :
    Reads (nD := nD) (τ := τ) (Λ := Λ) (hlo rfl (StableHlo.nullary y v hy) fun _ => .ret (⟨⟩ : PUnit)) [Line.nullary y v hy] := last (Line.nullary y v hy)
theorem lastBinary {f : a.ty.Contents Val → b.ty.Contents Val → y.ty.Contents Val} {ha : OnDev τ a} {hb : OnDev τ b} {hy : OnDev τ y} :
    Reads (nD := nD) (τ := τ) (Λ := Λ) (hlo rfl (StableHlo.binary a b y f ha hb hy) fun _ => .ret (⟨⟩ : PUnit)) [Line.binary a b y f ha hb hy] := last (Line.binary a b y f ha hb hy)
end

section
variable {Tx Ta Tb Tc Ty : BufTy} {x : TRef sig Tx} {a : TRef sig Ta} {b : TRef sig Tb} {c : TRef sig Tc} {y : TRef sig Ty}

theorem tnullary {v : Ty.Contents Val} (h : Reads k ls) :
    Reads ((hlo rfl (TRef.nullary y v) fun _ => .ret (⟨⟩ : PUnit)) >>= fun _ => k) (Line.tnullary y v :: ls) := cons (Line.tnullary y v) h
theorem tunary {f : Tx.Contents Val → Ty.Contents Val} (h : Reads k ls) :
    Reads ((hlo rfl (TRef.unary x y f) fun _ => .ret (⟨⟩ : PUnit)) >>= fun _ => k) (Line.tunary x y f :: ls) := cons (Line.tunary x y f) h
theorem treshape {he : Tx.elt = Ty.elt} {hn : Tx.shape.ShapeCasts Ty.shape} (h : Reads k ls) :
    Reads ((hlo rfl (TRef.reshape x y he hn) fun _ => .ret (⟨⟩ : PUnit)) >>= fun _ => k) (Line.treshape x y he hn :: ls) := cons (Line.treshape x y he hn) h
theorem tbinary {f : Ta.Contents Val → Tb.Contents Val → Ty.Contents Val} (h : Reads k ls) :
    Reads ((hlo rfl (TRef.binary a b y f) fun _ => .ret (⟨⟩ : PUnit)) >>= fun _ => k) (Line.tbinary a b y f :: ls) := cons (Line.tbinary a b y f) h
theorem tternary {f : Tc.Contents Val → Ta.Contents Val → Tb.Contents Val → Ty.Contents Val} (h : Reads k ls) :
    Reads ((hlo rfl (TRef.ternary c a b y f) fun _ => .ret (⟨⟩ : PUnit)) >>= fun _ => k) (Line.tternary c a b y f :: ls) := cons (Line.tternary c a b y f) h
theorem tlastBinary {f : Ta.Contents Val → Tb.Contents Val → Ty.Contents Val} :
    Reads (nD := nD) (τ := τ) (Λ := Λ) (hlo rfl (TRef.binary a b y f) fun _ => .ret (⟨⟩ : PUnit)) [Line.tbinary a b y f] := last (Line.tbinary a b y f)
theorem tlastUnary {f : Tx.Contents Val → Ty.Contents Val} :
    Reads (nD := nD) (τ := τ) (Λ := Λ) (hlo rfl (TRef.unary x y f) fun _ => .ret (⟨⟩ : PUnit)) [Line.tunary x y f] := last (Line.tunary x y f)
theorem tlastNullary {v : Ty.Contents Val} :
    Reads (nD := nD) (τ := τ) (Λ := Λ) (hlo rfl (TRef.nullary y v) fun _ => .ret (⟨⟩ : PUnit)) [Line.tnullary y v] := last (Line.tnullary y v)
end

end Reads

end Cert.Ssa
-- ==== Proof.RefLines.lean ====
/-
The reference program as lists of lines (Ssa.lean), function by function, and its run: every line's equation holds of
the final contents, and the arguments are as they were.
-/
module

public import proofs.«01_k».proof.Proof.Ssa
public import proofs.«01_k».proof.Proof.Gen.ReferenceIdeal
public import Idealize.ShloMosaic.Lib.Tactic
public import Idealize.ShloMosaic.Lib.Quiescent

@[expose] public section

set_option maxRecDepth 16384
set_option pp.maxSteps 150
set_option maxHeartbeats 4000000

noncomputable section

namespace Cert.ReferenceIdeal.Val

open Idealize.ShloMosaic Idealize.ShloMosaic.TcCoe Idealize.ShloMosaic.StableHlo Idealize.SL.Sem
open Cert.ReferenceIdeal Cert.ReferenceIdeal.Gen Cert.Ssa

variable {F : FTy → Type} [FloatOps F]

/-- The lines of a printed piece of host program. -/
abbrev LinesOf (p : Prog (TpuEff nD τ sig (Elt F) (Pipeline.Sig Λ₀ (Fin 0) fun p => (pcfgs (F := F) p).Adm) .tc) PUnit) :=
  {ls : List (Line τ sig (Elt F)) // Reads p ls}

/-- Part 0 of the cipher. -/
def tfs0 (a0 a1 a2 a3) (φ : fn_threefry2x32.Bufs) : LinesOf (F := F) (fn_threefry2x32.body_part0 a0 a1 a2 a3 φ) := by
  apply Subtype.mk
  case property =>
    unfold fn_threefry2x32.body_part0
    repeat (first
      | with_reducible apply Reads.tbinary
      | with_reducible apply Reads.tnullary
      | with_reducible apply Reads.tunary
      | with_reducible exact Reads.tlastBinary
      | with_reducible exact Reads.tlastNullary
      | with_reducible exact Reads.tlastUnary
      | with_reducible exact Reads.nil)

/-- Part 1 of the cipher. -/
def tfs1 (a0 a1 a2 a3) (φ : fn_threefry2x32.Bufs) : LinesOf (F := F) (fn_threefry2x32.body_part1 a0 a1 a2 a3 φ) := by
  apply Subtype.mk
  case property =>
    unfold fn_threefry2x32.body_part1
    repeat (first
      | with_reducible apply Reads.tbinary
      | with_reducible apply Reads.tnullary
      | with_reducible apply Reads.tunary
      | with_reducible exact Reads.tlastBinary
      | with_reducible exact Reads.tlastNullary
      | with_reducible exact Reads.tlastUnary
      | with_reducible exact Reads.nil)

/-- Part 2 of the cipher. -/
def tfs2 (a0 a1 a2 a3) (φ : fn_threefry2x32.Bufs) : LinesOf (F := F) (fn_threefry2x32.body_part2 a0 a1 a2 a3 φ) := by
  apply Subtype.mk
  case property =>
    unfold fn_threefry2x32.body_part2
    repeat (first
      | with_reducible apply Reads.tbinary
      | with_reducible apply Reads.tnullary
      | with_reducible apply Reads.tunary
      | with_reducible exact Reads.tlastBinary
      | with_reducible exact Reads.tlastNullary
      | with_reducible exact Reads.tlastUnary
      | with_reducible exact Reads.nil)

/-- Part 3 of the cipher. -/
def tfs3 (a0 a1 a2 a3) (φ : fn_threefry2x32.Bufs) : LinesOf (F := F) (fn_threefry2x32.body_part3 a0 a1 a2 a3 φ) := by
  apply Subtype.mk
  case property =>
    unfold fn_threefry2x32.body_part3
    repeat (first
      | with_reducible apply Reads.tbinary
      | with_reducible apply Reads.tnullary
      | with_reducible apply Reads.tunary
      | with_reducible exact Reads.tlastBinary
      | with_reducible exact Reads.tlastNullary
      | with_reducible exact Reads.tlastUnary
      | with_reducible exact Reads.nil)

/-- The cipher on six counters. -/
def tfs (a0 a1 a2 a3) (φ : fn_threefry2x32.Bufs) : LinesOf (F := F) (fn_threefry2x32.body a0 a1 a2 a3 φ) :=
  ⟨_, Reads.append (tfs0 a0 a1 a2 a3 φ).2 (Reads.append (tfs1 a0 a1 a2 a3 φ).2 (Reads.append (tfs2 a0 a1 a2 a3 φ).2 (tfs3 a0 a1 a2 a3 φ).2))⟩

/-- Part 0 of the cipher. -/
def tf0 (a0 a1 a2 a3) (φ : fn_threefry2x32_0.Bufs) : LinesOf (F := F) (fn_threefry2x32_0.body_part0 a0 a1 a2 a3 φ) := by
  apply Subtype.mk
  case property =>
    unfold fn_threefry2x32_0.body_part0
    repeat (first
      | with_reducible apply Reads.tbinary
      | with_reducible apply Reads.tnullary
      | with_reducible apply Reads.tunary
      | with_reducible exact Reads.tlastBinary
      | with_reducible exact Reads.tlastNullary
      | with_reducible exact Reads.tlastUnary
      | with_reducible exact Reads.nil)

/-- Part 1 of the cipher. -/
def tf1 (a0 a1 a2 a3) (φ : fn_threefry2x32_0.Bufs) : LinesOf (F := F) (fn_threefry2x32_0.body_part1 a0 a1 a2 a3 φ) := by
  apply Subtype.mk
  case property =>
    unfold fn_threefry2x32_0.body_part1
    repeat (first
      | with_reducible apply Reads.tbinary
      | with_reducible apply Reads.tnullary
      | with_reducible apply Reads.tunary
      | with_reducible exact Reads.tlastBinary
      | with_reducible exact Reads.tlastNullary
      | with_reducible exact Reads.tlastUnary
      | with_reducible exact Reads.nil)

/-- Part 2 of the cipher. -/
def tf2 (a0 a1 a2 a3) (φ : fn_threefry2x32_0.Bufs) : LinesOf (F := F) (fn_threefry2x32_0.body_part2 a0 a1 a2 a3 φ) := by
  apply Subtype.mk
  case property =>
    unfold fn_threefry2x32_0.body_part2
    repeat (first
      | with_reducible apply Reads.tbinary
      | with_reducible apply Reads.tnullary
      | with_reducible apply Reads.tunary
      | with_reducible exact Reads.tlastBinary
      | with_reducible exact Reads.tlastNullary
      | with_reducible exact Reads.tlastUnary
      | with_reducible exact Reads.nil)

/-- Part 3 of the cipher. -/
def tf3 (a0 a1 a2 a3) (φ : fn_threefry2x32_0.Bufs) : LinesOf (F := F) (fn_threefry2x32_0.body_part3 a0 a1 a2 a3 φ) := by
  apply Subtype.mk
  case property =>
    unfold fn_threefry2x32_0.body_part3
    repeat (first
      | with_reducible apply Reads.tbinary
      | with_reducible apply Reads.tnullary
      | with_reducible apply Reads.tunary
      | with_reducible exact Reads.tlastBinary
      | with_reducible exact Reads.tlastNullary
      | with_reducible exact Reads.tlastUnary
      | with_reducible exact Reads.nil)

/-- The cipher on one counter per weight. -/
def tf (a0 a1 a2 a3) (φ : fn_threefry2x32_0.Bufs) : LinesOf (F := F) (fn_threefry2x32_0.body a0 a1 a2 a3 φ) :=
  ⟨_, Reads.append (tf0 a0 a1 a2 a3 φ).2 (Reads.append (tf1 a0 a1 a2 a3 φ).2 (Reads.append (tf2 a0 a1 a2 a3 φ).2 (tf3 a0 a1 a2 a3 φ).2))⟩

/-- The key split. -/
def split (a0) (φ : fn_threefry_split.Bufs) : LinesOf (F := F) (fn_threefry_split.body a0 φ) := by
  apply Subtype.mk
  case property =>
    unfold fn_threefry_split.body
    repeat (first
      | with_reducible apply Reads.tbinary
      | with_reducible apply Reads.tnullary
      | with_reducible apply Reads.tunary
      | with_reducible apply Reads.treshape
      | with_reducible exact Reads.nil
      | with_reducible apply Reads.append (tfs _ _ _ _ _).2)

/-- A choice between two constants. -/
def whereL (a0 a1 a2) (φ : fn_where.Bufs) : LinesOf (F := F) (fn_where.body a0 a1 a2 φ) := by
  apply Subtype.mk
  case property =>
    unfold fn_where.body
    repeat (first
      | with_reducible apply Reads.tternary
      | with_reducible apply Reads.tunary
      | with_reducible exact Reads.nil)

/-- Uniform numbers. -/
def uniform (a0 a1 a2) (φ : fn_uniform.Bufs) : LinesOf (F := F) (fn_uniform.body a0 a1 a2 φ) := by
  apply Subtype.mk
  case property =>
    unfold fn_uniform.body
    repeat (first
      | with_reducible apply Reads.tbinary
      | with_reducible apply Reads.tnullary
      | with_reducible apply Reads.tunary
      | with_reducible apply Reads.treshape
      | with_reducible exact Reads.nil
      | with_reducible apply Reads.append (tf _ _ _ _ _).2)

/-- Coin tosses. -/
def bern (a0 a1) (φ : fn_bernoulli.Bufs) : LinesOf (F := F) (fn_bernoulli.body a0 a1 φ) := by
  apply Subtype.mk
  case property =>
    unfold fn_bernoulli.body
    repeat (first
      | with_reducible apply Reads.tbinary
      | with_reducible apply Reads.tnullary
      | with_reducible exact Reads.nil
      | with_reducible apply Reads.append (uniform _ _ _ _).2)

/-- Clipping. -/
def clipL (a0 a1 a2) (φ : fn_clip.Bufs) : LinesOf (F := F) (fn_clip.body a0 a1 a2 φ) := by
  apply Subtype.mk
  case property =>
    unfold fn_clip.body
    repeat (first
      | with_reducible apply Reads.tbinary
      | with_reducible apply Reads.tunary
      | with_reducible exact Reads.nil)

/-- Rounding. -/
def roundL (a0) (φ : fn_round.Bufs) : LinesOf (F := F) (fn_round.body a0 φ) := by
  apply Subtype.mk
  case property =>
    unfold fn_round.body
    repeat (first
      | with_reducible apply Reads.tunary
      | with_reducible exact Reads.nil)

/-- The program's first window. -/
def main0 (d : Dev nD) : LinesOf (F := F) (main_part0 d) := by
  apply Subtype.mk
  case property =>
    unfold main_part0
    repeat (first
      | with_reducible apply Reads.binary
      | with_reducible apply Reads.nullary
      | with_reducible apply Reads.unary
      | with_reducible apply Reads.reshape
      | with_reducible exact Reads.lastBinary
      | with_reducible apply Reads.append (split _ _).2
      | with_reducible apply Reads.append (whereL _ _ _ _).2)

/-- The program's second window. -/
def main1 (d : Dev nD) : LinesOf (F := F) (main_part1 d) := by
  apply Subtype.mk
  case property =>
    unfold main_part1
    repeat (first
      | with_reducible apply Reads.binary
      | with_reducible apply Reads.nullary
      | with_reducible apply Reads.unary
      | with_reducible apply Reads.reshape
      | with_reducible exact Reads.lastNullary
      | with_reducible apply Reads.append (bern _ _ _).2
      | with_reducible apply Reads.append (clipL _ _ _ _).2
      | with_reducible apply Reads.append (whereL _ _ _ _).2)

/-- The program's last window. -/
def main2 (d : Dev nD) : LinesOf (F := F) (main_part2 d) := by
  apply Subtype.mk
  case property =>
    unfold main_part2
    repeat (first
      | with_reducible apply Reads.binary
      | with_reducible apply Reads.nullary
      | with_reducible apply Reads.unary
      | with_reducible apply Reads.ternary
      | with_reducible apply Reads.append (clipL _ _ _ _).2
      | with_reducible apply Reads.append (roundL _ _).2
      | with_reducible exact Reads.nil)

/-- The whole program. -/
def mainL (d : Dev nD) : LinesOf (F := F) (main d) :=
  ⟨_, Reads.append (main0 d).2 (Reads.append (main1 d).2 (main2 d).2)⟩

/-- Each line of the program writes a new buffer, after its operands. -/
theorem mainL_ordered (d : Dev nD) : ordered 3 (mainL (F := F) d).1 = true := by
  sl_kernel_rfl

theorem scopedRefs_eq : (Finset.univ.filter fun b : Ref sig .tc => b.isScoped) = ∅ := by
  rw [Finset.filter_eq_empty_iff]
  rintro ⟨sp, i, h⟩ -
  cases sp <;> first | exact Bool.false_ne_true | exact i.elim0

theorem scopedSems_eq : (Finset.univ.filter fun sm : SemLoc sig => sm.isScoped .tc) = ∅ := by decide

end Cert.ReferenceIdeal.Val
-- ==== Proof.RefRun.lean ====
/-
The run of the reference: every line's equation holds of the final contents, which `fin m` names, and the arguments are
as they were.
-/
module

public import proofs.«01_k».proof.Proof.RefLines

@[expose] public section

set_option maxRecDepth 16384

noncomputable section

namespace Cert.ReferenceIdeal.Val

open Idealize.ShloMosaic Idealize.ShloMosaic.TcCoe Idealize.ShloMosaic.StableHlo Idealize.SL.Sem
open Cert.ReferenceIdeal Cert.ReferenceIdeal.Gen Cert.Ssa

variable {F : FTy → Type} [FloatOps F]

/-- The final contents. -/
def fin (m : (ℓ : Loc nD τ sig) → Buf (Elt F) ℓ) (d : Dev nD) : Valuation τ sig (Elt F) :=
  after (ops (mainL (F := F) (0 : Fin 1)).1) (launchContents m d)

/-- Every line's equation holds of the final contents. -/
theorem fin_all (m : (ℓ : Loc nD τ sig) → Buf (Elt F) ℓ) (d : Dev nD) : All (mainL (F := F) (0 : Fin 1)).1 (fin m d) :=
  all_laws _ 3 (mainL_ordered _) _

/-- A buffer numbered below 3, that is an argument, is as it was. -/
theorem fin_arg (m : (ℓ : Loc nD τ sig) → Buf (Elt F) ℓ) (d : Dev nD) (r : Ref sig .tc) (h : below 3 r = true) :
    fin m d (Proc.devRef .tc r) = m ((d.tc : Thread nD τ).loc r) :=
  after_keep _ 3 (mainL_ordered _) _ r h

/-- The run. -/
theorem run_fin (m : (ℓ : Loc nD τ sig) → Buf (Elt F) ℓ) (ρ : Dev nD → PrngReg) :
    θ_run defs (onTc (τ := τ) main) ⟨m, fun _ => 0, ρ⟩ fun r =>
      (∀ (d : Dev nD) (b : Ref sig .tc), r.2.mem ((d.tc : Thread nD τ).loc b) = fin m d (Proc.devRef .tc b)) ∧
        r.2.sem = fun _ => 0 :=
  (θ_run defs (onTc (τ := τ) main) _).mono (fun r h => ⟨h, sem_eq_zero_of_no_sems (by decide) r.2⟩)
    (run_hlo defs main (ops := ops (mainL (F := F) (0 : Fin 1)).1)
      (fun d => by obtain rfl : d = (0 : Fin 1) := Subsingleton.elim (α := Fin 1) _ _; exact (mainL _).2)
      scopedRefs_eq scopedSems_eq (ops_sub _) (ops_fresh _) m ρ)

/-- The reference leaves its arguments alone and every counter at zero. -/
theorem quiet (m : (ℓ : Loc nD τ sig) → Buf (Elt F) ℓ) (ρ : Dev nD → PrngReg) :
    θ_run defs (onTc (τ := τ) main) ⟨m, fun _ => 0, ρ⟩ fun r =>
      (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2)) ∧
      r.2.sem = fun _ => 0 :=
  (θ_run defs (onTc (τ := τ) main) _).mono (fun r h => ⟨fun c => ⟨(h.1 c _).trans (fin_arg m c _ rfl),
    (h.1 c _).trans (fin_arg m c _ rfl), (h.1 c _).trans (fin_arg m c _ rfl)⟩, h.2⟩) (run_fin m ρ)

end Cert.ReferenceIdeal.Val
-- ==== Proof.Spec.lean ====
/-
The Threefry block cipher on two 32-bit words, as plain word arithmetic. Both programs are compared with it.
-/
module

public import Idealize.ShloMosaic.PureOps.Vector

@[expose] public section

namespace Cert.Spec

/-- A pair of 32-bit words. -/
abbrev Pair := BitVec 32 × BitVec 32

/-- One round: add, rotate left by `r` (that is, right by `r'`), mix. -/
def rnd (r r' : BitVec 32) (s : Pair) : Pair := (s.1 + s.2, (s.1 + s.2) ^^^ ((s.2 <<< r) ||| (s.2 >>> r')))

/-- The four rounds of an even group. -/
def even (s : Pair) : Pair := rnd 6#32 26#32 (rnd 26#32 6#32 (rnd 15#32 17#32 (rnd 13#32 19#32 s)))

/-- The four rounds of an odd group. -/
def odd (s : Pair) : Pair := rnd 24#32 8#32 (rnd 16#32 16#32 (rnd 29#32 3#32 (rnd 17#32 15#32 s)))

/-- A key injection. -/
def inj (a b : BitVec 32) (s : Pair) : Pair := (s.1 + a, s.2 + b)

/-- The third key word. -/
def third (k0 k1 : BitVec 32) : BitVec 32 := k0 ^^^ k1 ^^^ 466688986#32

/-- The cipher with key `(k0, k1)` on the counter `(hi, lo)`. -/
def threefry (k0 k1 hi lo : BitVec 32) : Pair :=
  inj (third k0 k1) (k0 + 5#32) (even (inj k1 (third k0 k1 + 4#32) (odd (inj k0 (k1 + 3#32) (even
    (inj (third k0 k1) (k0 + 2#32) (odd (inj k1 (third k0 k1 + 1#32) (even (hi + k0, lo + k1))))))))))

/-- The 23 random bits at a counter: the two words of the cipher joined by xor, the low nine bits dropped. -/
def bits23 (k0 k1 hi lo : BitVec 32) : BitVec 32 :=
  ((threefry k0 k1 hi lo).1 ^^^ (threefry k0 k1 hi lo).2) >>> 9#32

theorem bits23_lt (k0 k1 hi lo : BitVec 32) : (bits23 k0 k1 hi lo).toNat < 2 ^ 23 := by
  unfold bits23
  generalize (threefry k0 k1 hi lo).1 ^^^ (threefry k0 k1 hi lo).2 = x
  have h := x.isLt
  have h9 : (9#32).toNat = 9 := rfl
  rw [BitVec.ushiftRight_eq', BitVec.toNat_ushiftRight, h9, Nat.shiftRight_eq_div_pow]
  omega

/-- The sum of seven words, from the first on. -/
def sum7 (f : Fin 7 → BitVec 32) : BitVec 32 := f 0 + f 1 + f 2 + f 3 + f 4 + f 5 + f 6

/-- The key in row `r` of the split of the key `(0, 42)` in six. -/
def key (r : Nat) : Pair := threefry 0#32 42#32 0#32 (BitVec.ofNat 32 r)

/-- The random bits of row `r`'s key at counter `J`. -/
def bits (r J : Nat) : BitVec 32 := bits23 (key r).1 (key r).2 0#32 (BitVec.ofNat 32 J)

theorem bits_lt (r J : Nat) : (bits r J).toNat < 2 ^ 23 := bits23_lt _ _ _ _

end Cert.Spec
-- ==== Proof.Read.lean ====
/-
Reading the cipher off a straight line of host operations (Ssa.lean): what the printed rounds and key injections compute
at one index, in the words of Spec.lean.
-/
module

public import proofs.«01_k».proof.Proof.Ssa
public import proofs.«01_k».proof.Proof.Spec
public import Idealize.ShloMosaic.PureOps

@[expose] public section

noncomputable section

namespace Cert.Read

open Idealize.ShloMosaic Idealize.ShloMosaic.TcCoe Idealize.ShloMosaic.StableHlo Cert.Ssa

variable {F : FTy → Type} [FloatOps F] {τ : Topo} {sig : RefSig}

/-- The shape of a scalar. -/
local notation "S0" => (⟨0, ![]⟩ : Shape)

/-- The only index of a scalar. -/
def z0 : Shape.Idx S0 := fun a => a.elim0

theorem eq_z0 (i : Shape.Idx S0) : i = z0 := funext fun a => a.elim0

/-- A broadcast scalar is the scalar everywhere. -/
theorem bc_at {α : Type} {s : Shape} (h : Shape.BroadcastsInDim S0 s ![]) (x : Shape.Idx S0 → α) (i : s.Idx) :
    broadcastInDim s ![] h x i = x z0 := congrArg x (eq_z0 _)

/-- A shift by less than the word's width, left. -/
theorem shl_at {s : Shape} {w : Nat} (x y : IVec s w) (i : s.Idx) (h : (y i).toNat < w) : Host.shli x y i = x i <<< y i := by
  show IntOp.shli .host (x i) (y i) = _
  unfold IntOp.shli; rw [if_pos h]

/-- A shift by less than the word's width, right. -/
theorem shr_at {s : Shape} {w : Nat} (x y : IVec s w) (i : s.Idx) (h : (y i).toNat < w) : Host.shrui x y i = x i >>> y i := by
  show IntOp.shrui .host (x i) (y i) = _
  unfold IntOp.shrui; rw [if_pos h]

/-- The scalar that a reference to a scalar word holds. -/
abbrev sc (V : Valuation τ sig (Elt F)) (x : TRef sig ⟨S0, .i32⟩) : BitVec 32 := (rd V x : IVec S0 32) z0

/-- The word of an array of words at an index. -/
abbrev wd {s : Shape} (V : Valuation τ sig (Elt F)) (x : TRef sig ⟨s, .i32⟩) (i : s.Idx) : BitVec 32 := (rd V x : IVec s 32) i

/-- The two halves of the cipher's state at an index. -/
def St {s : Shape} (V : Valuation τ sig (Elt F)) (x0 x1 : TRef sig ⟨s, .i32⟩) (i : s.Idx) (p : Spec.Pair) : Prop :=
  wd V x0 i = p.1 ∧ wd V x1 i = p.2

variable {s : Shape} {V : Valuation τ sig (Elt F)} {rest : List (Line τ sig (Elt F))}

/-- One printed round. -/
theorem round_step {x0 x1 y cb sl cb' sr o x1n : TRef sig ⟨s, .i32⟩} {c c' : TRef sig ⟨S0, .i32⟩} {r r' : BitVec 32}
    {hb hb' : Shape.BroadcastsInDim S0 s ![]} {f : s.Idx → Spec.Pair} (hs : ∀ i, St V x0 x1 i (f i))
    (h : All (Line.tbinary x0 x1 y addi :: Line.tnullary c (constantI S0 32 r) :: Line.tunary c cb (broadcastInDim s ![] hb) ::
      Line.tbinary x1 cb sl Host.shli :: Line.tnullary c' (constantI S0 32 r') :: Line.tunary c' cb' (broadcastInDim s ![] hb') ::
      Line.tbinary x1 cb' sr Host.shrui :: Line.tbinary sl sr o ori :: Line.tbinary y o x1n xori :: rest) V)
    (hr : r.toNat < 32) (hr' : r'.toNat < 32) :
    (∀ i, St V y x1n i (Spec.rnd r r' (f i))) ∧ All rest V := by
  obtain ⟨hy, hc, hcb, hsl, hc', hcb', hsr, ho, hx, h⟩ := h
  refine ⟨fun i => ?_, h⟩
  obtain ⟨h0, h1⟩ := hs i
  have ey : wd V y i = (f i).1 + (f i).2 := by rw [← h0, ← h1]; exact congrFun hy i
  have ecb : wd V cb i = r := (congrFun hcb i).trans ((bc_at hb _ i).trans (congrFun hc z0))
  have ecb' : wd V cb' i = r' := (congrFun hcb' i).trans ((bc_at hb' _ i).trans (congrFun hc' z0))
  have esl : wd V sl i = (f i).2 <<< r := by
    rw [← h1, ← ecb]
    exact (congrFun hsl i).trans (shl_at _ _ i (by show (wd V cb i).toNat < 32; rw [ecb]; exact hr))
  have esr : wd V sr i = (f i).2 >>> r' := by
    rw [← h1, ← ecb']
    exact (congrFun hsr i).trans (shr_at _ _ i (by show (wd V cb' i).toNat < 32; rw [ecb']; exact hr'))
  have eo : wd V o i = ((f i).2 <<< r) ||| ((f i).2 >>> r') := by rw [← esl, ← esr]; exact congrFun ho i
  refine ⟨ey, ?_⟩
  show wd V x1n i = ((f i).1 + (f i).2) ^^^ (((f i).2 <<< r) ||| ((f i).2 >>> r'))
  rw [← ey, ← eo]; exact congrFun hx i

/-- One printed key injection. -/
theorem inj_step {x0 x1 kb x0n kb2 t cb x1n : TRef sig ⟨s, .i32⟩} {k1 k2 c : TRef sig ⟨S0, .i32⟩} {n : BitVec 32}
    {hb hb' hb'' : Shape.BroadcastsInDim S0 s ![]} {f : s.Idx → Spec.Pair} (hs : ∀ i, St V x0 x1 i (f i))
    (h : All (Line.tunary k1 kb (broadcastInDim s ![] hb) :: Line.tbinary x0 kb x0n addi ::
      Line.tunary k2 kb2 (broadcastInDim s ![] hb') :: Line.tbinary x1 kb2 t addi ::
      Line.tnullary c (constantI S0 32 n) :: Line.tunary c cb (broadcastInDim s ![] hb'') ::
      Line.tbinary t cb x1n addi :: rest) V) :
    (∀ i, St V x0n x1n i (Spec.inj (sc V k1) (sc V k2 + n) (f i))) ∧ All rest V := by
  obtain ⟨hkb, hx0, hkb2, ht, hc, hcb, hx1, h⟩ := h
  refine ⟨fun i => ?_, h⟩
  obtain ⟨h0, h1⟩ := hs i
  have ekb : wd V kb i = sc V k1 := (congrFun hkb i).trans (bc_at hb _ i)
  have ekb2 : wd V kb2 i = sc V k2 := (congrFun hkb2 i).trans (bc_at hb' _ i)
  have ecb : wd V cb i = n := (congrFun hcb i).trans ((bc_at hb'' _ i).trans (congrFun hc z0))
  have e0 : wd V x0n i = (f i).1 + sc V k1 := by rw [← h0, ← ekb]; exact congrFun hx0 i
  have et : wd V t i = (f i).2 + sc V k2 := by rw [← h1, ← ekb2]; exact congrFun ht i
  have e1 : wd V x1n i = (f i).2 + sc V k2 + n := by rw [← et, ← ecb]; exact congrFun hx1 i
  exact ⟨e0, e1.trans (BitVec.add_assoc _ _ _)⟩

/-- The printed first lines: the third key word, and the key added to the counter. -/
theorem init_step {a0 a1 v0 c v1 : TRef sig ⟨S0, .i32⟩} {a2 a3 v2 v3 v4 v5 : TRef sig ⟨s, .i32⟩}
    {hb hb' : Shape.BroadcastsInDim S0 s ![]}
    (h : All (Line.tbinary a0 a1 v0 xori :: Line.tnullary c (constantI S0 32 466688986#32) :: Line.tbinary v0 c v1 xori ::
      Line.tunary a0 v2 (broadcastInDim s ![] hb) :: Line.tbinary a2 v2 v3 addi ::
      Line.tunary a1 v4 (broadcastInDim s ![] hb') :: Line.tbinary a3 v4 v5 addi :: rest) V) :
    sc V v1 = Spec.third (sc V a0) (sc V a1) ∧
      (∀ i, St V v3 v5 i (wd V a2 i + sc V a0, wd V a3 i + sc V a1)) ∧ All rest V := by
  obtain ⟨h0, hc, h1, h2, h3, h4, h5, h⟩ := h
  have e2 : ∀ i, wd V v2 i = sc V a0 := fun i => (congrFun h2 i).trans (bc_at hb _ i)
  have e4 : ∀ i, wd V v4 i = sc V a1 := fun i => (congrFun h4 i).trans (bc_at hb' _ i)
  refine ⟨?_, fun i => ⟨?_, ?_⟩, h⟩
  · have e0 : sc V v0 = sc V a0 ^^^ sc V a1 := congrFun h0 z0
    have ec : sc V c = 466688986#32 := congrFun hc z0
    show sc V v1 = sc V a0 ^^^ sc V a1 ^^^ 466688986#32
    rw [← e0, ← ec]; exact congrFun h1 z0
  · show wd V v3 i = wd V a2 i + sc V a0
    rw [← e2 i]; exact congrFun h3 i
  · show wd V v5 i = wd V a3 i + sc V a1
    rw [← e4 i]; exact congrFun h5 i

end Cert.Read
-- ==== Proof.RefTf.lean ====
/-
The reference's cipher calls, read: a call on counters `(hi, lo)` under a key leaves the words of `Spec.threefry`.
-/
module

public import proofs.«01_k».proof.Proof.Read
public import proofs.«01_k».proof.Proof.RefLines

@[expose] public section

set_option maxRecDepth 16384

noncomputable section

namespace Cert.ReferenceIdeal.Val

open Idealize.ShloMosaic Idealize.ShloMosaic.TcCoe Idealize.ShloMosaic.StableHlo
open Cert.ReferenceIdeal Cert.ReferenceIdeal.Gen Cert.Ssa Cert.Read

variable {F : FTy → Type} [FloatOps F] {V : Valuation τ sig (Elt F)}

/-- A cipher call on one counter per weight. -/
theorem tf_read {a0 a1 a2 a3} {φ : fn_threefry2x32_0.Bufs} (h : All (tf (F := F) a0 a1 a2 a3 φ).1 V) (i) :
    St V φ.v171 φ.v175 i (Spec.threefry (sc V a0) (sc V a1) (wd V a2 i) (wd V a3 i)) := by
  obtain ⟨e, hs, h⟩ := init_step h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, h⟩ := inj_step hs h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, h⟩ := inj_step hs h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, h⟩ := inj_step hs h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, h⟩ := inj_step hs h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, -⟩ := inj_step hs h
  have := hs i
  rw [e] at this
  exact this

end Cert.ReferenceIdeal.Val
-- ==== Proof.RefFn.lean ====
/-
The reference's functions, read: the key split, the uniform numbers, the coin tosses, the choices, the clips and the
rounding, each at one index.
-/
module

public import proofs.«01_k».proof.Proof.RefTf
public import Idealize.ShloMosaic.Lib.Pipeline.Value
public import Idealize.ShloMosaic.Lib.ValueIdxRank6
public import Idealize.ShloMosaic.PureOps.Ideal.Laws

@[expose] public section

set_option maxRecDepth 16384

noncomputable section

namespace Cert.ReferenceIdeal.Val

open Idealize.ShloMosaic Idealize.ShloMosaic.TcCoe Idealize.ShloMosaic.StableHlo Idealize.ShloMosaic.ValueIdx
open Cert.ReferenceIdeal Cert.ReferenceIdeal.Gen Cert.Ssa Cert.Read

section Words

variable {F : FTy → Type} [FloatOps F] {V : Valuation τ sig (Elt F)}

/-- A cipher call on six counters. -/
theorem tfs_read {a0 a1 a2 a3} {φ : fn_threefry2x32.Bufs} (h : All (tfs (F := F) a0 a1 a2 a3 φ).1 V) (i) :
    St V φ.v171 φ.v175 i (Spec.threefry (sc V a0) (sc V a1) (wd V a2 i) (wd V a3 i)) := by
  obtain ⟨e, hs, h⟩ := init_step h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, h⟩ := inj_step hs h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, h⟩ := inj_step hs h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, h⟩ := inj_step hs h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, h⟩ := inj_step hs h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, -⟩ := inj_step hs h
  have := hs i
  rw [e] at this
  exact this

/-- The index of a key's word. -/
def kx (n : Fin 2) : S2.Idx := ix1 n

/-- A key word: sliced out, made a scalar. -/
theorem word_step {a : TRef sig ⟨S2, .i32⟩} {x : TRef sig ⟨S1, .i32⟩} {y : TRef sig ⟨S_, .i32⟩} {n : Nat} (hn : n < 2)
    {hs : S2.Slices ![n] S1} (h0 : (Line.tunary (Val := Elt F) a x (extractStridedSlice S1 ![n] · hs)).Law V)
    (h1 : (Line.treshape (Val := Elt F) x y rfl shapeCasts_S1_S_).Law V) :
    sc V y = wd V a (kx ⟨n, hn⟩) := by
  have e1 : sc V y = wd V x (ix1 (0 : Fin 1)) := (congrFun h1 z0).trans
    (shapeCast_apply (rd V x : IVec S1 32) shapeCasts_S1_S_ z0 (ix1 (0 : Fin 1)) (by decide))
  rw [e1]
  refine (congrFun h0 _).trans ?_
  show (rd V a : IVec S2 32) _ = (rd V a : IVec S2 32) _
  congr 1
  funext b
  obtain rfl : b = 0 := Subsingleton.elim (α := Fin 1) _ _
  rfl

/-- The index of a word in the six keys. -/
def kx2 (r : Fin 6) (n : Fin 2) : S6x2.Idx := ix2 r n

/-- The counters of the key split. -/
theorem six_words (r : Fin 6) : (1#64 * BitVec.ofNat 64 r.val).setWidth 32 = BitVec.ofNat 32 r.val ∧
    ((1#64 * BitVec.ofNat 64 r.val) >>> 32#64).setWidth 32 = 0#32 := by
  revert r; decide

/-- The key split: row `r` is the cipher of the counter `r`. -/
theorem split_read {a0} {φ : fn_threefry_split.Bufs} (h : All (split (F := F) a0 φ).1 V) (r : Fin 6) :
    wd V φ.v14 (kx2 r 0) = (Spec.threefry (wd V a0 (kx 0)) (wd V a0 (kx 1)) 0#32 (BitVec.ofNat 32 r.val)).1 ∧
    wd V φ.v14 (kx2 r 1) = (Spec.threefry (wd V a0 (kx 0)) (wd V a0 (kx 1)) 0#32 (BitVec.ofNat 32 r.val)).2 := by
  obtain ⟨h0, h1, h2, h3, h4, hc, h5, h6, hc0, h7, h8, h9, h10, h⟩ := h
  rw [all_append] at h
  obtain ⟨ht, h12, h13, h14, -⟩ := h
  have k0 : sc V φ.v1 = wd V a0 (kx 0) := word_step (by decide) h0 h1
  have k1 : sc V φ.v3 = wd V a0 (kx 1) := word_step (by decide) h2 h3
  let i : S6.Idx := ix1 r
  have e4 : (rd V φ.v4 : IVec S6 64) i = BitVec.ofNat 64 r.val := congrFun h4 i
  have e5 : (rd V φ.v5 : IVec S6 64) i = 1#64 := (congrFun h5 i).trans ((bc_at _ _ i).trans (congrFun hc z0))
  have e7 : (rd V φ.v7 : IVec S6 64) i = 32#64 := (congrFun h7 i).trans ((bc_at _ _ i).trans (congrFun hc0 z0))
  have e6 : (rd V φ.v6 : IVec S6 64) i = 1#64 * BitVec.ofNat 64 r.val := by rw [← e4, ← e5]; exact congrFun h6 i
  have e8 : (rd V φ.v8 : IVec S6 64) i = (1#64 * BitVec.ofNat 64 r.val) >>> 32#64 := by
    rw [← e6, ← e7]
    exact (congrFun h8 i).trans (shr_at _ _ i (by show ((rd V φ.v7 : IVec S6 64) i).toNat < 64; rw [e7]; decide))
  have e9 : wd V φ.v9 i = BitVec.ofNat 32 r.val := by
    have : wd V φ.v9 i = ((rd V φ.v6 : IVec S6 64) i).setWidth 32 := congrFun h9 i
    rw [this, e6]; exact (six_words r).1
  have e10 : wd V φ.v10 i = 0#32 := by
    have : wd V φ.v10 i = ((rd V φ.v8 : IVec S6 64) i).setWidth 32 := congrFun h10 i
    rw [this, e8]; exact (six_words r).2
  have t := tfs_read ht i
  rw [k0, k1, e9, e10] at t
  have e12 : wd V φ.v12 (ix2 r (0 : Fin 1)) = wd V φ.call0.v171 i := by
    refine (congrFun h12 _).trans ?_
    show (rd V φ.call0.v171 : IVec S6 32) _ = (rd V φ.call0.v171 : IVec S6 32) _
    congr 1
    funext b
    obtain rfl : b = 0 := Subsingleton.elim (α := Fin 1) _ _
    rfl
  have e13 : wd V φ.v13 (ix2 r (0 : Fin 1)) = wd V φ.call0.v175 i := by
    refine (congrFun h13 _).trans ?_
    show (rd V φ.call0.v175 : IVec S6 32) _ = (rd V φ.call0.v175 : IVec S6 32) _
    congr 1
    funext b
    obtain rfl : b = 0 := Subsingleton.elim (α := Fin 1) _ _
    rfl
  constructor
  · rw [← t.1, ← e12]
    refine (congrFun h14 _).trans (concatenate_pair_apply_left (1 : Fin S6x2.rank)
      (rd V φ.v12 : IVec S6x1 32) (rd V φ.v13 : IVec S6x1 32) concatenates_S6x1_S6x1_S6x2_d1 (kx2 r 0) rfl (ix2 r (0 : Fin 1)) ?_)
    intro b
    match b with
    | 0 => rfl
    | 1 => rfl
  · rw [← t.2, ← e13]
    refine (congrFun h14 _).trans (concatenate_pair_apply_right (1 : Fin S6x2.rank)
      (rd V φ.v12 : IVec S6x1 32) (rd V φ.v13 : IVec S6x1 32) concatenates_S6x1_S6x1_S6x2_d1 (kx2 r 1) rfl rfl (ix2 r (0 : Fin 1)) ?_ rfl)
    intro b hb
    match b with
    | 0 => rfl
    | 1 => exact absurd rfl hb

/-- The position of an index in row-major order. -/
def flat (i : S512x128x16x16.Idx) : Nat := (i 0).val * 32768 + (i 1).val * 256 + (i 2).val * 16 + (i 3).val

theorem flat_lt (i : S512x128x16x16.Idx) : flat i < 2 ^ 24 := by
  have h0 : (i 0).val < 512 := (i 0).isLt
  have h1 : (i 1).val < 128 := (i 1).isLt
  have h2 : (i 2).val < 16 := (i 2).isLt
  have h3 : (i 3).val < 16 := (i 3).isLt
  unfold flat
  omega

/-- The counters of the uniform numbers: the low word is the position, the high word zero. -/
theorem counter_words (a b c d : Nat) (h0 : a < 512) (h1 : b < 128) (h2 : c < 16) (h3 : d < 16) :
    let x : BitVec 64 := 32768#64 * BitVec.ofNat 64 a + 256#64 * BitVec.ofNat 64 b + 16#64 * BitVec.ofNat 64 c + 1#64 * BitVec.ofNat 64 d
    x.setWidth 32 = BitVec.ofNat 32 (a * 32768 + b * 256 + c * 16 + d) ∧ (x >>> 32#64).setWidth 32 = 0#32 := by
  intro x
  have hx : x.toNat = a * 32768 + b * 256 + c * 16 + d := by
    simp only [x, BitVec.toNat_add, BitVec.toNat_mul, BitVec.toNat_ofNat]
    omega
  constructor
  · apply BitVec.eq_of_toNat_eq
    rw [BitVec.toNat_setWidth, hx, BitVec.toNat_ofNat]
  · apply BitVec.eq_of_toNat_eq
    have h32 : (32#64).toNat = 32 := rfl
    rw [BitVec.toNat_setWidth, BitVec.ushiftRight_eq', BitVec.toNat_ushiftRight, hx, h32, Nat.shiftRight_eq_div_pow]
    show _ = 0
    omega

/-- The bits of the uniform numbers. -/
theorem uniform_bits {a0 a1 a2} {φ : fn_uniform.Bufs} (h : All (uniform (F := F) a0 a1 a2 φ).1 V) (i) :
    (rd V φ.v32 : IVec S512x128x16x16 32) i =
      Spec.bits23 (wd V a0 (kx 0)) (wd V a0 (kx 1)) 0#32 (BitVec.ofNat 32 (flat i)) ||| 1065353216#32 := by
  obtain ⟨-, -, -, -, h4, h5, h6, h7, h8, h9, h10, h11, hc, h12, h13, hc0, h14, h15, hc1, h16, h17, hc2, h18, h19, h20, h21,
    h22, hc3, h23, h24, h25, h26, h⟩ := h
  rw [all_append] at h
  obtain ⟨ht, h28, hc4, h29, h30, hc5, h31, h32, -⟩ := h
  have k0 : sc V φ.v5 = wd V a0 (kx 0) := word_step (by decide) h4 h5
  have k1 : sc V φ.v7 = wd V a0 (kx 1) := word_step (by decide) h6 h7
  have e8 : (rd V φ.v8 : IVec S512x128x16x16 64) i = BitVec.ofNat 64 (i 0).val := congrFun h8 i
  have e9 : (rd V φ.v9 : IVec S512x128x16x16 64) i = BitVec.ofNat 64 (i 1).val := congrFun h9 i
  have e10 : (rd V φ.v10 : IVec S512x128x16x16 64) i = BitVec.ofNat 64 (i 2).val := congrFun h10 i
  have e11 : (rd V φ.v11 : IVec S512x128x16x16 64) i = BitVec.ofNat 64 (i 3).val := congrFun h11 i
  have e12 : (rd V φ.v12 : IVec S512x128x16x16 64) i = 32768#64 := (congrFun h12 i).trans ((bc_at _ _ i).trans (congrFun hc z0))
  have e14 : (rd V φ.v14 : IVec S512x128x16x16 64) i = 256#64 := (congrFun h14 i).trans ((bc_at _ _ i).trans (congrFun hc0 z0))
  have e16 : (rd V φ.v16 : IVec S512x128x16x16 64) i = 16#64 := (congrFun h16 i).trans ((bc_at _ _ i).trans (congrFun hc1 z0))
  have e18 : (rd V φ.v18 : IVec S512x128x16x16 64) i = 1#64 := (congrFun h18 i).trans ((bc_at _ _ i).trans (congrFun hc2 z0))
  have e23 : (rd V φ.v23 : IVec S512x128x16x16 64) i = 32#64 := (congrFun h23 i).trans ((bc_at _ _ i).trans (congrFun hc3 z0))
  have e13 := congrFun h13 i
  have e15 := congrFun h15 i
  have e17 := congrFun h17 i
  have e19 := congrFun h19 i
  have e20 := congrFun h20 i
  have e21 := congrFun h21 i
  have e22 : (rd V φ.v22 : IVec S512x128x16x16 64) i = 32768#64 * BitVec.ofNat 64 (i 0).val + 256#64 * BitVec.ofNat 64 (i 1).val +
      16#64 * BitVec.ofNat 64 (i 2).val + 1#64 * BitVec.ofNat 64 (i 3).val := by
    rw [← e8, ← e9, ← e10, ← e11, ← e12, ← e14, ← e16, ← e18]
    refine (congrFun h22 i).trans ?_
    show (rd V φ.v21 : IVec S512x128x16x16 64) i + (rd V φ.v19 : IVec S512x128x16x16 64) i = _
    rw [e21, e19]
    show (rd V φ.v20 : IVec S512x128x16x16 64) i + (rd V φ.v17 : IVec S512x128x16x16 64) i + _ = _
    rw [e20, e17]
    show (rd V φ.v13 : IVec S512x128x16x16 64) i + (rd V φ.v15 : IVec S512x128x16x16 64) i + _ + _ = _
    rw [e13, e15]
    rfl
  have hw := counter_words (i 0).val (i 1).val (i 2).val (i 3).val (i 0).isLt (i 1).isLt (i 2).isLt (i 3).isLt
  have e25 : wd V φ.v25 i = BitVec.ofNat 32 (flat i) := by
    have : wd V φ.v25 i = ((rd V φ.v22 : IVec S512x128x16x16 64) i).setWidth 32 := congrFun h25 i
    rw [this, e22]; exact hw.1
  have e26 : wd V φ.v26 i = 0#32 := by
    have e24 : (rd V φ.v24 : IVec S512x128x16x16 64) i = (rd V φ.v22 : IVec S512x128x16x16 64) i >>> 32#64 := by
      rw [← e23]
      exact (congrFun h24 i).trans (shr_at _ _ i (by show ((rd V φ.v23 : IVec S512x128x16x16 64) i).toNat < 64; rw [e23]; decide))
    have : wd V φ.v26 i = ((rd V φ.v24 : IVec S512x128x16x16 64) i).setWidth 32 := congrFun h26 i
    rw [this, e24, e22]; exact hw.2
  have t := tf_read ht i
  rw [k0, k1, e25, e26] at t
  have e29 : wd V φ.v29 i = 9#32 := (congrFun h29 i).trans ((bc_at _ _ i).trans (congrFun hc4 z0))
  have e31 : wd V φ.v31 i = 1065353216#32 := (congrFun h31 i).trans ((bc_at _ _ i).trans (congrFun hc5 z0))
  have e30 : wd V φ.v30 i = wd V φ.v28 i >>> 9#32 := by
    rw [← e29]
    exact (congrFun h30 i).trans (shr_at _ _ i (by show (wd V φ.v29 i).toNat < 32; rw [e29]; decide))
  have e28 : wd V φ.v28 i = wd V φ.call0.v171 i ^^^ wd V φ.call0.v175 i := congrFun h28 i
  refine (congrFun h32 i).trans ?_
  show wd V φ.v30 i ||| wd V φ.v31 i = _
  rw [e30, e31, e28, t.1, t.2]
  rfl

end Words

end Cert.ReferenceIdeal.Val
-- ==== Proof.Math.lean ====
/-
The update of one weight, as arithmetic: `upd` as the kernel computes it, `refUpd` as the reference does, and their
equality at a whole weight.
-/
module

public import proofs.«01_k».proof.Proof.Spec
public import Idealize.ShloMosaic.PureOps.Ideal.Laws
public import Idealize.ShloMosaic.Lib.IdealHost

@[expose] public section

noncomputable section

namespace Cert.Spec

open Idealize.ShloMosaic

/-- The pattern of seven. -/
theorem ofBits_7 : Ideal.ofBits .f32 0x40E00000#32 = 7 := by
  rw [show (7 : EReal) = ((7 : ℝ) : EReal) by norm_cast]
  simp [Ideal.ofBits, Ideal.ieee, -EReal.coe_mul]; norm_num

/-- The pattern of two. -/
theorem ofBits_2 : Ideal.ofBits .f32 0x40000000#32 = 2 := by
  rw [show (2 : EReal) = ((2 : ℝ) : EReal) by norm_cast]
  simp [Ideal.ofBits, Ideal.ieee, -EReal.coe_mul]; norm_num

/-- The number in `[0, 1)` that 23 bits stand for. -/
def frac (b : BitVec 32) : EReal := (((b.toNat : ℝ) / 8388608 : ℝ) : EReal)

/-- The number whose bits are an exponent of zero and the given 23 bits, less one. -/
theorem frac_eq (b : BitVec 32) (h : b.toNat < 2 ^ 23) :
    Ideal.ofBits .f32 (b ||| 1065353216#32) - 1 = frac b := by
  have hn : (b ||| 1065353216#32).toNat = 1065353216 + b.toNat := by
    rw [BitVec.toNat_or]
    have := Nat.two_pow_add_eq_or_of_lt (i := 23) h 127
    show b.toNat ||| 1065353216 = _
    rw [Nat.or_comm, show (1065353216 : Nat) = 2 ^ 23 * 127 from rfl, ← this]
  have hneg : ((b ||| 1065353216#32).extractLsb' (8 + 23) 1 == 1#1) = false := by
    have : ((b ||| 1065353216#32).extractLsb' (8 + 23) 1) = 0#1 := by
      apply BitVec.eq_of_toNat_eq
      rw [BitVec.extractLsb'_toNat, hn, Nat.shiftRight_eq_div_pow]
      show _ = 0
      omega
    rw [this]; rfl
  have hex : ((b ||| 1065353216#32).extractLsb' 23 8).toNat = 127 := by
    rw [BitVec.extractLsb'_toNat, hn, Nat.shiftRight_eq_div_pow]
    omega
  have hfr : ((b ||| 1065353216#32).extractLsb' 0 23).toNat = b.toNat := by
    rw [BitVec.extractLsb'_toNat, hn, Nat.shiftRight_eq_div_pow]
    omega
  have e : Ideal.ofBits .f32 (b ||| 1065353216#32) = (((2 ^ 23 + b.toNat : ℝ) / 8388608 : ℝ) : EReal) := by
    show Ideal.ieee 8 23 _ = _
    unfold Ideal.ieee
    simp only [hneg, hex, hfr]
    rw [if_neg (by norm_num), if_neg (by norm_num)]
    congr 1
    push_cast
    norm_num
    ring
  rw [e, show (1 : EReal) = ((1 : ℝ) : EReal) from rfl, ← EReal.coe_sub]
  unfold frac
  congr 1
  ring

/-- The kernel's number of 23 bits. -/
theorem frac_mul (b : BitVec 32) (h : b.toNat < 2 ^ 23) :
    ((b.toInt : ℝ) : EReal) * Ideal.ofBits .f32 0x34000000#32 = frac b := by
  have e : Ideal.ofBits .f32 0x34000000#32 = (((1 : ℝ) / 8388608 : ℝ) : EReal) := by
    simp [Ideal.ofBits, Ideal.ieee, -EReal.coe_mul]; norm_num
  have hi : (b.toInt : ℝ) = (b.toNat : ℝ) := by
    rw [BitVec.toInt_eq_toNat_of_lt (by omega)]; norm_cast
  rw [e, hi, ← EReal.coe_mul]
  unfold frac
  congr 1
  ring

theorem frac_lt (b : BitVec 32) (r : ℝ) (T : Nat) (h : r = (T : ℝ) / 8388608) : frac b < (r : EReal) ↔ b.toNat < T := by
  unfold frac
  rw [EReal.coe_lt_coe_iff, h, div_lt_div_iff_of_pos_right (by norm_num)]
  exact_mod_cast Iff.rfl

/-- Clipping to `[0, 1]`. -/
def clip01 (x : EReal) : EReal := min 1 (max 0 x)

/-- Clipping to `[0, 7]`. -/
def clip07 (x : EReal) : EReal := min 7 (max 0 x)

/-- The weight's share of the largest weight. -/
def ratio (w : EReal) : EReal := w * Ideal.ofBits .f32 0x3E124925#32

/-- Whether the weight may grow: there were input spikes, and no output spikes or no more than input spikes. -/
def plusP (sx sy : BitVec 32) : Prop := sx ≠ 0#32 ∧ (sy = 0#32 ∨ ¬ sx.toInt < sy.toInt)

/-- The threshold of the first coin. -/
def thr (sx sy : BitVec 32) : Nat :=
  if sx = 0#32 then (if sy = 0#32 then 0 else 6291456) else (if sy = 0#32 then 65536 else 655360)

open scoped Classical in
/-- The step a weight takes. -/
def step (sx sy b1 b2 b3 b4 b5 : BitVec 32) (w : EReal) : EReal :=
  if plusP sx sy then
    if b1.toNat < thr sx sy ∧ (frac b4 < clip01 (ratio w * (2 - ratio w)) ∨ b5.toNat < 262144) then 1 else 0
  else
    if b2.toNat < thr sx sy ∧ (frac b3 < clip01 ((1 - ratio w) * (1 + ratio w)) ∨ b5.toNat < 262144) then -1 else 0

/-- The updated weight. -/
def upd (sx sy b1 b2 b3 b4 b5 : BitVec 32) (w : EReal) : EReal := clip07 (w + step sx sy b1 b2 b3 b4 b5 w)

open scoped Classical in
/-- One where a condition holds, zero elsewhere. -/
def ind (p : Prop) : EReal := if p then 1 else 0

theorem ind_true {p : Prop} (h : p) : ind p = 1 := if_pos h
theorem ind_false {p : Prop} (h : ¬ p) : ind p = 0 := if_neg h

/-- A spike count as the reference keeps it: seven less the count. -/
def times (s : BitVec 32) : EReal := 7 - ((s.toInt : ℝ) : EReal)

theorem times_coe (s : BitVec 32) : times s = ((7 - (s.toInt : ℝ) : ℝ) : EReal) := by
  unfold times; rw [EReal.coe_sub]; rfl

theorem times_eq (s : BitVec 32) : times s = 7 ↔ s = 0#32 := by
  rw [times_coe, show (7 : EReal) = ((7 : ℝ) : EReal) from rfl, EReal.coe_eq_coe_iff]
  constructor
  · intro h
    have : s.toInt = 0 := by
      have : (s.toInt : ℝ) = 0 := by linarith
      exact_mod_cast this
    exact BitVec.eq_of_toInt_eq (by rw [this]; rfl)
  · rintro rfl; norm_num

theorem times_lt (s t : BitVec 32) : times t < times s ↔ s.toInt < t.toInt := by
  rw [times_coe, times_coe, EReal.coe_lt_coe_iff]
  constructor
  · intro h
    have : (s.toInt : ℝ) < t.toInt := by linarith
    exact_mod_cast this
  · intro h
    have : (s.toInt : ℝ) < t.toInt := by exact_mod_cast h
    linarith

open scoped Classical in
/-- The reference's probability that a weight grows. -/
def pPlus (A B C : Prop) : EReal :=
  (if ¬ A ∧ ¬ B ∧ ¬ C then ((0.078125 : ℝ) : EReal) else 0) + (if ¬ A ∧ B then ((0.0078125 : ℝ) : EReal) else 0)

open scoped Classical in
/-- The reference's probability that a weight shrinks. -/
def pMinus (A B C : Prop) : EReal :=
  (if ¬ A ∧ ¬ B ∧ C then ((0.078125 : ℝ) : EReal) else 0) + (if A ∧ ¬ B then ((0.75 : ℝ) : EReal) else 0)

/-- The updated weight as the reference computes it, before its rounding. -/
def refUpd (sx sy b1 b2 b3 b4 b5 : BitVec 32) (w : EReal) : EReal :=
  let A := times sx = 7
  let B := times sy = 7
  let C := times sy < times sx
  let u := ind (frac b5 < ((0.03125 : ℝ) : EReal))
  clip07 (w + ind (frac b1 < pPlus A B C) * max (ind (frac b4 < clip01 (ratio w * (2 - ratio w)))) u
    - ind (frac b2 < pMinus A B C) * max (ind (frac b3 < clip01 ((1 - ratio w) * (1 + ratio w)))) u)

theorem ind_or (p q : Prop) : max (ind p) (ind q) = ind (p ∨ q) := by
  by_cases hp : p <;> by_cases hq : q <;> simp [ind, hp, hq]

theorem ind_and (p q : Prop) : ind p * ind q = ind (p ∧ q) := by
  by_cases hp : p <;> by_cases hq : q <;> simp [ind, hp, hq]

theorem not_frac_neg (b : BitVec 32) : ¬ frac b < 0 := by
  have := frac_lt b 0 0 (by norm_num)
  rw [show (0 : EReal) = ((0 : ℝ) : EReal) from rfl, this]
  omega

theorem refUpd_eq (sx sy b1 b2 b3 b4 b5 : BitVec 32) (w : EReal) :
    refUpd sx sy b1 b2 b3 b4 b5 w = upd sx sy b1 b2 b3 b4 b5 w := by
  unfold refUpd upd
  dsimp only
  rw [ind_or, ind_or, ind_and, ind_and]
  congr 1
  rw [sub_eq_add_neg, add_assoc]
  congr 1
  have h5 : frac b5 < ((0.03125 : ℝ) : EReal) ↔ b5.toNat < 262144 := frac_lt b5 _ 262144 (by norm_num)
  have hp1 : frac b1 < ((0.078125 : ℝ) : EReal) ↔ b1.toNat < 655360 := frac_lt b1 _ 655360 (by norm_num)
  have hp2 : frac b1 < ((0.0078125 : ℝ) : EReal) ↔ b1.toNat < 65536 := frac_lt b1 _ 65536 (by norm_num)
  have hm1 : frac b2 < ((0.078125 : ℝ) : EReal) ↔ b2.toNat < 655360 := frac_lt b2 _ 655360 (by norm_num)
  have hm2 : frac b2 < ((0.75 : ℝ) : EReal) ↔ b2.toNat < 6291456 := frac_lt b2 _ 6291456 (by norm_num)
  have z1 := not_frac_neg b1
  have z2 := not_frac_neg b2
  unfold step pPlus pMinus plusP thr
  simp only [times_eq, times_lt, h5]
  by_cases hA : sx = 0#32 <;> by_cases hB : sy = 0#32 <;> by_cases hC : sx.toInt < sy.toInt <;>
    simp only [hA, hB, hC, not_true_eq_false, not_false_eq_true, true_and, and_true, false_and, and_false, if_true, if_false,
      add_zero, zero_add, z1, z2, hp1, hp2, hm1, hm2, ne_eq, true_or, or_true, false_or, or_false, Nat.not_lt_zero] <;>
    simp [ind]
  all_goals split_ifs <;> simp

/-- Rounding to the nearest whole number, ties to even. -/
def rnde (x : EReal) : EReal := Ideal.liftRound Ideal.roundHalfEven x

theorem rnde_int (n : ℤ) : rnde (((n : ℝ)) : EReal) = ((n : ℝ) : EReal) := by
  show ((Ideal.roundHalfEven (n : ℝ) : ℝ) : EReal) = _
  congr 2
  unfold Ideal.roundHalfEven
  simp

theorem step_int (sx sy b1 b2 b3 b4 b5 : BitVec 32) (w : EReal) :
    ∃ n : ℤ, step sx sy b1 b2 b3 b4 b5 w = ((n : ℝ) : EReal) := by
  unfold step
  split_ifs
  · exact ⟨1, by norm_num⟩
  · exact ⟨0, by norm_num⟩
  · exact ⟨-1, by norm_num⟩
  · exact ⟨0, by norm_num⟩

theorem clip07_int (n : ℤ) : clip07 ((n : ℝ) : EReal) = (((min 7 (max 0 n) : ℤ) : ℝ) : EReal) := by
  unfold clip07
  have h7 : (7 : EReal) = ((7 : ℝ) : EReal) := rfl
  have h0 : (0 : EReal) = ((0 : ℝ) : EReal) := rfl
  rw [h7, h0, ← EReal.coe_strictMono.monotone.map_max, ← EReal.coe_strictMono.monotone.map_min]
  push_cast
  rfl

/-- At a whole weight the updated weight is whole. -/
theorem upd_whole (sx sy b1 b2 b3 b4 b5 : BitVec 32) (w : EReal) (h : rnde w = w) :
    rnde (upd sx sy b1 b2 b3 b4 b5 w) = upd sx sy b1 b2 b3 b4 b5 w := by
  unfold upd
  obtain ⟨s, hs⟩ := step_int sx sy b1 b2 b3 b4 b5 w
  rw [hs]
  have key : ∃ n : ℤ, clip07 (w + ((s : ℝ) : EReal)) = ((n : ℝ) : EReal) := by
    induction w using EReal.rec with
    | bot => exact ⟨0, by rw [EReal.bot_add]; simp [clip07]⟩
    | top => exact ⟨7, by rw [EReal.top_add_coe]; simp [clip07]; rfl⟩
    | coe r =>
      have hr : ((Ideal.roundHalfEven r : ℝ) : EReal) = (r : EReal) := h
      rw [← hr, ← EReal.coe_add]
      exact ⟨_, by rw [← Int.cast_add, clip07_int]⟩
  obtain ⟨n, hn⟩ := key
  rw [hn, rnde_int]

end Cert.Spec
-- ==== Proof.RefCoin.lean ====
/-
The reference's coin tosses, choices, clips and rounding, read at one index over the extended reals.
-/
module

public import proofs.«01_k».proof.Proof.RefFn
public import proofs.«01_k».proof.Proof.Math

@[expose] public section

set_option maxRecDepth 16384

noncomputable section

namespace Cert.ReferenceIdeal.Val

open Idealize.ShloMosaic Idealize.ShloMosaic.TcCoe Idealize.ShloMosaic.StableHlo Idealize.ShloMosaic.ValueIdx
open Cert.ReferenceIdeal Cert.ReferenceIdeal.Gen Cert.Ssa Cert.Read

variable {V : Valuation τ sig (Elt Ideal)}

/-- The real number of an array at an index. -/
abbrev fl {s : Shape} (V : Valuation τ sig (Elt Ideal)) (x : TRef sig ⟨s, .f32⟩) (i : s.Idx) : EReal := (rd V x : FVec Ideal s .f32) i

/-- The uniform number between 0 and 1. -/
theorem uniform_read {a0 a1 a2} {φ : fn_uniform.Bufs} (h : All (uniform (F := Ideal) a0 a1 a2 φ).1 V)
    (h1 : fl V a1 z0 = 0) (h2 : fl V a2 z0 = 1) (i) :
    fl V φ.v42 i = Spec.frac (Spec.bits23 (wd V a0 (kx 0)) (wd V a0 (kx 1)) 0#32 (BitVec.ofNat 32 (flat i))) := by
  have hb := uniform_bits h i
  obtain ⟨hv0, hv1, hv2, hv3, -, -, -, -, -, -, -, -, -, -, -, -, -, -, -, -, -, -, -, -, -, -,
    -, -, -, -, -, -, h⟩ := h
  rw [all_append] at h
  obtain ⟨-, -, -, -, -, -, -, -, h33, hcst, h34, h35, h36, h37, h38, h39, h40, h41, h42, -⟩ := h
  have e2 : ∀ j, fl V φ.v2 j = 0 := fun j => (congrFun hv2 j).trans ((bc_at _ _ j).trans ((congrFun hv0 z0).trans h1))
  have e3 : ∀ j, fl V φ.v3 j = 1 := fun j => (congrFun hv3 j).trans ((bc_at _ _ j).trans ((congrFun hv1 z0).trans h2))
  have e36 : ∀ j, fl V φ.v36 j = 1 := fun j => by
    have : fl V φ.v36 j = fl V φ.v3 j - fl V φ.v2 j := congrFun h36 j
    rw [this, e2, e3, sub_zero]
  have e37 : fl V φ.v37 i = 1 := (congrFun h37 i).trans (e36 _)
  have e39 : fl V φ.v39 i = 0 := (congrFun h39 i).trans (e2 _)
  have e41 : fl V φ.v41 i = 0 := (congrFun h41 i).trans (e2 _)
  have e34 : fl V φ.v34 i = 1 := (congrFun h34 i).trans ((bc_at _ _ i).trans ((congrFun hcst z0).trans Ideal.ofBits_one_f32))
  have e33 : fl V φ.v33 i = Ideal.ofBits .f32 ((rd V φ.v32 : IVec S512x128x16x16 32) i) := congrFun h33 i
  have e35 : fl V φ.v35 i = fl V φ.v33 i - fl V φ.v34 i := congrFun h35 i
  have e38 : fl V φ.v38 i = fl V φ.v35 i * fl V φ.v37 i := congrFun h38 i
  have e40 : fl V φ.v40 i = fl V φ.v38 i + fl V φ.v39 i := congrFun h40 i
  have e42 : fl V φ.v42 i = max (fl V φ.v41 i) (fl V φ.v40 i) := congrFun h42 i
  rw [e42, e40, e38, e37, e39, e41, e35, e34, e33, hb, Spec.frac_eq _ (Spec.bits23_lt _ _ _ _), mul_one, add_zero]
  exact max_eq_right (not_lt.1 (Spec.not_frac_neg _))

/-- The bit of a coin toss. -/
theorem bern_read {a0 a1} {φ : fn_bernoulli.Bufs} (h : All (bern (F := Ideal) a0 a1 φ).1 V) (i) :
    (rd V φ.v1 : IVec S512x128x16x16 1) i = Ideal.cmp .olt
      (Spec.frac (Spec.bits23 (wd V a0 (kx 0)) (wd V a0 (kx 1)) 0#32 (BitVec.ofNat 32 (flat i)))) (fl V a1 i) := by
  obtain ⟨h0, h1, h⟩ := h
  rw [all_append] at h
  obtain ⟨hu, h, -⟩ := h
  rw [← uniform_read hu ((congrFun h0 z0).trans Ideal.ofBits_zero_f32) ((congrFun h1 z0).trans Ideal.ofBits_one_f32) i]
  exact congrFun h i

/-- A coin toss made a number. -/
theorem coin {x : EReal} {y : EReal} : (((Ideal.cmp .olt x y).toNat : ℝ) : EReal) = Spec.ind (x < y) := by
  unfold Ideal.cmp Spec.ind
  by_cases h : x < y <;> simp [h]

/-- A choice. -/
theorem where_read {a0 a1 a2} {φ : fn_where.Bufs} (h : All (whereL (F := Ideal) a0 a1 a2 φ).1 V) (i) :
    fl V φ.v2 i = if (rd V a0 : IVec S512x128x16x16 1) i = 1#1 then fl V a1 z0 else fl V a2 z0 := by
  obtain ⟨h0, h1, h2, -⟩ := h
  have e0 : fl V φ.v0 i = fl V a1 z0 := (congrFun h0 i).trans (bc_at _ _ i)
  have e1 : fl V φ.v1 i = fl V a2 z0 := (congrFun h1 i).trans (bc_at _ _ i)
  rw [← e0, ← e1]
  exact congrFun h2 i

/-- A clip. -/
theorem clip_read {a0 a1 a2} {φ : fn_clip.Bufs} (h : All (clipL (F := Ideal) a0 a1 a2 φ).1 V) (i) :
    fl V φ.v5 i = min (fl V a2 z0) (max (fl V a1 z0) (fl V a0 i)) := by
  obtain ⟨h0, h1, h2, h3, h4, h5, -⟩ := h
  have e1 : fl V φ.v1 i = fl V a1 z0 := (congrFun h1 i).trans ((bc_at _ _ i).trans (congrFun h0 z0))
  have e4 : fl V φ.v4 i = fl V a2 z0 := (congrFun h4 i).trans ((bc_at _ _ i).trans (congrFun h3 z0))
  have e2 : fl V φ.v2 i = max (fl V φ.v1 i) (fl V a0 i) := congrFun h2 i
  have e5 : fl V φ.v5 i = min (fl V φ.v4 i) (fl V φ.v2 i) := congrFun h5 i
  rw [e5, e4, e2, e1]

/-- The rounding. -/
theorem round_read {a0} {φ : fn_round.Bufs} (h : All (roundL (F := Ideal) a0 φ).1 V) (i) :
    fl V φ.v0 i = Spec.rnde (fl V a0 i) := congrFun h.1 i

end Cert.ReferenceIdeal.Val
-- ==== Proof.RefMain.lean ====
/-
The reference's result, read: at every index it is the rounded update of that index's weight.
-/
module

public import proofs.«01_k».proof.Proof.RefCoin
public import Idealize.ShloMosaic.Lib.Routing.OpsSet

@[expose] public section

set_option maxRecDepth 16384

noncomputable section

namespace Cert.ReferenceIdeal.Val

open Idealize.ShloMosaic Idealize.ShloMosaic.TcCoe Idealize.ShloMosaic.StableHlo Idealize.ShloMosaic.ValueIdx
open Cert.ReferenceIdeal Cert.ReferenceIdeal.Gen Cert.Ssa Cert.Read

variable {V : Valuation τ sig (Elt Ideal)}

/-- The bit of an array at an index. -/
abbrev bt {s : Shape} (V : Valuation τ sig (Elt Ideal)) (x : TRef sig ⟨s, .i1⟩) (i : s.Idx) : BitVec 1 := (rd V x : IVec s 1) i

theorem fold7 (f : Fin 7 → BitVec 32) : (Finset.univ : Finset (Fin 7)).fold IntOp.addi 0#32 f = Spec.sum7 f := by
  have : (Finset.univ : Finset (Fin 7)).fold IntOp.addi 0#32 f =
      f 0 + (f 1 + (f 2 + (f 3 + (f 4 + (f 5 + (f 6 + 0#32)))))) := rfl
  rw [this, BitVec.add_zero]
  simp only [Spec.sum7, BitVec.add_assoc]

theorem redX (x : IVec S7x128x16x16 32) (init : IVec S_ 32) (h0 : init z0 = 0#32) (c : Fin 128) (y z : Fin 16) :
    Host.reduce IntOp.addi x init reducesTo_S7x128x16x16_S128x16x16_d0 h_S_ (ix3 c y z) =
      Spec.sum7 fun t => x (ix4 t c y z) := by
  rw [Host.reduce_eq_fold_single IntOp.addi x init reducesTo_S7x128x16x16_S128x16x16_d0 (by decide) h_S_ (ix3 c y z),
    eq_z0 (Shape.Idx.first h_S_), h0]
  refine (fold7 _).trans (congrArg Spec.sum7 (funext fun t => ?_))
  show x _ = x _
  congr 1
  funext b
  match b with
  | 0 => rfl
  | 1 => rfl
  | 2 => rfl
  | 3 => rfl

theorem redY (x : IVec S7x512x1x1 32) (init : IVec S_ 32) (h0 : init z0 = 0#32) (o : Fin 512) :
    Host.reduce IntOp.addi x init reducesTo_S7x512x1x1_S512x1x1_d0 h_S_ (ix3 o (0 : Fin 1) (0 : Fin 1)) =
      Spec.sum7 fun t => x (ix4 t o (0 : Fin 1) (0 : Fin 1)) := by
  rw [Host.reduce_eq_fold_single IntOp.addi x init reducesTo_S7x512x1x1_S512x1x1_d0 (by decide) h_S_ _,
    eq_z0 (Shape.Idx.first h_S_), h0]
  refine (fold7 _).trans (congrArg Spec.sum7 (funext fun t => ?_))
  show x _ = x _
  congr 1
  funext b
  match b with
  | 0 => rfl
  | 1 => rfl
  | 2 => rfl
  | 3 => rfl

/-- A slab written at the origin of an array of its size. -/
theorem scatter_at (x0 : FVec Ideal S1x1x512x128x16x16 .f32) (idx : IVec S2 32) (hidx : ∀ k, idx k = 0#32)
    (upd : FVec Ideal S512x128x16x16 .f32) (i : S512x128x16x16.Idx) :
    Host.scatter scatter_S1x1x512x128x16x16_S2_S512x128x16x16_0123_01_01_0 (fun _ b => b) x0 idx upd
      (ix6 (0 : Fin 1) (0 : Fin 1) (i 0) (i 1) (i 2) (i 3)) = upd i := by
  obtain rfl : idx = fun _ => 0#32 := funext hidx
  have hs : ∀ (k : S512x128x16x16.Idx) a,
      scatter_S1x1x512x128x16x16_S2_S512x128x16x16_0123_01_01_0.start k (fun _ => 0#32) a = 0 := by
    intro k a
    unfold ScatterDims.start
    split
    · rfl
    · rfl
  have hw : ∀ (k : S512x128x16x16.Idx) a,
      (scatter_S1x1x512x128x16x16_S2_S512x128x16x16_0123_01_01_0.window k a : Int) =
        ((ix6 (0 : Fin 1) (0 : Fin 1) (k 0) (k 1) (k 2) (k 3) : S1x1x512x128x16x16.Idx) a).val := by
    intro k a
    match a with
    | 0 => rfl
    | 1 => rfl
    | 2 => rfl
    | 3 => rfl
    | 4 => rfl
    | 5 => rfl
  have hr : ∀ k : S512x128x16x16.Idx,
      scatter_S1x1x512x128x16x16_S2_S512x128x16x16_0123_01_01_0.resultIdx? k (fun _ => 0#32) =
        some (ix6 (0 : Fin 1) (0 : Fin 1) (k 0) (k 1) (k 2) (k 3)) := by
    intro k
    unfold ScatterDims.resultIdx?
    rw [dif_pos (fun a => ?_)]
    · congr 1
      funext a
      apply Fin.ext
      show (_ : Int).toNat = _
      rw [hs, hw, Int.zero_add, Int.toNat_natCast]
      rfl
    · rw [hs, hw, Int.zero_add]
      exact ⟨Int.natCast_nonneg _, Int.ofNat_lt.2 (Fin.isLt _)⟩
  refine Routing.scatter_set_hit _ _ _ _ _ _ (fun k hk => ?_) i (hr i)
  rw [hr] at hk
  have e := Option.some.inj hk
  congr 1
  funext a
  match a with
  | 0 => exact congrFun e (2 : Fin 6)
  | 1 => exact congrFun e (3 : Fin 6)
  | 2 => exact congrFun e (4 : Fin 6)
  | 3 => exact congrFun e (5 : Fin 6)

/-- A key's two words: a row of the split. -/
theorem row_read {x : TRef sig ⟨S6x2, .i32⟩} {y : TRef sig ⟨S1x2, .i32⟩} {z : TRef sig ⟨S2, .i32⟩} {n : Nat} (hn : n < 6)
    {hs : S6x2.Slices ![n, 0] S1x2} (h0 : rd V y = extractStridedSlice S1x2 ![n, 0] (rd V x : IVec S6x2 32) hs)
    (h1 : rd V z = shapeCast S2 (rd V y : IVec S1x2 32) shapeCasts_S1x2_S2) (e : Fin 2) :
    wd V z (kx e) = wd V x (kx2 ⟨n, hn⟩ e) := by
  have e1 : wd V z (kx e) = wd V y (ix2 (0 : Fin 1) e) := (congrFun h1 _).trans
    (shapeCast_apply (rd V y : IVec S1x2 32) shapeCasts_S1x2_S2 (kx e) (ix2 (0 : Fin 1) e) (by revert e; decide))
  rw [e1]
  refine (congrFun h0 _).trans ?_
  show (rd V x : IVec S6x2 32) _ = (rd V x : IVec S6x2 32) _
  congr 1
  funext b
  match b with
  | 0 => rfl
  | 1 => exact Fin.ext (Nat.zero_add _)

/-- The output spike count of index `i`'s channel. -/
def ySum (V : Valuation τ sig (Elt Ideal)) (i : S512x128x16x16.Idx) : BitVec 32 :=
  Spec.sum7 fun t => wd V (.of main_arg1) (ix4 t (i 0) (0 : Fin 1) (0 : Fin 1))

/-- The input spike count of index `i`'s place. -/
def xSum (V : Valuation τ sig (Elt Ideal)) (i : S512x128x16x16.Idx) : BitVec 32 :=
  Spec.sum7 fun t => wd V (.of main_arg0) (ix4 t (i 1) (i 2) (i 3))

/-- The weight at index `i`. -/
def wgt (V : Valuation τ sig (Elt Ideal)) (i : S512x128x16x16.Idx) : EReal :=
  fl V (.of main_arg2) (ix6 (0 : Fin 1) (0 : Fin 1) (i 0) (i 1) (i 2) (i 3))

/-- Row `r`'s key is held by the buffer `z`. -/
def IsKey (V : Valuation τ sig (Elt Ideal)) (z : TRef sig ⟨S2, .i32⟩) (r : Nat) : Prop :=
  wd V z (kx 0) = (Spec.key r).1 ∧ wd V z (kx 1) = (Spec.key r).2

/-- What the first window leaves for the others. -/
structure First (V : Valuation τ sig (Elt Ideal)) (i : S512x128x16x16.Idx) : Prop where
  k1 : IsKey V (.of main_v21) 1
  k2 : IsKey V (.of main_v23) 2
  k3 : IsKey V (.of main_v25) 3
  k4 : IsKey V (.of main_v27) 4
  k5 : IsKey V (.of main_v29) 5
  a : bt V (.of main_v36) i = BitVec.ofBool (decide (Spec.times (xSum V i) = 7))
  b : bt V (.of main_v38) i = BitVec.ofBool (decide (Spec.times (ySum V i) = 7))
  c : bt V (.of main_v39) i = BitVec.ofBool (decide (Spec.times (ySum V i) < Spec.times (xSum V i)))
  w : fl V (.of main_v40) i = wgt V i
  s : fl V (.of main_v46) i = if ~~~ bt V (.of main_v36) i &&& ~~~ bt V (.of main_v38) i &&& ~~~ bt V (.of main_v39) i = 1#1
    then Ideal.ofBits .f32 0x3DA00000#32 else 0
  t : bt V (.of main_v48) i = ~~~ bt V (.of main_v36) i &&& bt V (.of main_v38) i

theorem first_read (h : All (main0 (F := Ideal) (0 : Fin 1)).1 V) (i : S512x128x16x16.Idx) : First V i := by
  obtain ⟨hc, h0, h1, hcst, h2, h3, h4, hc0, h5, h6, hcst1, h7, h8, h9, hc2, hc3, h10, h11, h12, hc4, h13, h14, h15, h16, h⟩ := h
  rw [all_append] at h
  obtain ⟨hsp, h18, h19, h20, h21, h22, h23, h24, h25, h26, h27, h28, h29, h30, h31, h32, h33, h34, hcst5, h35, h36, hcst6, h37,
    h38, h39, h40, h41, h42, h43, h44, h45, hcst7, hcst8, h⟩ := h
  rw [all_append] at h
  obtain ⟨hwh, h47, h48, -⟩ := h
  -- the key
  have e10 : wd V (.of main_v10) z0 = 0#32 := by
    refine (congrFun h10 z0).trans ?_
    show IntOp.shrui .host (wd V (.of main_c_2) z0) (wd V (.of main_c_3) z0) = _
    rw [show wd V (.of main_c_2) z0 = 42#32 from congrFun hc2 z0, show wd V (.of main_c_3) z0 = 32#32 from congrFun hc3 z0]
    rfl
  have e13 : wd V (.of main_v13) z0 = 42#32 := by
    refine (congrFun h13 z0).trans ?_
    show wd V (.of main_c_2) z0 &&& wd V (.of main_c_4) z0 = _
    rw [show wd V (.of main_c_2) z0 = 42#32 from congrFun hc2 z0, show wd V (.of main_c_4) z0 = 4294967295#32 from congrFun hc4 z0]
    rfl
  have e12 : ∀ j, wd V (.of main_v12) j = 0#32 := fun j => (congrFun h12 j).trans ((bc_at _ _ j).trans ((congrFun h11 z0).trans e10))
  have e15 : ∀ j, wd V (.of main_v15) j = 42#32 := fun j => (congrFun h15 j).trans ((bc_at _ _ j).trans ((congrFun h14 z0).trans e13))
  have e16a : wd V (.of main_v16) (kx 0) = 0#32 := by
    rw [← e12 (ix1 (0 : Fin 1))]
    refine (congrFun h16 _).trans (concatenate_pair_apply_left (0 : Fin S2.rank)
      (rd V (.of main_v12) : IVec S1 32) (rd V (.of main_v15) : IVec S1 32) concatenates_S1_S1_S2_d0 (kx 0) rfl (ix1 (0 : Fin 1)) ?_)
    intro b
    obtain rfl : b = 0 := Subsingleton.elim (α := Fin 1) _ _
    rfl
  have e16b : wd V (.of main_v16) (kx 1) = 42#32 := by
    rw [← e15 (ix1 (0 : Fin 1))]
    refine (congrFun h16 _).trans (concatenate_pair_apply_right (0 : Fin S2.rank)
      (rd V (.of main_v12) : IVec S1 32) (rd V (.of main_v15) : IVec S1 32) concatenates_S1_S1_S2_d0 (kx 1) rfl rfl (ix1 (0 : Fin 1)) ?_ rfl)
    intro b hb
    obtain rfl : b = 0 := Subsingleton.elim (α := Fin 1) _ _
    exact absurd rfl hb
  have hrow : ∀ r : Fin 6, wd V (.of main_v17) (kx2 r 0) = (Spec.key r.val).1 ∧ wd V (.of main_v17) (kx2 r 1) = (Spec.key r.val).2 := by
    intro r
    have := split_read hsp r
    rw [e16a, e16b] at this
    exact this
  -- the spike counts
  have e4 : fl V (.of main_v4) (ix3 (i 1) (i 2) (i 3)) = Spec.times (xSum V i) := by
    have e0 : wd V (.of main_v0) (ix3 (i 1) (i 2) (i 3)) = xSum V i := by
      have e : (rd V (.of main_v0) : IVec S128x16x16 32) = Host.reduce IntOp.addi (rd V (.of main_arg0) : IVec S7x128x16x16 32)
        (rd V (.of main_c) : IVec S_ 32) reducesTo_S7x128x16x16_S128x16x16_d0 h_S_ := h0
      have e' := redX (rd V (.of main_arg0) : IVec S7x128x16x16 32) (rd V (.of main_c) : IVec S_ 32) (congrFun hc z0) (i 1) (i 2) (i 3)
      exact (congrFun e (ix3 (i 1) (i 2) (i 3))).trans e'
    have e1 : fl V (.of main_v1) (ix3 (i 1) (i 2) (i 3)) = (((xSum V i).toInt : ℝ) : EReal) := by
      rw [← e0]; exact congrFun h1 _
    have e2 : fl V (.of main_v2) (ix3 (i 1) (i 2) (i 3)) = 7 := (congrFun h2 _).trans ((bc_at _ _ _).trans ((congrFun hcst z0).trans Spec.ofBits_7))
    have e3 : fl V (.of main_v3) (ix3 (i 1) (i 2) (i 3)) = fl V (.of main_v2) (ix3 (i 1) (i 2) (i 3)) -
      fl V (.of main_v1) (ix3 (i 1) (i 2) (i 3)) := congrFun h3 _
    rw [e1, e2] at e3
    exact (congrFun h4 _).trans e3
  have e9 : fl V (.of main_v9) (ix3 (i 0) (0 : Fin 1) (0 : Fin 1)) = Spec.times (ySum V i) := by
    have e0 : wd V (.of main_v5) (ix3 (i 0) (0 : Fin 1) (0 : Fin 1)) = ySum V i := by
      have e : (rd V (.of main_v5) : IVec S512x1x1 32) = Host.reduce IntOp.addi (rd V (.of main_arg1) : IVec S7x512x1x1 32)
        (rd V (.of main_c_0) : IVec S_ 32) reducesTo_S7x512x1x1_S512x1x1_d0 h_S_ := h5
      have e' := redY (rd V (.of main_arg1) : IVec S7x512x1x1 32) (rd V (.of main_c_0) : IVec S_ 32) (congrFun hc0 z0) (i 0)
      exact (congrFun e (ix3 (i 0) (0 : Fin 1) (0 : Fin 1))).trans e'
    have e1 : fl V (.of main_v6) (ix3 (i 0) (0 : Fin 1) (0 : Fin 1)) = (((ySum V i).toInt : ℝ) : EReal) := by
      rw [← e0]; exact congrFun h6 _
    have e2 : fl V (.of main_v7) (ix3 (i 0) (0 : Fin 1) (0 : Fin 1)) = 7 :=
      (congrFun h7 _).trans ((bc_at _ _ _).trans ((congrFun hcst1 z0).trans Spec.ofBits_7))
    have e8 : fl V (.of main_v8) (ix3 (i 0) (0 : Fin 1) (0 : Fin 1)) = fl V (.of main_v7) (ix3 (i 0) (0 : Fin 1) (0 : Fin 1)) -
      fl V (.of main_v6) (ix3 (i 0) (0 : Fin 1) (0 : Fin 1)) := congrFun h8 _
    rw [e1, e2] at e8
    exact (congrFun h9 _).trans e8
  have e32 : fl V (.of main_v32) i = Spec.times (xSum V i) := by
    rw [← e4]
    refine (congrFun h32 i).trans ((congrFun h31 _).trans ?_)
    show (rd V (.of main_v4) : FVec Ideal S128x16x16 .f32) _ = (rd V (.of main_v4) : FVec Ideal S128x16x16 .f32) _
    congr 1
    funext b
    match b with
    | 0 => rfl
    | 1 => rfl
    | 2 => rfl
  have e34 : fl V (.of main_v34) i = Spec.times (ySum V i) := by
    rw [← e9]
    have e30 : fl V (.of main_v30) (ix1 (i 0)) = fl V (.of main_v9) (ix3 (i 0) (0 : Fin 1) (0 : Fin 1)) := (congrFun h30 _).trans
      (shapeCast_apply (rd V (.of main_v9) : FVec Ideal S512x1x1 .f32) shapeCasts_S512x1x1_S512 (ix1 (i 0)) (ix3 (i 0) (0 : Fin 1) (0 : Fin 1))
        (by rw [Shape.rowMajor_val_one, Shape.rowMajor_val_three]; show ((i 0).val * 1 + 0) * 1 + 0 = (i 0).val; omega))
    rw [← e30]
    refine (congrFun h34 i).trans ((congrFun h33 _).trans ?_)
    show (rd V (.of main_v30) : FVec Ideal S512 .f32) _ = (rd V (.of main_v30) : FVec Ideal S512 .f32) _
    congr 1
    funext b
    match b with
    | 0 => rfl
  have e35 : fl V (.of main_v35) i = 7 := (congrFun h35 _).trans ((bc_at _ _ _).trans ((congrFun hcst5 z0).trans Spec.ofBits_7))
  have e37 : fl V (.of main_v37) i = 7 := (congrFun h37 _).trans ((bc_at _ _ _).trans ((congrFun hcst6 z0).trans Spec.ofBits_7))
  constructor
  case k1 =>
    have := row_read (V := V) (x := .of main_v17) (y := .of main_v20) (z := .of main_v21) (n := 1) (by decide) h20 h21
    exact ⟨(this 0).trans (hrow 1).1, (this 1).trans (hrow 1).2⟩
  case k2 =>
    have := row_read (V := V) (x := .of main_v17) (y := .of main_v22) (z := .of main_v23) (n := 2) (by decide) h22 h23
    exact ⟨(this 0).trans (hrow 2).1, (this 1).trans (hrow 2).2⟩
  case k3 =>
    have := row_read (V := V) (x := .of main_v17) (y := .of main_v24) (z := .of main_v25) (n := 3) (by decide) h24 h25
    exact ⟨(this 0).trans (hrow 3).1, (this 1).trans (hrow 3).2⟩
  case k4 =>
    have := row_read (V := V) (x := .of main_v17) (y := .of main_v26) (z := .of main_v27) (n := 4) (by decide) h26 h27
    exact ⟨(this 0).trans (hrow 4).1, (this 1).trans (hrow 4).2⟩
  case k5 =>
    have := row_read (V := V) (x := .of main_v17) (y := .of main_v28) (z := .of main_v29) (n := 5) (by decide) h28 h29
    exact ⟨(this 0).trans (hrow 5).1, (this 1).trans (hrow 5).2⟩
  case a => rw [← e32, ← e35]; exact congrFun h36 i
  case b => rw [← e34, ← e37]; exact congrFun h38 i
  case c => rw [← e34, ← e32]; exact congrFun h39 i
  case w =>
    refine (congrFun h40 i).trans (shapeCast_apply (rd V (.of main_arg2) : FVec Ideal S1x1x512x128x16x16 .f32) _ i
      (ix6 (0 : Fin 1) (0 : Fin 1) (i 0) (i 1) (i 2) (i 3)) ?_)
    rw [Shape.rowMajor_val_six, Shape.rowMajor_val_four]
    show ((((0 * 1 + 0) * 512 + (i 0).val) * 128 + (i 1).val) * 16 + (i 2).val) * 16 + (i 3).val = _
    simp
  case s =>
    have e45 : bt V (.of main_v45) i = ~~~ bt V (.of main_v36) i &&& ~~~ bt V (.of main_v38) i &&& ~~~ bt V (.of main_v39) i := by
      rw [← show bt V (.of main_v41) i = ~~~ bt V (.of main_v36) i from congrFun h41 i,
        ← show bt V (.of main_v42) i = ~~~ bt V (.of main_v38) i from congrFun h42 i,
        ← show bt V (.of main_v44) i = ~~~ bt V (.of main_v39) i from congrFun h44 i,
        ← show bt V (.of main_v43) i = bt V (.of main_v41) i &&& bt V (.of main_v42) i from congrFun h43 i]
      exact congrFun h45 i
    have := where_read hwh i
    rw [show fl V (.of main_cst_7) z0 = Ideal.ofBits .f32 0x3DA00000#32 from congrFun hcst7 z0,
      show fl V (.of main_cst_8) z0 = 0 from (congrFun hcst8 z0).trans Ideal.ofBits_zero_f32] at this
    rw [← e45]
    exact this
  case t =>
    rw [← show bt V (.of main_v47) i = ~~~ bt V (.of main_v36) i from congrFun h47 i]
    exact congrFun h48 i

end Cert.ReferenceIdeal.Val
-- ==== Proof.RefVal.lean ====
/-
The reference's result at every index, from the first window's readings: the rounded update of that index's weight.
-/
module

public import proofs.«01_k».proof.Proof.RefMain

@[expose] public section

set_option maxRecDepth 16384

noncomputable section

namespace Cert.ReferenceIdeal.Val

open Idealize.ShloMosaic Idealize.ShloMosaic.TcCoe Idealize.ShloMosaic.StableHlo Idealize.ShloMosaic.ValueIdx
open Cert.ReferenceIdeal Cert.ReferenceIdeal.Gen Cert.Ssa Cert.Read

variable {V : Valuation τ sig (Elt Ideal)}

theorem ofBits_p1 : Ideal.ofBits .f32 0x3DA00000#32 = ((0.078125 : ℝ) : EReal) := by
  simp [Ideal.ofBits, Ideal.ieee, -EReal.coe_mul]; norm_num

theorem ofBits_p2 : Ideal.ofBits .f32 0x3C000000#32 = ((0.0078125 : ℝ) : EReal) := by
  simp [Ideal.ofBits, Ideal.ieee, -EReal.coe_mul]; norm_num

theorem ofBits_p3 : Ideal.ofBits .f32 0x3F400000#32 = ((0.75 : ℝ) : EReal) := by
  simp [Ideal.ofBits, Ideal.ieee, -EReal.coe_mul]; norm_num

theorem ofBits_p4 : Ideal.ofBits .f32 0x3D000000#32 = ((0.03125 : ℝ) : EReal) := by
  simp [Ideal.ofBits, Ideal.ieee, -EReal.coe_mul]; norm_num

/-- A coin tossed under a row's key, as a number. -/
theorem toss {a0 a1} {φ : fn_bernoulli.Bufs} {r : Nat} (hk : IsKey V a0 r) (h : All (bern (F := Ideal) a0 a1 φ).1 V) (i)
    {y : TRef sig ⟨S512x128x16x16, .f32⟩} (hy : fl V y i = (((bt V φ.v1 i).toNat : ℝ) : EReal)) :
    fl V y i = Spec.ind (Spec.frac (Spec.bits r (flat i)) < fl V a1 i) := by
  have e := bern_read h i
  rw [hk.1, hk.2] at e
  rw [hy, show bt V φ.v1 i = _ from e, coin]
  rfl

/-- A choice whose condition and constants are known. -/
theorem where_val {a0 a1 a2} {φ : fn_where.Bufs} (h : All (whereL (F := Ideal) a0 a1 a2 φ).1 V) (i) {c : BitVec 1} {x y : EReal}
    (hc : bt V a0 i = c) (hx : fl V a1 z0 = x) (hy : fl V a2 z0 = y) : fl V φ.v2 i = if c = 1#1 then x else y := by
  rw [where_read h i, hx, hy, ← hc]

/-- Two choices under equivalent conditions, however the conditions are decided. -/
theorem ite_iff {α : Type} {p q : Prop} {dp : Decidable p} {dq : Decidable q} {x y : α} (h : p ↔ q) :
    @ite α p dp x y = @ite α q dq x y := if_congr h rfl rfl

theorem bits_and2 (a b : Bool) : (BitVec.ofBool a &&& BitVec.ofBool b = 1#1) ↔ (a = true ∧ b = true) := by
  revert a b; decide

theorem bits_and3 (a b c : Bool) :
    (BitVec.ofBool a &&& BitVec.ofBool b &&& BitVec.ofBool c = 1#1) ↔ (a = true ∧ b = true ∧ c = true) := by
  revert a b c; decide

theorem bits_not (a : Bool) : ~~~ BitVec.ofBool a = BitVec.ofBool (!a) := by
  revert a; decide

/-- What the second window leaves for the last. -/
theorem second_read (h : All (main1 (F := Ideal) (0 : Fin 1)).1 V) (i : S512x128x16x16.Idx) (H : First V i) :
    Spec.clip07 (fl V (.of main_v91) i) = Spec.refUpd (xSum V i) (ySum V i) (Spec.bits 1 (flat i)) (Spec.bits 2 (flat i))
      (Spec.bits 3 (flat i)) (Spec.bits 4 (flat i)) (Spec.bits 5 (flat i)) (wgt V i) ∧
      fl V (.of main_cst_24) z0 = 0 ∧ fl V (.of main_cst_25) z0 = 7 := by
  obtain ⟨hcst9, hcst10, h⟩ := h
  rw [all_append] at h
  obtain ⟨hw2, h50, h51, h52, h53, h54, hcst11, hcst12, h⟩ := h
  rw [all_append] at h
  obtain ⟨hw3, h56, h57, hcst13, hcst14, h⟩ := h
  rw [all_append] at h
  obtain ⟨hw4, h59, h60, h⟩ := h
  rw [all_append] at h
  obtain ⟨hb1, h62, h63, h⟩ := h
  rw [all_append] at h
  obtain ⟨hb2, h65, hcst15, h66, h67, hcst16, h68, h69, hcst17, h70, h71, h72, hcst18, hcst19, h⟩ := h
  rw [all_append] at h
  obtain ⟨hc7, hcst20, h74, h75, h76, hcst21, hcst22, h⟩ := h
  rw [all_append] at h
  obtain ⟨hc8, h⟩ := h
  rw [all_append] at h
  obtain ⟨hb3, h79, h⟩ := h
  rw [all_append] at h
  obtain ⟨hb4, h81, hcst23, h82, h83, h⟩ := h
  rw [all_append] at h
  obtain ⟨hb5, h85, h86, h87, h88, h89, h90, h91, hcst24, hcst25, -⟩ := h
  refine ⟨?_, (congrFun hcst24 z0).trans Ideal.ofBits_zero_f32, (congrFun hcst25 z0).trans Spec.ofBits_7⟩
  have nA : ~~~ bt V (.of main_v36) i = BitVec.ofBool (!decide (Spec.times (xSum V i) = 7)) := by rw [H.a, bits_not]
  have nB : ~~~ bt V (.of main_v38) i = BitVec.ofBool (!decide (Spec.times (ySum V i) = 7)) := by rw [H.b, bits_not]
  have nC : ~~~ bt V (.of main_v39) i = BitVec.ofBool (!decide (Spec.times (ySum V i) < Spec.times (xSum V i))) := by
    rw [H.c, bits_not]
  -- the probabilities
  have e50 : fl V (.of main_v50) i = Spec.pPlus (Spec.times (xSum V i) = 7) (Spec.times (ySum V i) = 7)
      (Spec.times (ySum V i) < Spec.times (xSum V i)) := by
    have e46 := H.s
    have e49 : fl V (.of main_v49) i = _ := where_val hw2 i H.t ((congrFun hcst9 z0).trans ofBits_p2)
      ((congrFun hcst10 z0).trans Ideal.ofBits_zero_f32)
    refine (show fl V (.of main_v50) i = fl V (.of main_v46) i + fl V (.of main_v49) i from congrFun h50 i).trans ?_
    rw [e46, e49, ofBits_p1, nA, nB, nC, H.b]
    unfold Spec.pPlus
    refine congrArg₂ (· + ·) (ite_iff ?_) (ite_iff ?_)
    · rw [bits_and3]; simp
    · rw [bits_and2]; simp
  have e59 : fl V (.of main_v59) i = Spec.pMinus (Spec.times (xSum V i) = 7) (Spec.times (ySum V i) = 7)
      (Spec.times (ySum V i) < Spec.times (xSum V i)) := by
    have e54 : bt V (.of main_v54) i = ~~~ bt V (.of main_v36) i &&& ~~~ bt V (.of main_v38) i &&& bt V (.of main_v39) i := by
      rw [← show bt V (.of main_v51) i = ~~~ bt V (.of main_v36) i from congrFun h51 i,
        ← show bt V (.of main_v52) i = ~~~ bt V (.of main_v38) i from congrFun h52 i,
        ← show bt V (.of main_v53) i = bt V (.of main_v51) i &&& bt V (.of main_v52) i from congrFun h53 i]
      exact congrFun h54 i
    have e57 : bt V (.of main_v57) i = bt V (.of main_v36) i &&& ~~~ bt V (.of main_v38) i := by
      rw [← show bt V (.of main_v56) i = ~~~ bt V (.of main_v38) i from congrFun h56 i]
      exact congrFun h57 i
    have e55 : fl V (.of main_v55) i = _ := where_val hw3 i e54 ((congrFun hcst11 z0).trans ofBits_p1)
      ((congrFun hcst12 z0).trans Ideal.ofBits_zero_f32)
    have e58 : fl V (.of main_v58) i = _ := where_val hw4 i e57 ((congrFun hcst13 z0).trans ofBits_p3)
      ((congrFun hcst14 z0).trans Ideal.ofBits_zero_f32)
    refine (show fl V (.of main_v59) i = fl V (.of main_v55) i + fl V (.of main_v58) i from congrFun h59 i).trans ?_
    rw [e55, e58, nA, nB, H.a, H.c]
    unfold Spec.pMinus
    refine congrArg₂ (· + ·) (ite_iff ?_) (ite_iff ?_)
    · rw [bits_and3]; simp
    · rw [bits_and2]; simp
  -- the ratio and what is made of it
  have e66 : fl V (.of main_v66) i = Ideal.ofBits .f32 0x3E124925#32 := (congrFun h66 i).trans ((bc_at _ _ i).trans (congrFun hcst15 z0))
  have e67 : fl V (.of main_v67) i = Spec.ratio (wgt V i) := by
    rw [← H.w]; unfold Spec.ratio; rw [← e66]; exact congrFun h67 i
  have e68 : fl V (.of main_v68) i = 1 := (congrFun h68 i).trans ((bc_at _ _ i).trans ((congrFun hcst16 z0).trans Ideal.ofBits_one_f32))
  have e70 : fl V (.of main_v70) i = 1 := (congrFun h70 i).trans ((bc_at _ _ i).trans ((congrFun hcst17 z0).trans Ideal.ofBits_one_f32))
  have e74 : fl V (.of main_v74) i = 2 := (congrFun h74 i).trans ((bc_at _ _ i).trans ((congrFun hcst20 z0).trans Spec.ofBits_2))
  have e69 : fl V (.of main_v69) i = 1 - Spec.ratio (wgt V i) := by rw [← e67, ← e68]; exact congrFun h69 i
  have e71 : fl V (.of main_v71) i = 1 + Spec.ratio (wgt V i) := by rw [← e67, ← e70]; exact congrFun h71 i
  have e72 : fl V (.of main_v72) i = (1 - Spec.ratio (wgt V i)) * (1 + Spec.ratio (wgt V i)) := by
    rw [← e69, ← e71]; exact congrFun h72 i
  have e75 : fl V (.of main_v75) i = 2 - Spec.ratio (wgt V i) := by rw [← e67, ← e74]; exact congrFun h75 i
  have e76 : fl V (.of main_v76) i = Spec.ratio (wgt V i) * (2 - Spec.ratio (wgt V i)) := by
    rw [← e75, ← e67]; exact congrFun h76 i
  have e73 : fl V (.of main_v73) i = Spec.clip01 ((1 - Spec.ratio (wgt V i)) * (1 + Spec.ratio (wgt V i))) := by
    have := clip_read hc7 i
    rw [show fl V (.of main_cst_18) z0 = 0 from (congrFun hcst18 z0).trans Ideal.ofBits_zero_f32,
      show fl V (.of main_cst_19) z0 = 1 from (congrFun hcst19 z0).trans Ideal.ofBits_one_f32, e72] at this
    exact this
  have e77 : fl V (.of main_v77) i = Spec.clip01 (Spec.ratio (wgt V i) * (2 - Spec.ratio (wgt V i))) := by
    have := clip_read hc8 i
    rw [show fl V (.of main_cst_21) z0 = 0 from (congrFun hcst21 z0).trans Ideal.ofBits_zero_f32,
      show fl V (.of main_cst_22) z0 = 1 from (congrFun hcst22 z0).trans Ideal.ofBits_one_f32, e76] at this
    exact this
  have e83 : fl V (.of main_v83) i = ((0.03125 : ℝ) : EReal) :=
    (congrFun h83 i).trans ((congrFun h82 i).trans ((bc_at _ _ i).trans ((congrFun hcst23 z0).trans ofBits_p4)))
  -- the coins
  have e60 : fl V (.of main_v60) i = fl V (.of main_v50) i := congrFun h60 i
  have e63 : fl V (.of main_v63) i = fl V (.of main_v59) i := congrFun h63 i
  have t1 := toss H.k1 hb1 i (y := .of main_v62) (congrFun h62 i)
  have t2 := toss H.k2 hb2 i (y := .of main_v65) (congrFun h65 i)
  have t3 := toss H.k3 hb3 i (y := .of main_v79) (congrFun h79 i)
  have t4 := toss H.k4 hb4 i (y := .of main_v81) (congrFun h81 i)
  have t5 := toss H.k5 hb5 i (y := .of main_v85) (congrFun h85 i)
  rw [e60, e50] at t1
  rw [e63, e59] at t2
  rw [e73] at t3
  rw [e77] at t4
  rw [e83] at t5
  have e86 : fl V (.of main_v86) i = max (fl V (.of main_v81) i) (fl V (.of main_v85) i) := congrFun h86 i
  have e87 : fl V (.of main_v87) i = max (fl V (.of main_v79) i) (fl V (.of main_v85) i) := congrFun h87 i
  have e88 : fl V (.of main_v88) i = fl V (.of main_v62) i * fl V (.of main_v86) i := congrFun h88 i
  have e89 : fl V (.of main_v89) i = fl V (.of main_v40) i + fl V (.of main_v88) i := congrFun h89 i
  have e90 : fl V (.of main_v90) i = fl V (.of main_v65) i * fl V (.of main_v87) i := congrFun h90 i
  have e91 : fl V (.of main_v91) i = fl V (.of main_v89) i - fl V (.of main_v90) i := congrFun h91 i
  rw [e91, e89, e90, e88, e87, e86, t1, t2, t3, t4, t5, H.w]
  rfl

set_option maxHeartbeats 4000000 in
/-- The reference's result. -/
theorem ref_read (h : All (mainL (F := Ideal) (0 : Fin 1)).1 V) (i : S512x128x16x16.Idx) :
    fl V (.of main_v97) (ix6 (0 : Fin 1) (0 : Fin 1) (i 0) (i 1) (i 2) (i 3)) =
      Spec.rnde (Spec.upd (xSum V i) (ySum V i) (Spec.bits 1 (flat i)) (Spec.bits 2 (flat i))
        (Spec.bits 3 (flat i)) (Spec.bits 4 (flat i)) (Spec.bits 5 (flat i)) (wgt V i)) := by
  unfold mainL at h
  rw [all_append, all_append] at h
  obtain ⟨h0, h1, h⟩ := h
  obtain ⟨e, c0, c7⟩ := second_read h1 i (first_read h0 i)
  rw [← Spec.refUpd_eq, ← e]
  unfold main2 at h
  rw [all_append, all_append] at h
  obtain ⟨hcl, hro, hc26, h94, hc27, h95, h96, h97, -⟩ := h
  have ecl := clip_read hcl i
  have ero := round_read hro i
  have e94 : ∀ j, wd V (.of main_v94) j = 0#32 := fun j => (congrFun h94 j).trans ((bc_at _ _ j).trans (congrFun hc26 z0))
  have e95 : ∀ j, wd V (.of main_v95) j = 0#32 := fun j => (congrFun h95 j).trans ((bc_at _ _ j).trans (congrFun hc27 z0))
  have e96 : ∀ j, wd V (.of main_v96) j = 0#32 := by
    intro j
    rw [eq_ix1 j]
    match j 0 with
    | (0 : Fin 2) =>
      rw [← e94 (ix1 (0 : Fin 1))]
      refine (congrFun h96 _).trans (concatenate_pair_apply_left (0 : Fin S2.rank)
        (rd V (.of main_v94) : IVec S1 32) (rd V (.of main_v95) : IVec S1 32) concatenates_S1_S1_S2_d0 (kx 0) rfl (ix1 (0 : Fin 1)) ?_)
      intro b
      obtain rfl : b = 0 := Subsingleton.elim (α := Fin 1) _ _
      rfl
    | (1 : Fin 2) =>
      rw [← e95 (ix1 (0 : Fin 1))]
      refine (congrFun h96 _).trans (concatenate_pair_apply_right (0 : Fin S2.rank)
        (rd V (.of main_v94) : IVec S1 32) (rd V (.of main_v95) : IVec S1 32) concatenates_S1_S1_S2_d0 (kx 1) rfl rfl (ix1 (0 : Fin 1)) ?_ rfl)
      intro b hb
      obtain rfl : b = 0 := Subsingleton.elim (α := Fin 1) _ _
      exact absurd rfl hb
  have e97 : (rd V (.of main_v97) : FVec Ideal S1x1x512x128x16x16 .f32) =
      Host.scatter scatter_S1x1x512x128x16x16_S2_S512x128x16x16_0123_01_01_0 (fun _ b => b)
        (rd V (.of main_arg2) : FVec Ideal S1x1x512x128x16x16 .f32) (rd V (.of main_v96) : IVec S2 32)
        (rd V (.of main_v93) : FVec Ideal S512x128x16x16 .f32) := h97
  have es := scatter_at (rd V (.of main_arg2) : FVec Ideal S1x1x512x128x16x16 .f32) (rd V (.of main_v96) : IVec S2 32) e96
    (rd V (.of main_v93) : FVec Ideal S512x128x16x16 .f32) i
  have e93 : fl V (.of main_v93) i = Spec.rnde (fl V (.of main_v92) i) := ero
  have e92 : fl V (.of main_v92) i = min (fl V (.of main_cst_25) z0) (max (fl V (.of main_cst_24) z0) (fl V (.of main_v91) i)) := ecl
  rw [c0, c7] at e92
  rw [e92] at e93
  exact ((congrFun e97 (ix6 (0 : Fin 1) (0 : Fin 1) (i 0) (i 1) (i 2) (i 3))).trans es).trans e93

end Cert.ReferenceIdeal.Val
-- ==== Proof.Chan.lean ====
/-
The kernel body in closed form: what it stores for one output channel, as a function of the values it has loaded.
`roundV`, `cipherV` and `chanV` repeat the kernel's vector operations in the order in which the kernel does them;
`pieces_eq` states that the sixteen stores of one grid point are `chanV` at the sixteen channels of its block.
-/
module

public import proofs.«01_k».proof.Proof.Gen.KernelIdeal.Frame

@[expose] public section

set_option maxRecDepth 16384

noncomputable section

namespace Cert.KernelIdeal.Val

open Idealize.ShloMosaic Idealize.ShloMosaic.TcCoe
open Cert.KernelIdeal Cert.KernelIdeal.Gen

variable {F : FTy → Type} [FloatOps F]

/-- A tile of 32-bit words. -/
abbrev W := IVec S256x128 32

/-- One round of the cipher on a pair of tiles: add, rotate left by `r` (right by `r'`), mix. -/
def roundV (r r' : BitVec 32) (s : W × W) : W × W :=
  (addi s.1 s.2,
    xori (ori (shli s.2 (broadcast S256x128 r)) (shrui s.2 (broadcast S256x128 r'))) (addi s.1 s.2))

/-- The four rounds of an even group. -/
def evenV (s : W × W) : W × W :=
  roundV 6#32 26#32 (roundV 26#32 6#32 (roundV 15#32 17#32 (roundV 13#32 19#32 s)))

/-- The four rounds of an odd group. -/
def oddV (s : W × W) : W × W :=
  roundV 24#32 8#32 (roundV 16#32 16#32 (roundV 29#32 3#32 (roundV 17#32 15#32 s)))

/-- A key injection: one word is added to each half. -/
def injV (a b : W) (s : W × W) : W × W := (addi s.1 a, addi s.2 b)

/-- The cipher on a tile of counters `J`: key words `k0`, `k1`, `k2`, and the key words `b1 … b5` already
    increased by the group's number. The two halves are joined by xor and the top 23 bits kept. -/
def cipherV (k0 k1 k2 b1 b2 b3 b4 b5 J : W) : W :=
  let s := injV k2 b5 (evenV (injV k1 b4 (oddV (injV k0 b3 (evenV (injV k2 b2 (oddV (injV k1 b1 (evenV
    (k0, addi J k1))))))))))
  shrui (xori s.1 s.2) (broadcast S256x128 9#32)

/-- The cipher at tiles of key words. -/
def cipherK (k0 k1 k2 J : W) : W :=
  cipherV k0 k1 k2 (addi k2 (broadcast S256x128 1#32)) (addi k0 (broadcast S256x128 2#32))
    (addi k1 (broadcast S256x128 3#32)) (addi k2 (broadcast S256x128 4#32)) (addi k0 (broadcast S256x128 5#32)) J

/-- The cipher at one key for the whole tile. -/
def cipherS (k0 k1 k2 : BitVec 32) (J : W) : W :=
  cipherV (broadcast S256x128 k0) (broadcast S256x128 k1) (broadcast S256x128 k2)
    (broadcast S256x128 (Scalar.addi k2 1#32)) (broadcast S256x128 (Scalar.addi k0 2#32))
    (broadcast S256x128 (Scalar.addi k1 3#32)) (broadcast S256x128 (Scalar.addi k2 4#32))
    (broadcast S256x128 (Scalar.addi k0 5#32)) J

/-- The third key word of a key. -/
def third (k : Fin 2 → BitVec 32) : BitVec 32 := Scalar.xori (Scalar.xori (k 0) (k 1)) 466688986#32

/-- A tile filled with one float constant. -/
def fc (F : FTy → Type) [FloatOps F] (b : BitVec 32) : FVec F S256x128 .f32 := broadcast S256x128 (Scalar.ofBits .f32 b)

/-- The counters of a tile: `256 * column + row`. -/
def counters : W :=
  addi (muli (iota .tc S256x128 32 [1] iota_S256x128_d1_w32) (broadcast S256x128 256#32))
    (iota .tc S256x128 32 [0] iota_S256x128_d0_w32)

/-- What the kernel stores for output channel `o`: from the tile of input spike counts `xs`, the channel's output
    spike count `ys`, the five keys and the channel's weights. -/
def chanV (o : BitVec 32) (xs : W) (ys : BitVec 32) (k : Fin 5 → Fin 2 → BitVec 32)
    (w : FVec F S256x128 .f32) : FVec F S256x128 .f32 :=
  let A := cmpi .eq xs (broadcast S256x128 0#32)
  let nA := xori A (constantI S256x128 1 1#1)
  let B := Scalar.cmpi .eq ys 0#32
  let C := cmpi .slt xs (broadcast S256x128 ys)
  let plus := andi nA (ori (broadcast S256x128 B) (xori C (constantI S256x128 1 1#1)))
  let thresh := select A (broadcast S256x128 (Scalar.select B 0#32 6291456#32))
    (broadcast S256x128 (Scalar.select B 65536#32 655360#32))
  let J := addi counters (broadcast S256x128 (Scalar.muli o 32768#32))
  let pick : BitVec 32 → BitVec 32 → W := fun a b => select plus (broadcast S256x128 a) (broadcast S256x128 b)
  let bern := cmpi .slt (cipherK (pick (k 0 0) (k 1 0)) (pick (k 0 1) (k 1 1)) (pick (third (k 0)) (third (k 1))) J) thresh
  let mf := cipherK (pick (k 3 0) (k 2 0)) (pick (k 3 1) (k 2 1)) (pick (third (k 3)) (third (k 2))) J
  let m5 := cipherS (k 4 0) (k 4 1) (third (k 4)) J
  let ratio := mulf w (fc F 0x3E124925#32)
  let p := select plus (mulf ratio (subf (fc F 0x40000000#32) ratio))
    (mulf (subf (fc F 0x3F800000#32) ratio) (addf (fc F 0x3F800000#32) ratio))
  let p' := minimumf (fc F 0x3F800000#32) (maximumf (fc F 0x00000000#32) p)
  let f := cmpf .olt (mulf (sitofp .f32 mf) (fc F 0x34000000#32)) p'
  let u := cmpi .slt m5 (broadcast S256x128 262144#32)
  let fire := andi bern (ori f u)
  let sign := select plus (fc F 0x3F800000#32) (fc F 0xBF800000#32)
  minimumf (fc F 0x40E00000#32) (maximumf (fc F 0x00000000#32) (addf w (select fire sign (fc F 0x00000000#32))))

section Loads

variable (i : grid0.Coords)
  (arg1 : Memref sig .tc .vmem S16x256x128 .f32) (harg1 : arg1.IsWhole)
  (arg2 : Memref sig .tc .vmem S7x256x128 .i32) (harg2 : arg2.IsWhole)
  (arg3 : Memref sig .tc .smem S7x512 .i32) (harg3 : arg3.IsWhole)
  (arg4 : Memref sig .tc .smem S5x2 .i32) (harg4 : arg4.IsWhole)
  (x0 : Vec F S16x256x128 .f32) (x1 : Vec F S7x256x128 .i32) (x2 : Vec F S7x512 .i32) (x3 : Vec F S5x2 .i32)

/-- The load of one key word. -/
def ldK (d e : Nat) (h : ∀ a, (![d, e] : Fin 2 → Nat) a + S1x1.size a ≤ S5x2.size a) : BitVec 32 :=
  View.readAt (Elt F) arg4.view (Rect.unit (s := S5x2) ![d, e] S1x1.size h).toLoadRect (harg4.unread x3)
    (Shape.Idx.first (lt_of_lt_of_eq Nat.zero_lt_one numel1_S1x1.symm))

/-- The five keys as loaded. -/
def keysV (d : Fin 5) (e : Fin 2) : BitVec 32 :=
  match d, e with
  | 0, 0 => ldK arg4 harg4 x3 0 0 inb_S5x2_S1x1_0_0
  | 0, 1 => ldK arg4 harg4 x3 0 1 inb_S5x2_S1x1_0_1
  | 1, 0 => ldK arg4 harg4 x3 1 0 inb_S5x2_S1x1_1_0
  | 1, 1 => ldK arg4 harg4 x3 1 1 inb_S5x2_S1x1_1_1
  | 2, 0 => ldK arg4 harg4 x3 2 0 inb_S5x2_S1x1_2_0
  | 2, 1 => ldK arg4 harg4 x3 2 1 inb_S5x2_S1x1_2_1
  | 3, 0 => ldK arg4 harg4 x3 3 0 inb_S5x2_S1x1_3_0
  | 3, 1 => ldK arg4 harg4 x3 3 1 inb_S5x2_S1x1_3_1
  | 4, 0 => ldK arg4 harg4 x3 4 0 inb_S5x2_S1x1_4_0
  | 4, 1 => ldK arg4 harg4 x3 4 1 inb_S5x2_S1x1_4_1

/-- The load of one row of input spikes. -/
def ldX (t : Nat) (h : ∀ a, (![t, 0, 0] : Fin 3 → Nat) a + S1x256x128.size a ≤ S7x256x128.size a) : W :=
  shapeCast S256x128 (View.readAt (Elt F) arg2.view (Rect.unit (s := S7x256x128) ![t, 0, 0] S1x256x128.size h).toLoadRect
    (harg2.unread x1)) shapeCasts_S1x256x128_S256x128

/-- The tile of input spike counts. -/
def xsV : W :=
  addi (addi (addi (addi (addi (addi (ldX arg2 harg2 x1 0 inb_S7x256x128_S1x256x128_0_0_0)
    (ldX arg2 harg2 x1 1 inb_S7x256x128_S1x256x128_1_0_0))
    (ldX arg2 harg2 x1 2 inb_S7x256x128_S1x256x128_2_0_0))
    (ldX arg2 harg2 x1 3 inb_S7x256x128_S1x256x128_3_0_0))
    (ldX arg2 harg2 x1 4 inb_S7x256x128_S1x256x128_4_0_0))
    (ldX arg2 harg2 x1 5 inb_S7x256x128_S1x256x128_5_0_0))
    (ldX arg2 harg2 x1 6 inb_S7x256x128_S1x256x128_6_0_0)

/-- The load of one output spike, at an offset. -/
def ldY (off : Fin 2 → Nat) (h : ∀ a, off a + S1x1.size a ≤ S7x512.size a) : BitVec 32 :=
  View.readAt (Elt F) arg3.view (Rect.unit (s := S7x512) off S1x1.size h).toLoadRect (harg3.unread x2)
    (Shape.Idx.first (lt_of_lt_of_eq Nat.zero_lt_one numel1_S1x1.symm))

/-- The output spike count of a channel. -/
def ysV (ci : Fin 16) : BitVec 32 :=
  Scalar.addi (Scalar.addi (Scalar.addi (Scalar.addi (Scalar.addi (Scalar.addi
    (ldY arg3 harg3 x2 _ (k0_off1_inb i ci)) (ldY arg3 harg3 x2 _ (k0_off2_inb i ci)))
    (ldY arg3 harg3 x2 _ (k0_off3_inb i ci))) (ldY arg3 harg3 x2 _ (k0_off4_inb i ci)))
    (ldY arg3 harg3 x2 _ (k0_off5_inb i ci))) (ldY arg3 harg3 x2 _ (k0_off6_inb i ci)))
    (ldY arg3 harg3 x2 _ (k0_off7_inb i ci))

/-- The channel's number among all output channels. -/
def chanNo (ci : Fin 16) : BitVec 32 :=
  Scalar.addi (Scalar.muli (BitVec.ofNat 32 (i 0).val) 16#32) (BitVec.ofNat 32 ci.val)

theorem inbW (ci : Fin 16) : ∀ a, (![ci.val, 0, 0] : Fin 3 → Nat) a + S1x256x128.size a ≤ S16x256x128.size a := by
  revert ci; decide

/-- The store of one channel: where, and what. -/
def pieceV (ci : Fin 16) : View.Piece (Elt F) S16x256x128 .f32 :=
  ⟨Rect.unit (s := S16x256x128) ![ci.val, 0, 0] S1x256x128.size (inbW ci),
    shapeCast S1x256x128
      (chanV (chanNo i ci) (xsV arg2 harg2 x1) (ysV i arg3 harg3 x2 ci) (keysV arg4 harg4 x3)
        (shapeCast S256x128 (View.readAt (Elt F) arg1.view
          (Rect.unit (s := S16x256x128) ![ci.val, 0, 0] S1x256x128.size (inbW ci)).toLoadRect
          (harg1.unread x0)) shapeCasts_S1x256x128_S256x128))
      shapeCasts_S256x128_S1x256x128⟩

end Loads

set_option maxHeartbeats 4000000 in
/-- The sixteen stores of a grid point, last first. -/
theorem pieces_eq (c : Dev nD) (i : grid0.Coords)
    (arg1 : Memref sig .tc .vmem S16x256x128 .f32) (harg1 : arg1.IsWhole)
    (arg2 : Memref sig .tc .vmem S7x256x128 .i32) (harg2 : arg2.IsWhole)
    (arg3 : Memref sig .tc .smem S7x512 .i32) (harg3 : arg3.IsWhole)
    (arg4 : Memref sig .tc .smem S5x2 .i32) (harg4 : arg4.IsWhole)
    (arg5 : Memref sig .tc .vmem S16x256x128 .f32) (harg5 : arg5.IsWhole)
    (x0 : Vec F S16x256x128 .f32) (x1 : Vec F S7x256x128 .i32) (x2 : Vec F S7x512 .i32) (x3 : Vec F S5x2 .i32) :
    (kernelRun0_A c i arg1 harg1 arg2 harg2 arg3 harg3 arg4 harg4 arg5 harg5 x0 x1 x2 x3).1 =
      [15, 14, 13, 12, 11, 10, 9, 8, 7, 6, 5, 4, 3, 2, 1, 0].map
        (pieceV i arg1 harg1 arg2 harg2 arg3 harg3 arg4 harg4 x0 x1 x2 x3) := by
  sl_kernel_rfl

end Cert.KernelIdeal.Val
-- ==== Proof.ChanAt.lean ====
/-
What the kernel stores for one output channel, at one place of the tile: the updated weight of Math.lean, on the random
bits of Spec.lean.
-/
module

public import proofs.«01_k».proof.Proof.Math
public import proofs.«01_k».proof.Proof.Chan

@[expose] public section

set_option maxRecDepth 16384

noncomputable section

namespace Cert.KernelIdeal.Val

open Idealize.ShloMosaic Idealize.ShloMosaic.TcCoe
open Cert.KernelIdeal Cert.KernelIdeal.Gen

/-- The pair of words at a place of a pair of tiles. -/
def at2 (s : W × W) (j : S256x128.Idx) : Spec.Pair := (s.1 j, s.2 j)

theorem at2_round (r r' : BitVec 32) (hr : r.toNat < 32) (hr' : r'.toNat < 32) (s : W × W) (j) :
    at2 (roundV r r' s) j = Spec.rnd r r' (at2 s j) := by
  refine Prod.ext rfl ?_
  show (IntOp.shli .vector (s.2 j) r ||| IntOp.shrui .vector (s.2 j) r') ^^^ (s.1 j + s.2 j) =
    (s.1 j + s.2 j) ^^^ (s.2 j <<< r ||| s.2 j >>> r')
  unfold IntOp.shli IntOp.shrui
  rw [if_pos hr, if_pos hr', BitVec.xor_comm]

theorem at2_even (s : W × W) (j) : at2 (evenV s) j = Spec.even (at2 s j) := by
  unfold evenV Spec.even
  rw [at2_round _ _ (by decide) (by decide), at2_round _ _ (by decide) (by decide), at2_round _ _ (by decide) (by decide),
    at2_round _ _ (by decide) (by decide)]

theorem at2_odd (s : W × W) (j) : at2 (oddV s) j = Spec.odd (at2 s j) := by
  unfold oddV Spec.odd
  rw [at2_round _ _ (by decide) (by decide), at2_round _ _ (by decide) (by decide), at2_round _ _ (by decide) (by decide),
    at2_round _ _ (by decide) (by decide)]

theorem at2_inj (a b : W) (s : W × W) (j) : at2 (injV a b s) j = Spec.inj (a j) (b j) (at2 s j) := rfl

/-- The cipher on a tile, at a place: the words of Spec.lean, when the key words at that place are those of one key. -/
theorem cipher_at (k0 k1 k2 b1 b2 b3 b4 b5 J : W) (j : S256x128.Idx) (h2 : k2 j = Spec.third (k0 j) (k1 j))
    (h1 : b1 j = k2 j + 1#32) (h3 : b2 j = k0 j + 2#32) (h4 : b3 j = k1 j + 3#32) (h5 : b4 j = k2 j + 4#32)
    (h6 : b5 j = k0 j + 5#32) :
    cipherV k0 k1 k2 b1 b2 b3 b4 b5 J j = Spec.bits23 (k0 j) (k1 j) 0#32 (J j) := by
  have e : at2 (injV k2 b5 (evenV (injV k1 b4 (oddV (injV k0 b3 (evenV (injV k2 b2 (oddV (injV k1 b1 (evenV
      (k0, addi J k1)))))))))) ) j = Spec.threefry (k0 j) (k1 j) 0#32 (J j) := by
    simp only [at2_inj, at2_even, at2_odd]
    rw [h1, h3, h4, h5, h6, h2]
    unfold Spec.threefry
    rw [BitVec.zero_add]
    rfl
  unfold Spec.bits23
  rw [← e]
  show IntOp.shrui .vector _ 9#32 = _
  unfold IntOp.shrui
  rw [if_pos (by decide)]
  rfl

theorem cipherK_at (k0 k1 k2 J : W) (j : S256x128.Idx) (h2 : k2 j = Spec.third (k0 j) (k1 j)) :
    cipherK k0 k1 k2 J j = Spec.bits23 (k0 j) (k1 j) 0#32 (J j) :=
  cipher_at _ _ _ _ _ _ _ _ _ j h2 rfl rfl rfl rfl rfl

theorem cipherS_at (k : Fin 2 → BitVec 32) (J : W) (j : S256x128.Idx) :
    cipherS (k 0) (k 1) (third k) J j = Spec.bits23 (k 0) (k 1) 0#32 (J j) :=
  cipher_at _ _ _ _ _ _ _ _ _ j rfl rfl rfl rfl rfl rfl

/-- The counter at a place of the tile of output channel `o`. -/
def cnt (o : BitVec 32) (j : S256x128.Idx) : BitVec 32 :=
  BitVec.ofNat 32 (j 1).val * 256#32 + BitVec.ofNat 32 (j 0).val + o * 32768#32

theorem counters_at (o : BitVec 32) (j : S256x128.Idx) :
    (addi counters (broadcast S256x128 (Scalar.muli o 32768#32)) : W) j = cnt o j := by
  have e1 : iota .tc S256x128 32 [1] iota_S256x128_d1_w32 j = BitVec.ofNat 32 (j 1).val := by
    show BitVec.ofNat 32 (0 * 128 + (j 1).val) = _
    rw [Nat.zero_mul, Nat.zero_add]
  have e0 : iota .tc S256x128 32 [0] iota_S256x128_d0_w32 j = BitVec.ofNat 32 (j 0).val := by
    show BitVec.ofNat 32 (0 * 256 + (j 0).val) = _
    rw [Nat.zero_mul, Nat.zero_add]
  unfold cnt
  rw [← e1, ← e0]
  rfl

theorem ofBool_one (p : Prop) [Decidable p] : (BitVec.ofBool (decide p) = 1#1) = p := by
  by_cases h : p <;> simp [h]

/-- A signed comparison of 23 bits with a small bound. -/
theorem slt_small (x y : BitVec 32) (hx : x.toNat < 2 ^ 23) (hy : y.toNat < 2 ^ 23) :
    IntOp.cmpi .slt x y = BitVec.ofBool (decide (x.toNat < y.toNat)) := by
  show BitVec.ofBool (decide (x.toInt < y.toInt)) = _
  rw [BitVec.toInt_eq_toNat_of_lt (by omega), BitVec.toInt_eq_toNat_of_lt (by omega)]
  congr 1
  exact decide_eq_decide.mpr (by omega)

theorem ofBool_and (a b : Bool) : BitVec.ofBool a &&& BitVec.ofBool b = BitVec.ofBool (a && b) := by revert a b; decide
theorem ofBool_or (a b : Bool) : BitVec.ofBool a ||| BitVec.ofBool b = BitVec.ofBool (a || b) := by revert a b; decide
theorem ofBool_not (a : Bool) : BitVec.ofBool a ^^^ 1#1 = BitVec.ofBool (!a) := by revert a; decide

/-- The threshold as the kernel chooses it. -/
def thrV (A B : BitVec 1) : BitVec 32 :=
  Scalar.select A (Scalar.select B 0#32 6291456#32) (Scalar.select B 65536#32 655360#32)

theorem ofBool_beq (x : BitVec 32) : BitVec.ofBool (x == 0#32) = if x = 0#32 then 1#1 else 0#1 := by
  by_cases h : x = 0#32
  · rw [if_pos h, h]; rfl
  · rw [if_neg h, beq_false_of_ne h]; rfl

theorem thrV_eq (sx sy : BitVec 32) :
    (thrV (BitVec.ofBool (sx == 0#32)) (BitVec.ofBool (sy == 0#32))).toNat = Spec.thr sx sy := by
  rw [ofBool_beq, ofBool_beq]
  unfold thrV Spec.thr Scalar.select
  by_cases hx : sx = 0#32 <;> by_cases hy : sy = 0#32 <;> simp [hx, hy]

theorem thr_lt (sx sy : BitVec 32) : Spec.thr sx sy < 2 ^ 23 := by
  unfold Spec.thr; split <;> split <;> decide

theorem ofBits_m1 : Ideal.ofBits .f32 0xBF800000#32 = -1 := by
  rw [show (-1 : EReal) = ((-1 : ℝ) : EReal) from rfl]
  simp [Ideal.ofBits, Ideal.ieee, -EReal.coe_mul]; norm_num

/-- The kernel's choice of direction. -/
theorem plus_eq (sx sy : BitVec 32) :
    ((BitVec.ofBool (sx == 0#32) ^^^ 1#1) &&& (BitVec.ofBool (sy == 0#32) ||| (BitVec.ofBool (sx.slt sy) ^^^ 1#1)) = 1#1) ↔
      Spec.plusP sx sy := by
  rw [ofBool_not, ofBool_not, ofBool_or, ofBool_and]
  unfold Spec.plusP
  show BitVec.ofBool (!(sx == 0#32) && (sy == 0#32 || !decide (sx.toInt < sy.toInt))) = 1#1 ↔ _
  by_cases hx : sx = 0#32 <;> by_cases hy : sy = 0#32 <;> by_cases h : sx.toInt < sy.toInt <;>
    simp [hx, hy, h, beq_false_of_ne]

/-- Whether the kernel's weight moves: the first coin, and the second or the third. -/
theorem fire_eq (b m5 : BitVec 32) (t : BitVec 32) (T : Nat) (x p : EReal) (hb : b.toNat < 2 ^ 23) (h5 : m5.toNat < 2 ^ 23)
    (hT : T < 2 ^ 23) (ht : t.toNat = T) :
    (IntOp.cmpi .slt b t &&& (BitVec.ofBool (decide (x < p)) ||| IntOp.cmpi .slt m5 262144#32) = 1#1) ↔
      (b.toNat < T ∧ (x < p ∨ m5.toNat < 262144)) := by
  rw [slt_small _ _ hb (by omega), slt_small _ _ h5 (by decide), ofBool_or, ofBool_and, ht]
  show BitVec.ofBool (decide _ && (decide _ || decide (m5.toNat < 262144))) = 1#1 ↔ _
  by_cases h1 : b.toNat < T <;> by_cases h2 : x < p <;> by_cases h3 : m5.toNat < 262144 <;> simp [h1, h2, h3]

/-- One place of one channel. -/
theorem chan_at (o : BitVec 32) (xs : W) (ys : BitVec 32) (k : Fin 5 → Fin 2 → BitVec 32)
    (w : FVec Ideal S256x128 .f32) (j : S256x128.Idx) :
    chanV (F := Ideal) o xs ys k w j =
      Spec.upd (xs j) ys (Spec.bits23 (k 0 0) (k 0 1) 0#32 (cnt o j)) (Spec.bits23 (k 1 0) (k 1 1) 0#32 (cnt o j))
        (Spec.bits23 (k 2 0) (k 2 1) 0#32 (cnt o j)) (Spec.bits23 (k 3 0) (k 3 1) 0#32 (cnt o j))
        (Spec.bits23 (k 4 0) (k 4 1) 0#32 (cnt o j)) (w j) := by
  let P : IVec S256x128 1 := andi (xori (cmpi .eq xs (broadcast S256x128 0#32)) (constantI S256x128 1 1#1))
    (ori (broadcast S256x128 (Scalar.cmpi .eq ys 0#32)) (xori (cmpi .slt xs (broadcast S256x128 ys)) (constantI S256x128 1 1#1)))
  have hP : P j = 1#1 ↔ Spec.plusP (xs j) ys := plus_eq (xs j) ys
  let J : W := addi counters (broadcast S256x128 (Scalar.muli o 32768#32))
  have hJ : J j = cnt o j := counters_at o j
  let pick : BitVec 32 → BitVec 32 → W := fun a b => select P (broadcast S256x128 a) (broadcast S256x128 b)
  have pick_pos : Spec.plusP (xs j) ys → ∀ a b, pick a b j = a := fun h a b => if_pos (hP.mpr h)
  have pick_neg : ¬ Spec.plusP (xs j) ys → ∀ a b, pick a b j = b := fun h a b => if_neg fun e => h (hP.mp e)
  let pk : Fin 5 → Fin 5 → W := fun d e => cipherK (pick (k d 0) (k e 0)) (pick (k d 1) (k e 1)) (pick (third (k d)) (third (k e))) J
  have pk_pos : Spec.plusP (xs j) ys → ∀ d e, pk d e j = Spec.bits23 (k d 0) (k d 1) 0#32 (cnt o j) := by
    intro h d e
    have := cipherK_at (pick (k d 0) (k e 0)) (pick (k d 1) (k e 1)) (pick (third (k d)) (third (k e))) J j
      (by rw [pick_pos h, pick_pos h, pick_pos h]; rfl)
    rw [pick_pos h, pick_pos h, hJ] at this
    exact this
  have pk_neg : ¬ Spec.plusP (xs j) ys → ∀ d e, pk d e j = Spec.bits23 (k e 0) (k e 1) 0#32 (cnt o j) := by
    intro h d e
    have := cipherK_at (pick (k d 0) (k e 0)) (pick (k d 1) (k e 1)) (pick (third (k d)) (third (k e))) J j
      (by rw [pick_neg h, pick_neg h, pick_neg h]; rfl)
    rw [pick_neg h, pick_neg h, hJ] at this
    exact this
  have m5 : cipherS (k 4 0) (k 4 1) (third (k 4)) J j = Spec.bits23 (k 4 0) (k 4 1) 0#32 (cnt o j) := by
    rw [← hJ]; exact cipherS_at (k 4) J j
  let r : EReal := w j * Ideal.ofBits .f32 0x3E124925#32
  have main : chanV (F := Ideal) o xs ys k w j =
      min (Ideal.ofBits .f32 0x40E00000#32) (max (Ideal.ofBits .f32 0x00000000#32) (w j + Scalar.select
        (IntOp.cmpi .slt (pk 0 1 j) (thrV (BitVec.ofBool (xs j == 0#32)) (BitVec.ofBool (ys == 0#32))) &&&
          (BitVec.ofBool (decide ((((pk 3 2 j).toInt : ℝ) : EReal) * Ideal.ofBits .f32 0x34000000#32 <
            min (Ideal.ofBits .f32 0x3F800000#32) (max (Ideal.ofBits .f32 0x00000000#32)
              (Scalar.select (P j) (r * (Ideal.ofBits .f32 0x40000000#32 - r))
                ((Ideal.ofBits .f32 0x3F800000#32 - r) * (Ideal.ofBits .f32 0x3F800000#32 + r)))))) |||
            IntOp.cmpi .slt (cipherS (k 4 0) (k 4 1) (third (k 4)) J j) 262144#32))
        (Scalar.select (P j) (Ideal.ofBits .f32 0x3F800000#32) (Ideal.ofBits .f32 0xBF800000#32))
        (Ideal.ofBits .f32 0x00000000#32))) := rfl
  rw [main, m5, Spec.ofBits_7, Spec.ofBits_2, ofBits_m1, Ideal.ofBits_zero_f32, Ideal.ofBits_one_f32]
  unfold Spec.upd Spec.clip07
  refine congrArg (fun z => min 7 (max 0 (w j + z))) ?_
  unfold Spec.step
  by_cases h : Spec.plusP (xs j) ys
  · rw [if_pos h, pk_pos h, pk_pos h, hP.mpr h, Spec.frac_mul _ (Spec.bits23_lt _ _ _ _)]
    exact if_congr (fire_eq _ _ _ _ _ _ (Spec.bits23_lt _ _ _ _) (Spec.bits23_lt _ _ _ _) (thr_lt _ _) (thrV_eq _ _)) rfl rfl
  · have h0 : P j ≠ 1#1 := fun e => h (hP.mp e)
    rw [if_neg h, pk_neg h, pk_neg h, Spec.frac_mul _ (Spec.bits23_lt _ _ _ _)]
    have sel : ∀ a b : EReal, Scalar.select (P j) a b = b := fun a b => if_neg h0
    rw [sel, sel]
    exact if_congr (fire_eq _ _ _ _ _ _ (Spec.bits23_lt _ _ _ _) (Spec.bits23_lt _ _ _ _) (thr_lt _ _) (thrV_eq _ _)) rfl rfl

end Cert.KernelIdeal.Val
-- ==== Proof.Tile.lean ====
/-
One grid point of the kernel: what it leaves in its block of sixteen output channels, at every index of the block.
-/
module

public import proofs.«01_k».proof.Proof.ChanAt
public import Idealize.ShloMosaic.Lib.Pipeline.ValueKit

@[expose] public section

set_option maxRecDepth 16384

noncomputable section

namespace Cert.KernelIdeal.Val

open Idealize.ShloMosaic hiding ix1 ix2 ix3 ix4
open Idealize.ShloMosaic.TcCoe Idealize.ShloMosaic.ValueIdx
open Cert.KernelIdeal Cert.KernelIdeal.Gen

/-- Output channel `ci` of grid point `i`'s block, among all output channels. -/
def chan (i : grid0.Coords) (ci : Fin 16) : Fin 512 :=
  ⟨16 * (i 0).val + ci.val, by have h : (i 0).val < 32 := (i 0).isLt; have := ci.isLt; omega⟩

/-- The counter of a place: its position among all weights. -/
theorem cnt_chan (i : grid0.Coords) (ci : Fin 16) (r : Fin 256) (l : Fin 128) :
    cnt (chanNo i ci) (ix2 r l) = BitVec.ofNat 32 ((chan i ci).val * 32768 + l.val * 256 + r.val) := by
  have hi : (i 0).val < 32 := (i 0).isLt
  have hc := ci.isLt
  have hr := r.isLt
  have hl := l.isLt
  show BitVec.ofNat 32 l.val * 256#32 + BitVec.ofNat 32 r.val +
    (BitVec.ofNat 32 (i 0).val * 16#32 + BitVec.ofNat 32 ci.val) * 32768#32 =
      BitVec.ofNat 32 ((16 * (i 0).val + ci.val) * 32768 + l.val * 256 + r.val)
  apply BitVec.eq_of_toNat_eq
  simp only [BitVec.toNat_add, BitVec.toNat_mul, BitVec.toNat_ofNat]
  omega

section Loads

variable {F : FTy → Type} [FloatOps F]
variable (i : grid0.Coords)
  (arg1 : Memref sig .tc .vmem S16x256x128 .f32) (harg1 : arg1.IsWhole)
  (arg2 : Memref sig .tc .vmem S7x256x128 .i32) (harg2 : arg2.IsWhole)
  (arg3 : Memref sig .tc .smem S7x512 .i32) (harg3 : arg3.IsWhole)
  (arg4 : Memref sig .tc .smem S5x2 .i32) (harg4 : arg4.IsWhole)
  (x0 : Vec F S16x256x128 .f32) (x1 : Vec F S7x256x128 .i32) (x2 : Vec F S7x512 .i32) (x3 : Vec F S5x2 .i32)

theorem ldK_eq (d : Fin 5) (e : Fin 2) (h) : ldK arg4 harg4 x3 d.val e.val h = x3 (ix2 d e) := by
  unfold ldK
  rw [View.readAt_eq_ld, harg4.read_unread]
  refine View.ld_unit_apply_of _ _ _ _ _ (ix2 d e) fun a => ?_
  match a with
  | 0 => rfl
  | 1 => rfl

theorem keysV_eq (d : Fin 5) (e : Fin 2) : keysV arg4 harg4 x3 d e = x3 (ix2 d e) := by
  match d, e with
  | 0, 0 => exact ldK_eq arg4 harg4 x3 0 0 _
  | 0, 1 => exact ldK_eq arg4 harg4 x3 0 1 _
  | 1, 0 => exact ldK_eq arg4 harg4 x3 1 0 _
  | 1, 1 => exact ldK_eq arg4 harg4 x3 1 1 _
  | 2, 0 => exact ldK_eq arg4 harg4 x3 2 0 _
  | 2, 1 => exact ldK_eq arg4 harg4 x3 2 1 _
  | 3, 0 => exact ldK_eq arg4 harg4 x3 3 0 _
  | 3, 1 => exact ldK_eq arg4 harg4 x3 3 1 _
  | 4, 0 => exact ldK_eq arg4 harg4 x3 4 0 _
  | 4, 1 => exact ldK_eq arg4 harg4 x3 4 1 _

theorem ldX_eq (t : Fin 7) (h) (r : Fin 256) (l : Fin 128) : ldX arg2 harg2 x1 t.val h (ix2 r l) = x1 (ix3 t r l) := by
  unfold ldX
  rw [View.readAt_eq_ld, harg2.read_unread]
  refine (shapeCast_apply _ shapeCasts_S1x256x128_S256x128 (ix2 r l) (ix3 (0 : Fin 1) r l) ?_).trans
    (View.ld_unit_apply_of _ _ _ _ _ (ix3 t r l) fun a => ?_)
  · rw [Shape.rowMajor_val_two]
    refine (Shape.rowMajor_val_three _).trans ?_
    show (0 * 256 + r.val) * 128 + l.val = r.val * 128 + l.val
    omega
  · match a with
    | 0 => rfl
    | 1 => exact (Nat.zero_add _).symm
    | 2 => exact (Nat.zero_add _).symm

theorem xsV_eq (r : Fin 256) (l : Fin 128) : xsV arg2 harg2 x1 (ix2 r l) = Spec.sum7 fun t => x1 (ix3 t r l) := by
  have e := ldX_eq arg2 harg2 x1
  show _ = x1 (ix3 0 r l) + x1 (ix3 1 r l) + x1 (ix3 2 r l) + x1 (ix3 3 r l) + x1 (ix3 4 r l) + x1 (ix3 5 r l) + x1 (ix3 6 r l)
  rw [← e 0 inb_S7x256x128_S1x256x128_0_0_0, ← e 1 inb_S7x256x128_S1x256x128_1_0_0,
    ← e 2 inb_S7x256x128_S1x256x128_2_0_0, ← e 3 inb_S7x256x128_S1x256x128_3_0_0,
    ← e 4 inb_S7x256x128_S1x256x128_4_0_0, ← e 5 inb_S7x256x128_S1x256x128_5_0_0,
    ← e 6 inb_S7x256x128_S1x256x128_6_0_0]
  rfl

theorem ldY_eq (ci : Fin 16) (t : Fin 7) (off : Fin 2 → Nat) (h) (e : off = ![t.val, 16 * (i 0).val + ci.val]) :
    ldY arg3 harg3 x2 off h = x2 (ix2 t (chan i ci)) := by
  subst e
  unfold ldY
  rw [View.readAt_eq_ld, harg3.read_unread]
  refine View.ld_unit_apply_of _ _ _ _ _ (ix2 t (chan i ci)) fun a => ?_
  match a with
  | 0 => rfl
  | 1 => rfl

theorem ysV_eq (ci : Fin 16) : ysV i arg3 harg3 x2 ci = Spec.sum7 fun t => x2 (ix2 t (chan i ci)) := by
  unfold Spec.sum7 ysV
  rw [ldY_eq i arg3 harg3 x2 ci 0 _ _ (k0_off1_eq i ci), ldY_eq i arg3 harg3 x2 ci 1 _ _ (k0_off2_eq i ci),
    ldY_eq i arg3 harg3 x2 ci 2 _ _ (k0_off3_eq i ci), ldY_eq i arg3 harg3 x2 ci 3 _ _ (k0_off4_eq i ci),
    ldY_eq i arg3 harg3 x2 ci 4 _ _ (k0_off5_eq i ci), ldY_eq i arg3 harg3 x2 ci 5 _ _ (k0_off6_eq i ci),
    ldY_eq i arg3 harg3 x2 ci 6 _ _ (k0_off7_eq i ci)]
  rfl

theorem ldW_eq (ci : Fin 16) (r : Fin 256) (l : Fin 128) :
    shapeCast S256x128 (View.readAt (Elt F) arg1.view
      (Rect.unit (s := S16x256x128) ![ci.val, 0, 0] S1x256x128.size (inbW ci)).toLoadRect (harg1.unread x0))
      shapeCasts_S1x256x128_S256x128 (ix2 r l) = x0 (ix3 ci r l) := by
  rw [View.readAt_eq_ld, harg1.read_unread]
  refine (shapeCast_apply _ shapeCasts_S1x256x128_S256x128 (ix2 r l) (ix3 (0 : Fin 1) r l) ?_).trans
    (View.ld_unit_apply_of _ _ _ _ _ (ix3 ci r l) fun a => ?_)
  · rw [Shape.rowMajor_val_two]
    refine (Shape.rowMajor_val_three _).trans ?_
    show (0 * 256 + r.val) * 128 + l.val = r.val * 128 + l.val
    omega
  · match a with
    | 0 => rfl
    | 1 => exact (Nat.zero_add _).symm
    | 2 => exact (Nat.zero_add _).symm

end Loads

/-- The random bits of key row `d + 1` of a table of keys, at a counter. -/
def keyBits (x3 : Vec Ideal S5x2 .i32) (d : Fin 5) (J : Nat) : BitVec 32 :=
  Spec.bits23 (x3 (ix2 d (0 : Fin 2))) (x3 (ix2 d (1 : Fin 2))) 0#32 (BitVec.ofNat 32 J)

/-- What a grid point leaves at an index of its block. -/
theorem out_at (c : Dev nD) (i : grid0.Coords)
    (arg1 : Memref sig .tc .vmem S16x256x128 .f32) (harg1 : arg1.IsWhole)
    (arg2 : Memref sig .tc .vmem S7x256x128 .i32) (harg2 : arg2.IsWhole)
    (arg3 : Memref sig .tc .smem S7x512 .i32) (harg3 : arg3.IsWhole)
    (arg4 : Memref sig .tc .smem S5x2 .i32) (harg4 : arg4.IsWhole)
    (arg5 : Memref sig .tc .vmem S16x256x128 .f32) (harg5 : arg5.IsWhole)
    (x0 : Vec Ideal S16x256x128 .f32) (x1 : Vec Ideal S7x256x128 .i32) (x2 : Vec Ideal S7x512 .i32) (x3 : Vec Ideal S5x2 .i32)
    (ci : Fin 16) (r : Fin 256) (l : Fin 128) :
    let J := (chan i ci).val * 32768 + l.val * 256 + r.val
    out0_A_4 (F := Ideal) c i arg1 harg1 arg2 harg2 arg3 harg3 arg4 harg4 arg5 harg5 x0 x1 x2 x3 (ix3 ci r l) =
      Spec.upd (Spec.sum7 fun t => x1 (ix3 t r l)) (Spec.sum7 fun t => x2 (ix2 t (chan i ci)))
        (keyBits x3 0 J) (keyBits x3 1 J) (keyBits x3 2 J) (keyBits x3 3 J) (keyBits x3 4 J) (x0 (ix3 ci r l)) := by
  intro J
  unfold out0_A_4
  rw [View.read_writes_junk_eq_canon]
  refine View.canon_eq_of_allAt _ _ _ (cover0_A_4 c i arg1 harg1 arg2 harg2 arg3 harg3 arg4 harg4 arg5 harg5 x0 x1 x2 x3 (ix3 ci r l)) ?_
  rw [pieces_eq]
  intro p hp x hx
  obtain ⟨k, -, rfl⟩ := List.mem_map.mp hp
  have hv : ∀ a, ((ix3 ci r l : S16x256x128.Idx) a).val = (![k.val, 0, 0] : Fin 3 → Nat) a + (x a).val := by
    intro a
    rw [← hx]
    refine (Rect.emb_apply _ _ _).trans ?_
    show (![k.val, 0, 0] : Fin 3 → Nat) a + 1 * (x a).val = _
    omega
  have h0 : (x 0).val < 1 := (x 0).isLt
  have e0 : ci.val = k.val + (x 0).val := hv 0
  have e1 : r.val = 0 + (x 1).val := hv 1
  have e2 : l.val = 0 + (x 2).val := hv 2
  obtain rfl : k = ci := Fin.ext (by omega)
  refine (shapeCast_apply (chanV (F := Ideal) (chanNo i k) (xsV arg2 harg2 x1) (ysV i arg3 harg3 x2 k) (keysV arg4 harg4 x3)
    (shapeCast S256x128 (View.readAt (Elt Ideal) arg1.view
      (Rect.unit (s := S16x256x128) ![k.val, 0, 0] S1x256x128.size (inbW k)).toLoadRect
      (harg1.unread x0)) shapeCasts_S1x256x128_S256x128)) shapeCasts_S256x128_S1x256x128 x (ix2 r l) ?_).trans ?_
  · rw [Shape.rowMajor_val_two]
    refine Eq.trans ?_ (Shape.rowMajor_val_three x).symm
    show r.val * 128 + l.val = ((x 0).val * 256 + (x 1).val) * 128 + (x 2).val
    omega
  · rw [chan_at, xsV_eq, ysV_eq, cnt_chan, ldW_eq]
    simp only [keysV_eq]
    rfl

end Cert.KernelIdeal.Val
-- ==== Proof.KerLines.lean ====
/-
The kernel program's host operations as lists of lines (Ssa.lean): those before the kernel's launch, function by
function. Every line's equation holds of what the launch finds.
-/
module

public import proofs.«01_k».proof.Proof.Ssa
public import proofs.«01_k».proof.Proof.Gen.KernelIdeal.Launch
public import Idealize.ShloMosaic.Lib.Tactic

@[expose] public section

set_option maxRecDepth 16384
set_option pp.maxSteps 150
set_option maxHeartbeats 4000000

noncomputable section

namespace Cert.KernelIdeal.Val

open Idealize.ShloMosaic Idealize.ShloMosaic.TcCoe Idealize.ShloMosaic.StableHlo Idealize.SL.Sem
open Cert.KernelIdeal Cert.KernelIdeal.Gen Cert.Ssa

variable {F : FTy → Type} [FloatOps F]

/-- The lines of a printed piece of host program. -/
abbrev LinesOf (p : Prog (TpuEff nD τ sig (Elt F) (Pipeline.Sig Λ₀ (Fin 1) fun p => (pcfgs (F := F) p).Adm) .tc) PUnit) :=
  {ls : List (Line τ sig (Elt F)) // Reads p ls}

/-- Part 0 of the cipher. -/
def tfs0 (a0 a1 a2 a3) (φ : fn_threefry2x32.Bufs) : LinesOf (F := F) (fn_threefry2x32.body_part0 a0 a1 a2 a3 φ) := by
  apply Subtype.mk
  case property =>
    unfold fn_threefry2x32.body_part0
    repeat (first
      | with_reducible apply Reads.tbinary
      | with_reducible apply Reads.tnullary
      | with_reducible apply Reads.tunary
      | with_reducible exact Reads.tlastBinary
      | with_reducible exact Reads.tlastNullary
      | with_reducible exact Reads.tlastUnary
      | with_reducible exact Reads.nil)

/-- Part 1 of the cipher. -/
def tfs1 (a0 a1 a2 a3) (φ : fn_threefry2x32.Bufs) : LinesOf (F := F) (fn_threefry2x32.body_part1 a0 a1 a2 a3 φ) := by
  apply Subtype.mk
  case property =>
    unfold fn_threefry2x32.body_part1
    repeat (first
      | with_reducible apply Reads.tbinary
      | with_reducible apply Reads.tnullary
      | with_reducible apply Reads.tunary
      | with_reducible exact Reads.tlastBinary
      | with_reducible exact Reads.tlastNullary
      | with_reducible exact Reads.tlastUnary
      | with_reducible exact Reads.nil)

/-- Part 2 of the cipher. -/
def tfs2 (a0 a1 a2 a3) (φ : fn_threefry2x32.Bufs) : LinesOf (F := F) (fn_threefry2x32.body_part2 a0 a1 a2 a3 φ) := by
  apply Subtype.mk
  case property =>
    unfold fn_threefry2x32.body_part2
    repeat (first
      | with_reducible apply Reads.tbinary
      | with_reducible apply Reads.tnullary
      | with_reducible apply Reads.tunary
      | with_reducible exact Reads.tlastBinary
      | with_reducible exact Reads.tlastNullary
      | with_reducible exact Reads.tlastUnary
      | with_reducible exact Reads.nil)

/-- Part 3 of the cipher. -/
def tfs3 (a0 a1 a2 a3) (φ : fn_threefry2x32.Bufs) : LinesOf (F := F) (fn_threefry2x32.body_part3 a0 a1 a2 a3 φ) := by
  apply Subtype.mk
  case property =>
    unfold fn_threefry2x32.body_part3
    repeat (first
      | with_reducible apply Reads.tbinary
      | with_reducible apply Reads.tnullary
      | with_reducible apply Reads.tunary
      | with_reducible exact Reads.tlastBinary
      | with_reducible exact Reads.tlastNullary
      | with_reducible exact Reads.tlastUnary
      | with_reducible exact Reads.nil)

/-- The cipher on six counters. -/
def tfs (a0 a1 a2 a3) (φ : fn_threefry2x32.Bufs) : LinesOf (F := F) (fn_threefry2x32.body a0 a1 a2 a3 φ) :=
  ⟨_, Reads.append (tfs0 a0 a1 a2 a3 φ).2 (Reads.append (tfs1 a0 a1 a2 a3 φ).2 (Reads.append (tfs2 a0 a1 a2 a3 φ).2 (tfs3 a0 a1 a2 a3 φ).2))⟩

/-- The key split. -/
def split (a0) (φ : fn_threefry_split.Bufs) : LinesOf (F := F) (fn_threefry_split.body a0 φ) := by
  apply Subtype.mk
  case property =>
    unfold fn_threefry_split.body
    repeat (first
      | with_reducible apply Reads.tbinary
      | with_reducible apply Reads.tnullary
      | with_reducible apply Reads.tunary
      | with_reducible apply Reads.treshape
      | with_reducible exact Reads.nil
      | with_reducible apply Reads.append (tfs _ _ _ _ _).2)

/-- The first lines: the operands' layouts and the key `(0, 42)`. -/
def headL : List (Line τ sig (Elt F)) :=
  [Line.treshape (.of main_arg2 : TRef sig ⟨S1x1x512x128x16x16, .f32⟩) (.of main_call0_v0 : TRef sig ⟨S512x128x16x16, .f32⟩) (rfl : (.f32 : EltTy) = .f32) shapeCasts_S1x1x512x128x16x16_S512x128x16x16,
    Line.tunary (.of main_call0_v0 : TRef sig ⟨S512x128x16x16, .f32⟩) (.of main_call0_v1 : TRef sig ⟨S512x16x16x128, .f32⟩) (transpose S512x16x16x128 [0, 2, 3, 1] · transposes_S512x128x16x16_S512x16x16x128_0_2_3_1),
    Line.treshape (.of main_call0_v1 : TRef sig ⟨S512x16x16x128, .f32⟩) (.of main_call0_v2 : TRef sig ⟨S512x256x128, .f32⟩) (rfl : (.f32 : EltTy) = .f32) shapeCasts_S512x16x16x128_S512x256x128,
    Line.tunary (.of main_arg0 : TRef sig ⟨S7x128x16x16, .i32⟩) (.of main_call0_v3 : TRef sig ⟨S7x16x16x128, .i32⟩) (transpose S7x16x16x128 [0, 2, 3, 1] · transposes_S7x128x16x16_S7x16x16x128_0_2_3_1),
    Line.treshape (.of main_call0_v3 : TRef sig ⟨S7x16x16x128, .i32⟩) (.of main_call0_v4 : TRef sig ⟨S7x256x128, .i32⟩) (rfl : (.i32 : EltTy) = .i32) shapeCasts_S7x16x16x128_S7x256x128,
    Line.treshape (.of main_arg1 : TRef sig ⟨S7x512x1x1, .i32⟩) (.of main_call0_v5 : TRef sig ⟨S7x512, .i32⟩) (rfl : (.i32 : EltTy) = .i32) shapeCasts_S7x512x1x1_S7x512,
    Line.tnullary (.of main_call0_c : TRef sig ⟨S_, .i32⟩) (constantI S_ 32 42#32),
    Line.tnullary (.of main_call0_c_0 : TRef sig ⟨S_, .i32⟩) (constantI S_ 32 32#32),
    Line.tbinary (.of main_call0_c : TRef sig ⟨S_, .i32⟩) (.of main_call0_c_0 : TRef sig ⟨S_, .i32⟩) (.of main_call0_v6 : TRef sig ⟨S_, .i32⟩) Host.shrui,
    Line.tunary (.of main_call0_v6 : TRef sig ⟨S_, .i32⟩) (.of main_call0_v7 : TRef sig ⟨S_, .i32⟩) id,
    Line.tunary (.of main_call0_v7 : TRef sig ⟨S_, .i32⟩) (.of main_call0_v8 : TRef sig ⟨S1, .i32⟩) (broadcastInDim S1 ![] bcast_S_S1),
    Line.tnullary (.of main_call0_c_1 : TRef sig ⟨S_, .i32⟩) (constantI S_ 32 4294967295#32),
    Line.tbinary (.of main_call0_c : TRef sig ⟨S_, .i32⟩) (.of main_call0_c_1 : TRef sig ⟨S_, .i32⟩) (.of main_call0_v9 : TRef sig ⟨S_, .i32⟩) andi,
    Line.tunary (.of main_call0_v9 : TRef sig ⟨S_, .i32⟩) (.of main_call0_v10 : TRef sig ⟨S_, .i32⟩) id,
    Line.tunary (.of main_call0_v10 : TRef sig ⟨S_, .i32⟩) (.of main_call0_v11 : TRef sig ⟨S1, .i32⟩) (broadcastInDim S1 ![] bcast_S_S1),
    Line.tbinary (.of main_call0_v8 : TRef sig ⟨S1, .i32⟩) (.of main_call0_v11 : TRef sig ⟨S1, .i32⟩) (.of main_call0_v12 : TRef sig ⟨S2, .i32⟩) (fun a b => concatenate S2 0 [⟨S1, a⟩, ⟨S1, b⟩] concatenates_S1_S1_S2_d0)]

/-- The last lines: five of the six keys. -/
def lastL : List (Line τ sig (Elt F)) :=
  [Line.tunary main_call0_call0.v14 (.of main_call0_v14 : TRef sig ⟨S5x2, .i32⟩) (extractStridedSlice S5x2 ![1, 0] · slices_S6x2_S5x2_1_0),
    Line.tunary (.of main_call0_v14 : TRef sig ⟨S5x2, .i32⟩) (.of main_call0_v15 : TRef sig ⟨S5x2, .i32⟩) id]

/-- All lines before the launch. -/
def hostL : List (Line τ sig (Elt F)) := headL ++ ((split (.of main_call0_v12) main_call0_call0).1 ++ lastL)

/-- They are the operations before the launch. -/
theorem ops_hostL : ops (hostL (F := F)) = hostOps0 := by sl_kernel_rfl

theorem hostL_ordered : ordered 3 (hostL (F := F)) = true := by sl_kernel_rfl

end Cert.KernelIdeal.Val
-- ==== Proof.KerFn.lean ====
/-
The kernel program's host operations, read: the five keys and the operands' layouts as the launch finds them.
-/
module

public import proofs.«01_k».proof.Proof.Read
public import proofs.«01_k».proof.Proof.KerLines
public import Idealize.ShloMosaic.Lib.Pipeline.Value
public import Idealize.ShloMosaic.Lib.ValueIdxRank6

@[expose] public section

set_option maxRecDepth 16384

noncomputable section

namespace Cert.KernelIdeal.Val

open Idealize.ShloMosaic Idealize.ShloMosaic.TcCoe Idealize.ShloMosaic.StableHlo Idealize.ShloMosaic.ValueIdx
open Cert.KernelIdeal Cert.KernelIdeal.Gen Cert.Ssa Cert.Read

variable {F : FTy → Type} [FloatOps F] {V : Valuation τ sig (Elt F)}

/-- A cipher call on six counters. -/
theorem tfs_read {a0 a1 a2 a3} {φ : fn_threefry2x32.Bufs} (h : All (tfs (F := F) a0 a1 a2 a3 φ).1 V) (i) :
    St V φ.v171 φ.v175 i (Spec.threefry (sc V a0) (sc V a1) (wd V a2 i) (wd V a3 i)) := by
  obtain ⟨e, hs, h⟩ := init_step h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, h⟩ := inj_step hs h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, h⟩ := inj_step hs h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, h⟩ := inj_step hs h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, h⟩ := inj_step hs h
  obtain ⟨hs, h⟩ := round_step hs h (by decide) (by decide)
  obtain ⟨hs, h⟩ := round_step hs h (by decide) (by decide)
  obtain ⟨hs, h⟩ := round_step hs h (by decide) (by decide)
  obtain ⟨hs, h⟩ := round_step hs h (by decide) (by decide)
  obtain ⟨hs, -⟩ := inj_step hs h
  have := hs i
  rw [e] at this
  exact this

/-- The index of a key's word. -/
def kx (n : Fin 2) : S2.Idx := ix1 n

/-- A key word: sliced out, made a scalar. -/
theorem word_step {a : TRef sig ⟨S2, .i32⟩} {x : TRef sig ⟨S1, .i32⟩} {y : TRef sig ⟨S_, .i32⟩} {n : Nat} (hn : n < 2)
    {hs : S2.Slices ![n] S1} (h0 : (Line.tunary (Val := Elt F) a x (extractStridedSlice S1 ![n] · hs)).Law V)
    (h1 : (Line.treshape (Val := Elt F) x y rfl shapeCasts_S1_S_).Law V) :
    sc V y = wd V a (kx ⟨n, hn⟩) := by
  have e1 : sc V y = wd V x (ix1 (0 : Fin 1)) := (congrFun h1 z0).trans
    (shapeCast_apply (rd V x : IVec S1 32) shapeCasts_S1_S_ z0 (ix1 (0 : Fin 1)) (by decide))
  rw [e1]
  refine (congrFun h0 _).trans ?_
  show (rd V a : IVec S2 32) _ = (rd V a : IVec S2 32) _
  congr 1
  funext b
  obtain rfl : b = 0 := Subsingleton.elim (α := Fin 1) _ _
  rfl

/-- The index of a word in the six keys. -/
def kx2 (r : Fin 6) (n : Fin 2) : S6x2.Idx := ix2 r n

/-- The counters of the key split. -/
theorem six_words (r : Fin 6) : (1#64 * BitVec.ofNat 64 r.val).setWidth 32 = BitVec.ofNat 32 r.val ∧
    ((1#64 * BitVec.ofNat 64 r.val) >>> 32#64).setWidth 32 = 0#32 := by
  revert r; decide

/-- The key split: row `r` is the cipher of the counter `r`. -/
theorem split_read {a0} {φ : fn_threefry_split.Bufs} (h : All (split (F := F) a0 φ).1 V) (r : Fin 6) :
    wd V φ.v14 (kx2 r 0) = (Spec.threefry (wd V a0 (kx 0)) (wd V a0 (kx 1)) 0#32 (BitVec.ofNat 32 r.val)).1 ∧
    wd V φ.v14 (kx2 r 1) = (Spec.threefry (wd V a0 (kx 0)) (wd V a0 (kx 1)) 0#32 (BitVec.ofNat 32 r.val)).2 := by
  obtain ⟨h0, h1, h2, h3, h4, hc, h5, h6, hc0, h7, h8, h9, h10, h⟩ := h
  rw [all_append] at h
  obtain ⟨ht, h12, h13, h14, -⟩ := h
  have k0 : sc V φ.v1 = wd V a0 (kx 0) := word_step (by decide) h0 h1
  have k1 : sc V φ.v3 = wd V a0 (kx 1) := word_step (by decide) h2 h3
  let i : S6.Idx := ix1 r
  have e4 : (rd V φ.v4 : IVec S6 64) i = BitVec.ofNat 64 r.val := congrFun h4 i
  have e5 : (rd V φ.v5 : IVec S6 64) i = 1#64 := (congrFun h5 i).trans ((bc_at _ _ i).trans (congrFun hc z0))
  have e7 : (rd V φ.v7 : IVec S6 64) i = 32#64 := (congrFun h7 i).trans ((bc_at _ _ i).trans (congrFun hc0 z0))
  have e6 : (rd V φ.v6 : IVec S6 64) i = 1#64 * BitVec.ofNat 64 r.val := by rw [← e4, ← e5]; exact congrFun h6 i
  have e8 : (rd V φ.v8 : IVec S6 64) i = (1#64 * BitVec.ofNat 64 r.val) >>> 32#64 := by
    rw [← e6, ← e7]
    exact (congrFun h8 i).trans (shr_at _ _ i (by show ((rd V φ.v7 : IVec S6 64) i).toNat < 64; rw [e7]; decide))
  have e9 : wd V φ.v9 i = BitVec.ofNat 32 r.val := by
    have : wd V φ.v9 i = ((rd V φ.v6 : IVec S6 64) i).setWidth 32 := congrFun h9 i
    rw [this, e6]; exact (six_words r).1
  have e10 : wd V φ.v10 i = 0#32 := by
    have : wd V φ.v10 i = ((rd V φ.v8 : IVec S6 64) i).setWidth 32 := congrFun h10 i
    rw [this, e8]; exact (six_words r).2
  have t := tfs_read ht i
  rw [k0, k1, e9, e10] at t
  have e12 : wd V φ.v12 (ix2 r (0 : Fin 1)) = wd V φ.call0.v171 i := by
    refine (congrFun h12 _).trans ?_
    show (rd V φ.call0.v171 : IVec S6 32) _ = (rd V φ.call0.v171 : IVec S6 32) _
    congr 1
    funext b
    obtain rfl : b = 0 := Subsingleton.elim (α := Fin 1) _ _
    rfl
  have e13 : wd V φ.v13 (ix2 r (0 : Fin 1)) = wd V φ.call0.v175 i := by
    refine (congrFun h13 _).trans ?_
    show (rd V φ.call0.v175 : IVec S6 32) _ = (rd V φ.call0.v175 : IVec S6 32) _
    congr 1
    funext b
    obtain rfl : b = 0 := Subsingleton.elim (α := Fin 1) _ _
    rfl
  constructor
  · rw [← t.1, ← e12]
    refine (congrFun h14 _).trans (concatenate_pair_apply_left (1 : Fin S6x2.rank)
      (rd V φ.v12 : IVec S6x1 32) (rd V φ.v13 : IVec S6x1 32) concatenates_S6x1_S6x1_S6x2_d1 (kx2 r 0) rfl (ix2 r (0 : Fin 1)) ?_)
    intro b
    match b with
    | 0 => rfl
    | 1 => rfl
  · rw [← t.2, ← e13]
    refine (congrFun h14 _).trans (concatenate_pair_apply_right (1 : Fin S6x2.rank)
      (rd V φ.v12 : IVec S6x1 32) (rd V φ.v13 : IVec S6x1 32) concatenates_S6x1_S6x1_S6x2_d1 (kx2 r 1) rfl rfl (ix2 r (0 : Fin 1)) ?_ rfl)
    intro b hb
    match b with
    | 0 => rfl
    | 1 => exact absurd rfl hb

/-- What the launch finds, in terms of the arguments. -/
structure Found (V : Valuation τ sig (Elt F)) : Prop where
  keys : ∀ d : Fin 5, wd V (.of main_call0_v15) (ix2 d (0 : Fin 2)) = (Spec.key (d.val + 1)).1 ∧
    wd V (.of main_call0_v15) (ix2 d (1 : Fin 2)) = (Spec.key (d.val + 1)).2
  weight : ∀ (o : Fin 512) (c : Fin 128) (y z : Fin 16) (r : Fin 256), r.val = y.val * 16 + z.val →
    (rd V (.of main_call0_v2) : FVec F S512x256x128 .f32) (ix3 o r c) =
      (rd V (.of main_arg2) : FVec F S1x1x512x128x16x16 .f32) (ix6 (0 : Fin 1) (0 : Fin 1) o c y z)
  xs : ∀ (t : Fin 7) (c : Fin 128) (y z : Fin 16) (r : Fin 256), r.val = y.val * 16 + z.val →
    wd V (.of main_call0_v4) (ix3 t r c) = wd V (.of main_arg0) (ix4 t c y z)
  ys : ∀ (t : Fin 7) (o : Fin 512), wd V (.of main_call0_v5) (ix2 t o) = wd V (.of main_arg1) (ix4 t o (0 : Fin 1) (0 : Fin 1))

theorem found (h : All (hostL (F := F)) V) : Found V := by
  unfold hostL at h
  rw [all_append, all_append] at h
  obtain ⟨⟨h0, h1, h2, h3, h4, h5, hc, hc0, h6, h7, h8, hc1, h9, h10, h11, h12, -⟩, hsp, h14, h15, -⟩ := h
  constructor
  case keys =>
    have e6 : wd V (.of main_call0_v6) z0 = 0#32 := by
      refine (congrFun h6 z0).trans ?_
      show IntOp.shrui .host (wd V (.of main_call0_c) z0) (wd V (.of main_call0_c_0) z0) = _
      rw [show wd V (.of main_call0_c) z0 = 42#32 from congrFun hc z0, show wd V (.of main_call0_c_0) z0 = 32#32 from congrFun hc0 z0]
      rfl
    have e9 : wd V (.of main_call0_v9) z0 = 42#32 := by
      refine (congrFun h9 z0).trans ?_
      show wd V (.of main_call0_c) z0 &&& wd V (.of main_call0_c_1) z0 = _
      rw [show wd V (.of main_call0_c) z0 = 42#32 from congrFun hc z0, show wd V (.of main_call0_c_1) z0 = 4294967295#32 from congrFun hc1 z0]
      rfl
    have e8 : ∀ j, wd V (.of main_call0_v8) j = 0#32 := fun j => (congrFun h8 j).trans ((bc_at _ _ j).trans ((congrFun h7 z0).trans e6))
    have e11 : ∀ j, wd V (.of main_call0_v11) j = 42#32 :=
      fun j => (congrFun h11 j).trans ((bc_at _ _ j).trans ((congrFun h10 z0).trans e9))
    have ka : wd V (.of main_call0_v12) (kx 0) = 0#32 := by
      rw [← e8 (ix1 (0 : Fin 1))]
      refine (congrFun h12 _).trans (concatenate_pair_apply_left (0 : Fin S2.rank)
        (rd V (.of main_call0_v8) : IVec S1 32) (rd V (.of main_call0_v11) : IVec S1 32) concatenates_S1_S1_S2_d0 (kx 0) rfl (ix1 (0 : Fin 1)) ?_)
      intro b
      obtain rfl : b = 0 := Subsingleton.elim (α := Fin 1) _ _
      rfl
    have kb : wd V (.of main_call0_v12) (kx 1) = 42#32 := by
      rw [← e11 (ix1 (0 : Fin 1))]
      refine (congrFun h12 _).trans (concatenate_pair_apply_right (0 : Fin S2.rank)
        (rd V (.of main_call0_v8) : IVec S1 32) (rd V (.of main_call0_v11) : IVec S1 32) concatenates_S1_S1_S2_d0 (kx 1) rfl rfl (ix1 (0 : Fin 1)) ?_ rfl)
      intro b hb
      obtain rfl : b = 0 := Subsingleton.elim (α := Fin 1) _ _
      exact absurd rfl hb
    have row : ∀ (d : Fin 5) (e : Fin 2), wd V (.of main_call0_v15) (ix2 d e) = wd V main_call0_call0.v14 (kx2 d.succ e) := by
      intro d e
      refine (congrFun h15 _).trans ((congrFun h14 _).trans ?_)
      show (rd V main_call0_call0.v14 : IVec S6x2 32) _ = (rd V main_call0_call0.v14 : IVec S6x2 32) _
      congr 1
      funext b
      match b with
      | 0 => exact Fin.ext (Nat.add_comm _ _)
      | 1 => exact Fin.ext (Nat.zero_add _)
    intro d
    have hs := split_read hsp d.succ
    rw [ka, kb] at hs
    exact ⟨(row d 0).trans hs.1, (row d 1).trans hs.2⟩
  case weight =>
    intro o c y z r hr
    refine (congrFun h2 _).trans ((shapeCast_apply (rd V (.of main_call0_v1) : FVec F S512x16x16x128 .f32) _ (ix3 o r c)
      (ix4 o y z c) ?_).trans ((congrFun h1 _).trans ?_))
    · rw [Shape.rowMajor_val_four, Shape.rowMajor_val_three]
      show ((o.val * 16 + y.val) * 16 + z.val) * 128 + c.val = (o.val * 256 + r.val) * 128 + c.val
      omega
    · have e : (rd V (.of main_call0_v0) : FVec F S512x128x16x16 .f32) (ix4 o c y z) =
          (rd V (.of main_arg2) : FVec F S1x1x512x128x16x16 .f32) (ix6 (0 : Fin 1) (0 : Fin 1) o c y z) := by
        refine (congrFun h0 _).trans (shapeCast_apply (rd V (.of main_arg2) : FVec F S1x1x512x128x16x16 .f32) _ (ix4 o c y z)
          (ix6 (0 : Fin 1) (0 : Fin 1) o c y z) ?_)
        rw [Shape.rowMajor_val_six, Shape.rowMajor_val_four]
        show ((((0 * 1 + 0) * 512 + o.val) * 128 + c.val) * 16 + y.val) * 16 + z.val = ((o.val * 128 + c.val) * 16 + y.val) * 16 + z.val
        simp
      rw [← e]
      show (rd V (.of main_call0_v0) : FVec F S512x128x16x16 .f32) _ = (rd V (.of main_call0_v0) : FVec F S512x128x16x16 .f32) _
      congr 1
      funext b
      match b with
      | 0 => rfl
      | 1 => rfl
      | 2 => rfl
      | 3 => rfl
  case xs =>
    intro t c y z r hr
    refine (congrFun h4 _).trans ((shapeCast_apply (rd V (.of main_call0_v3) : IVec S7x16x16x128 32) _ (ix3 t r c)
      (ix4 t y z c) ?_).trans ((congrFun h3 _).trans ?_))
    · rw [Shape.rowMajor_val_four, Shape.rowMajor_val_three]
      show ((t.val * 16 + y.val) * 16 + z.val) * 128 + c.val = (t.val * 256 + r.val) * 128 + c.val
      omega
    · show (rd V (.of main_arg0) : IVec S7x128x16x16 32) _ = (rd V (.of main_arg0) : IVec S7x128x16x16 32) _
      congr 1
      funext b
      match b with
      | 0 => rfl
      | 1 => rfl
      | 2 => rfl
      | 3 => rfl
  case ys =>
    intro t o
    refine (congrFun h5 _).trans (shapeCast_apply (rd V (.of main_arg1) : IVec S7x512x1x1 32) _ (ix2 t o)
      (ix4 t o (0 : Fin 1) (0 : Fin 1)) ?_)
    rw [Shape.rowMajor_val_four, Shape.rowMajor_val_two]
    show ((t.val * 512 + o.val) * 1 + 0) * 1 + 0 = t.val * 512 + o.val
    omega

end Cert.KernelIdeal.Val
-- ==== Proof.Result.lean ====
/-
The kernel program's result: the array of the launch at every index, and the program's result made of it.
-/
module

public import proofs.«01_k».proof.Proof.Tile
public import proofs.«01_k».proof.Proof.KerFn
public import proofs.«01_k».proof.Proof.Gen.KernelIdeal.Frame

@[expose] public section

set_option maxRecDepth 16384

noncomputable section

namespace Cert.KernelIdeal.Val

open Idealize.ShloMosaic hiding ix1 ix2 ix3 ix4 ix6 eq_ix3 eq_ix2
open Idealize.ShloMosaic.TcCoe Idealize.ShloMosaic.ValueIdx Idealize.ShloMosaic.StableHlo
open Cert.KernelIdeal Cert.KernelIdeal.Gen Cert.Ssa Cert.Read

/-- The array of the launch, from what the launch finds. -/
def result (V : Valuation τ sig (Elt Ideal)) : FVec Ideal S512x256x128 .f32 := fun j =>
  let J := (j 0).val * 32768 + (j 2).val * 256 + (j 1).val
  let k : Vec Ideal S5x2 .i32 := rd V (.of main_call0_v15)
  Spec.upd (Spec.sum7 fun t => wd V (.of main_call0_v4) (ix3 t (j 1) (j 2)))
    (Spec.sum7 fun t => wd V (.of main_call0_v5) (ix2 t (j 0)))
    (keyBits k 0 J) (keyBits k 1 J) (keyBits k 2 J) (keyBits k 3 J) (keyBits k 4 J)
    ((rd V (.of main_call0_v2) : FVec Ideal S512x256x128 .f32) j)

variable (m : (ℓ : Loc nD τ sig) → Buf (Elt Ideal) ℓ)

theorem index4 : ∀ t : Fin cfg0.N, win0_4.index t = ![(grid0.coords t 0).val, 0, 0] := by decide +kernel
theorem index0 : ∀ t : Fin cfg0.N, win0_0.index t = ![(grid0.coords t 0).val, 0, 0] := by decide +kernel
theorem index1 : ∀ t : Fin cfg0.N, win0_1.index t = ![0, 0, 0] := by decide +kernel
theorem index2 : ∀ t : Fin cfg0.N, win0_2.index t = ![0, 0] := by decide +kernel
theorem index3 : ∀ t : Fin cfg0.N, win0_3.index t = ![0, 0] := by decide +kernel

theorem blk0 (c : Dev nD) (t : Fin cfg0.N) (ci : Fin 16) (r : Fin 256) (l : Fin 128) :
    (iblk m c 0 t : Vec Ideal S16x256x128 .f32) (ix3 ci r l) =
      (rd (V0 m c) (.of main_call0_v2) : FVec Ideal S512x256x128 .f32) (ix3 (chan (grid0.coords t) ci) r l) := by
  refine congrArg (V m c main_call0_v2 : FVec Ideal S512x256x128 .f32) ?_
  funext a
  apply Fin.ext
  blk_simp [index0]
  match a with
  | 0 => show (grid0.coords t 0).val * 16 + ci.val = 16 * (grid0.coords t 0).val + ci.val; omega
  | 1 => show 0 * 256 + r.val = r.val; omega
  | 2 => show 0 * 128 + l.val = l.val; omega

theorem blk1 (c : Dev nD) (t : Fin cfg0.N) (u : Fin 7) (r : Fin 256) (l : Fin 128) :
    (iblk m c 1 t : Vec Ideal S7x256x128 .i32) (ix3 u r l) = wd (V0 m c) (.of main_call0_v4) (ix3 u r l) := by
  refine congrArg (V m c main_call0_v4 : IVec S7x256x128 32) ?_
  funext a
  apply Fin.ext
  blk_simp [index1]
  match a with
  | 0 => show 0 * 7 + u.val = u.val; omega
  | 1 => show 0 * 256 + r.val = r.val; omega
  | 2 => show 0 * 128 + l.val = l.val; omega

theorem blk2 (c : Dev nD) (t : Fin cfg0.N) (u : Fin 7) (o : Fin 512) :
    (iblk m c 2 t : Vec Ideal S7x512 .i32) (ix2 u o) = wd (V0 m c) (.of main_call0_v5) (ix2 u o) := by
  refine congrArg (V m c main_call0_v5 : IVec S7x512 32) ?_
  funext a
  apply Fin.ext
  blk_simp [index2]
  match a with
  | 0 => show 0 * 7 + u.val = u.val; omega
  | 1 => show 0 * 512 + o.val = o.val; omega

theorem blk3 (c : Dev nD) (t : Fin cfg0.N) (d : Fin 5) (e : Fin 2) :
    (iblk m c 3 t : Vec Ideal S5x2 .i32) (ix2 d e) = wd (V0 m c) (.of main_call0_v15) (ix2 d e) := by
  refine congrArg (V m c main_call0_v15 : IVec S5x2 32) ?_
  funext a
  apply Fin.ext
  blk_simp [index3]
  match a with
  | 0 => show 0 * 5 + d.val = d.val; omega
  | 1 => show 0 * 2 + e.val = e.val; omega

theorem final (c : Dev nD) : (dats m 0 c).arrAt 4 cfg0.N = result (V0 m c) := by
  refine (dats m 0 c).arrAt_eq_of_covers 4 _ (by decide +kernel) fun t hf y => ?_
  blk_simp
  rw [after0_4]
  unfold outsAt0
  obtain ⟨ci, r, l, rfl⟩ : ∃ ci r l, y = (ix3 ci r l : S16x256x128.Idx) := ⟨y 0, y 1, y 2, eq_ix3 y⟩
  rw [out_at]
  have e : ((win0_4.blk t).view.emb (ix3 ci r l : S16x256x128.Idx) : S512x256x128.Idx) = ix3 (chan (grid0.coords t) ci) r l := by
    funext a
    apply Fin.ext
    blk_simp [index4]
    match a with
    | 0 => show (grid0.coords t 0).val * 16 + ci.val = 16 * (grid0.coords t 0).val + ci.val; omega
    | 1 => show 0 * 256 + r.val = r.val; omega
    | 2 => show 0 * 128 + l.val = l.val; omega
  refine Eq.trans ?_ (congrArg (result (V0 m c)) e).symm
  unfold keyBits
  simp only [blk0, blk1, blk2, blk3]
  rfl

/-- The operations after the launch, as lines. -/
def tailL : List (Line τ sig (Elt Ideal)) :=
  [Line.treshape (.of main_call0_v16 : TRef sig ⟨S512x256x128, .f32⟩) (.of main_call0_v17 : TRef sig ⟨S512x16x16x128, .f32⟩) (rfl : (.f32 : EltTy) = .f32) shapeCasts_S512x256x128_S512x16x16x128,
    Line.tunary (.of main_call0_v17 : TRef sig ⟨S512x16x16x128, .f32⟩) (.of main_call0_v18 : TRef sig ⟨S512x128x16x16, .f32⟩) (transpose S512x128x16x16 [0, 3, 1, 2] · transposes_S512x16x16x128_S512x128x16x16_0_3_1_2),
    Line.treshape (.of main_call0_v18 : TRef sig ⟨S512x128x16x16, .f32⟩) (.of main_v0 : TRef sig ⟨S1x1x512x128x16x16, .f32⟩) (rfl : (.f32 : EltTy) = .f32) shapeCasts_S512x128x16x16_S1x1x512x128x16x16]

theorem ops_tailL : ops tailL = hostOps1 := by sl_kernel_rfl

/-- The number of the first buffer written after the launch. -/
def tailN : Nat := (num main_call0_v17).getD 0

theorem tailL_ordered : ordered tailN tailL = true := by sl_kernel_rfl

/-- The last contents at the result, read back to the launch's array. -/
theorem tail_read {V : Valuation τ sig (Elt Ideal)} (h : All tailL V) (o : Fin 512) (c : Fin 128) (y z : Fin 16) (r : Fin 256)
    (hr : r.val = y.val * 16 + z.val) :
    (rd V (.of main_v0) : FVec Ideal S1x1x512x128x16x16 .f32) (ix6 (0 : Fin 1) (0 : Fin 1) o c y z) =
      (rd V (.of main_call0_v16) : FVec Ideal S512x256x128 .f32) (ix3 o r c) := by
  obtain ⟨h17, h18, h0, -⟩ := h
  refine (congrFun h0 _).trans ((shapeCast_apply (rd V (.of main_call0_v18) : FVec Ideal S512x128x16x16 .f32) _
    (ix6 (0 : Fin 1) (0 : Fin 1) o c y z) (ix4 o c y z) ?_).trans ((congrFun h18 _).trans ?_))
  · rw [Shape.rowMajor_val_six, Shape.rowMajor_val_four]
    show ((o.val * 128 + c.val) * 16 + y.val) * 16 + z.val = ((((0 * 1 + 0) * 512 + o.val) * 128 + c.val) * 16 + y.val) * 16 + z.val
    simp
  · have e : (rd V (.of main_call0_v17) : FVec Ideal S512x16x16x128 .f32) (ix4 o y z c) =
        (rd V (.of main_call0_v16) : FVec Ideal S512x256x128 .f32) (ix3 o r c) := by
      refine (congrFun h17 _).trans (shapeCast_apply (rd V (.of main_call0_v16) : FVec Ideal S512x256x128 .f32) _ (ix4 o y z c)
        (ix3 o r c) ?_)
      rw [Shape.rowMajor_val_four, Shape.rowMajor_val_three]
      show (o.val * 256 + r.val) * 128 + c.val = ((o.val * 16 + y.val) * 16 + z.val) * 128 + c.val
      omega
    rw [← e]
    show (rd V (.of main_call0_v17) : FVec Ideal S512x16x16x128 .f32) _ = (rd V (.of main_call0_v17) : FVec Ideal S512x16x16x128 .f32) _
    congr 1
    funext b
    match b with
    | 0 => rfl
    | 1 => rfl
    | 2 => rfl
    | 3 => rfl

/-- What the launch leaves, before the last lines. -/
def left (c : Dev nD) : Valuation τ sig (Elt Ideal) :=
  Pipeline.withArrays (cfgs 0).spec c (V0 m c) fun w => (dats m 0 c).arrAt w (cfgs 0).N

/-- The last contents. -/
def last (c : Dev nD) : Valuation τ sig (Elt Ideal) := after (ops tailL) (left m c)

theorem last_eq (c : Dev nD) (b : Ref sig .tc) :
    Pipeline.afterTail₀ cfgs (dats m) 0 (V0 m) [hostOps1] c b = last m c (Proc.devRef .tc b) := by
  unfold last
  rw [ops_tailL]
  show after (List.flatten [hostOps1]) _ _ = _
  rw [List.flatten_cons, List.flatten_nil, List.append_nil]
  rfl

theorem last_all (c : Dev nD) : All tailL (last m c) := all_laws tailL tailN tailL_ordered (left m c)

theorem host_all (c : Dev nD) : All (hostL (F := Ideal)) (V0 m c) := by
  have h := all_laws (hostL (F := Ideal)) 3 hostL_ordered (fun b => m (c, b))
  rw [ops_hostL] at h
  have e : V0 m c = after hostOps0 (fun b => m (c, b)) := by
    show after (List.flatten [hostOps0]) _ = _
    rw [List.flatten_cons, List.flatten_nil, List.append_nil]
  rw [e]
  exact h

theorem arrRef_inj : Function.Injective (Pipeline.arrRef spec0) := by decide

/-- The array of the launch is as the launch left it. -/
theorem last_array (c : Dev nD) : (rd (last m c) (.of main_call0_v16) : FVec Ideal S512x256x128 .f32) = result (V0 m c) := by
  refine Eq.trans ?_ (final m c)
  refine Eq.trans (after_keep tailL tailN tailL_ordered (left m c) main_call0_v16 rfl) ?_
  exact Pipeline.withArrays_arr spec0 arrRef_inj c (V0 m c) _ 4

/-- A place's position among all weights. -/
def place (o : Fin 512) (k : Fin 128) (y z : Fin 16) : Nat := o.val * 32768 + k.val * 256 + y.val * 16 + z.val

/-- The launch's array at every index, in terms of the arguments. -/
theorem result_at (c : Dev nD) (o : Fin 512) (k : Fin 128) (y z : Fin 16) (r : Fin 256) (hr : r.val = y.val * 16 + z.val) :
    result (V0 m c) (ix3 o r k) = Spec.upd
      (Spec.sum7 fun t => (m ((c.tc : Thread nD τ).loc main_arg0) : IVec S7x128x16x16 32) (ix4 t k y z))
      (Spec.sum7 fun t => (m ((c.tc : Thread nD τ).loc main_arg1) : IVec S7x512x1x1 32) (ix4 t o (0 : Fin 1) (0 : Fin 1)))
      (Spec.bits 1 (place o k y z)) (Spec.bits 2 (place o k y z)) (Spec.bits 3 (place o k y z))
      (Spec.bits 4 (place o k y z)) (Spec.bits 5 (place o k y z))
      ((m ((c.tc : Thread nD τ).loc main_arg2) : FVec Ideal S1x1x512x128x16x16 .f32) (ix6 (0 : Fin 1) (0 : Fin 1) o k y z)) := by
  have f := found (host_all m c)
  have ea0 : (rd (V0 m c) (.of main_arg0) : IVec S7x128x16x16 32) = m ((c.tc : Thread nD τ).loc main_arg0) := V_main_arg0 m c
  have ea1 : (rd (V0 m c) (.of main_arg1) : IVec S7x512x1x1 32) = m ((c.tc : Thread nD τ).loc main_arg1) := V_main_arg1 m c
  have ea2 : (rd (V0 m c) (.of main_arg2) : FVec Ideal S1x1x512x128x16x16 .f32) = m ((c.tc : Thread nD τ).loc main_arg2) := V_main_arg2 m c
  generalize V0 m c = V at f ea0 ea1 ea2 ⊢
  rw [← ea0, ← ea1, ← ea2]
  have ex : ∀ t : Fin 7, wd V (.of main_call0_v4) (ix3 t r k) = wd V (.of main_arg0) (ix4 t k y z) := fun t => f.xs t k y z r hr
  have ey : ∀ t : Fin 7, wd V (.of main_call0_v5) (ix2 t o) = wd V (.of main_arg1) (ix4 t o (0 : Fin 1) (0 : Fin 1)) := fun t => f.ys t o
  have ew := f.weight o k y z r hr
  have ek : ∀ (d : Fin 5) (J : Nat), keyBits (rd V (.of main_call0_v15)) d J = Spec.bits (d.val + 1) J := by
    intro d J
    unfold keyBits Spec.bits
    rw [← (f.keys d).1, ← (f.keys d).2]
  have eJ : o.val * 32768 + k.val * 256 + r.val = place o k y z := by unfold place; omega
  refine Eq.trans (b := Spec.upd (Spec.sum7 fun t => wd V (.of main_call0_v4) (ix3 t r k))
    (Spec.sum7 fun t => wd V (.of main_call0_v5) (ix2 t o))
    (keyBits (rd V (.of main_call0_v15)) 0 (o.val * 32768 + k.val * 256 + r.val))
    (keyBits (rd V (.of main_call0_v15)) 1 (o.val * 32768 + k.val * 256 + r.val))
    (keyBits (rd V (.of main_call0_v15)) 2 (o.val * 32768 + k.val * 256 + r.val))
    (keyBits (rd V (.of main_call0_v15)) 3 (o.val * 32768 + k.val * 256 + r.val))
    (keyBits (rd V (.of main_call0_v15)) 4 (o.val * 32768 + k.val * 256 + r.val))
    ((rd V (.of main_call0_v2) : FVec Ideal S512x256x128 .f32) (ix3 o r k))) rfl ?_
  rw [eJ, funext ex, funext ey, ew, ek, ek, ek, ek, ek]
  rfl

/-- The program's result at every index. -/
theorem ker_read (c : Dev nD) (o : Fin 512) (k : Fin 128) (y z : Fin 16) :
    (rd (last m c) (.of main_v0) : FVec Ideal S1x1x512x128x16x16 .f32) (ix6 (0 : Fin 1) (0 : Fin 1) o k y z) = Spec.upd
      (Spec.sum7 fun t => (m ((c.tc : Thread nD τ).loc main_arg0) : IVec S7x128x16x16 32) (ix4 t k y z))
      (Spec.sum7 fun t => (m ((c.tc : Thread nD τ).loc main_arg1) : IVec S7x512x1x1 32) (ix4 t o (0 : Fin 1) (0 : Fin 1)))
      (Spec.bits 1 (place o k y z)) (Spec.bits 2 (place o k y z)) (Spec.bits 3 (place o k y z))
      (Spec.bits 4 (place o k y z)) (Spec.bits 5 (place o k y z))
      ((m ((c.tc : Thread nD τ).loc main_arg2) : FVec Ideal S1x1x512x128x16x16 .f32) (ix6 (0 : Fin 1) (0 : Fin 1) o k y z)) := by
  have hr : y.val * 16 + z.val < 256 := by have := y.isLt; have := z.isLt; omega
  rw [tail_read (last_all m c) o k y z ⟨y.val * 16 + z.val, hr⟩ rfl,
    ← result_at m c o k y z ⟨y.val * 16 + z.val, hr⟩ rfl]
  exact congrFun (last_array m c) _

open Idealize.SL.Sem in
/-- The run: the result and the arguments. -/
theorem run_last (ρ : Dev nD → PrngReg) :
    θ_run defs (onTc (τ := τ) (main (F := Ideal))) ⟨m, fun _ => 0, ρ⟩ fun r => ∀ c : Dev nD,
      r.2.mem ((c.tc : Thread nD τ).loc main_v0) = last m c (Proc.devRef .tc main_v0) ∧
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) :=
  (θ_run defs _ _).mono (fun _ h c =>
    ⟨((h c).2 main_v0 (Pipeline.mem_restRefs_of main_v0 (by decide) (by decide))).trans (last_eq m c main_v0),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Val
-- ==== Proof.Same.lean ====
/-
The kernel and the reference give the same result, when every weight the program is given is a whole number.
-/
module

public import proofs.«01_k».proof.Defs
public import proofs.«01_k».proof.Proof.RefVal
public import proofs.«01_k».proof.Proof.RefRun
public import proofs.«01_k».proof.Proof.Result

@[expose] public section

set_option maxRecDepth 16384

noncomputable section

namespace Cert.Same

open Idealize.ShloMosaic hiding ix1 ix2 ix3 ix4 ix6 eq_ix6
open Idealize.ShloMosaic.TcCoe Idealize.ShloMosaic.ValueIdx Idealize.ShloMosaic.StableHlo Idealize.SL.Sem Cert.Ssa Cert.Read

/-- No side condition is stated by the predicate. -/
theorem preFacts : Cert.Pre_weights_whole.Facts := ⟨⟩

/-- A comparison for equality gives one only at equal numbers. -/
theorem eq_of_oeq (a b : EReal) (h : Ideal.cmp .oeq a b = 1#1) : a = b := by
  by_contra hn
  have e : Ideal.cmp .oeq a b = 0#1 := by simp [Ideal.cmp, hn]
  rw [e] at h
  exact absurd h (by decide)

/-- Under the precondition every weight is its own rounding. -/
theorem whole (m : (ℓ : Loc KernelIdeal.nD KernelIdeal.τ KernelIdeal.sig) → Buf (Elt Ideal) ℓ)
    (h : @Pre_KernelIdeal_weights_whole preFacts m) (c : Dev KernelIdeal.nD) (i : KernelIdeal.S1x1x512x128x16x16.Idx) :
    Spec.rnde ((m ((c.tc : Thread KernelIdeal.nD KernelIdeal.τ).loc KernelIdeal.main_arg2) : FVec Ideal KernelIdeal.S1x1x512x128x16x16 .f32) i) =
      (m ((c.tc : Thread KernelIdeal.nD KernelIdeal.τ).loc KernelIdeal.main_arg2) : FVec Ideal KernelIdeal.S1x1x512x128x16x16 .f32) i :=
  eq_of_oeq _ _ (congrFun (h c) i)

/-- Two arrays of the result's shape that agree at every place are equal. -/
theorem ext6 (f g : FVec Ideal KernelIdeal.S1x1x512x128x16x16 .f32)
    (h : ∀ (o : Fin 512) (k : Fin 128) (y z : Fin 16), f (ix6 (0 : Fin 1) (0 : Fin 1) o k y z) = g (ix6 (0 : Fin 1) (0 : Fin 1) o k y z)) :
    f = g := by
  funext j
  have e : j = ix6 (0 : Fin 1) (0 : Fin 1) (j 2 : Fin 512) (j 3 : Fin 128) (j 4 : Fin 16) (j 5 : Fin 16) := by
    refine (eq_ix6 j).trans ?_
    congr 1 <;> exact Subsingleton.elim (α := Fin 1) _ _
  rw [e]
  exact h _ _ _ _

section Ref

variable (V : Valuation ReferenceIdeal.τ ReferenceIdeal.sig (Elt Ideal))

/-- The reference's result at a place, from what its arguments are. -/
theorem ref_place (h : All (ReferenceIdeal.Val.mainL (F := Ideal) (0 : Fin 1)).1 V)
    (a0 : IVec KernelIdeal.S7x128x16x16 32) (a1 : IVec KernelIdeal.S7x512x1x1 32) (a2 : FVec Ideal KernelIdeal.S1x1x512x128x16x16 .f32)
    (h0 : V (Proc.devRef .tc ReferenceIdeal.main_arg0) = a0) (h1 : V (Proc.devRef .tc ReferenceIdeal.main_arg1) = a1)
    (h2 : V (Proc.devRef .tc ReferenceIdeal.main_arg2) = a2) (hw : ∀ i, Spec.rnde (a2 i) = a2 i)
    (o : Fin 512) (k : Fin 128) (y z : Fin 16) :
    (V (Proc.devRef .tc ReferenceIdeal.main_v97) : FVec Ideal KernelIdeal.S1x1x512x128x16x16 .f32) (ix6 (0 : Fin 1) (0 : Fin 1) o k y z) =
      Spec.upd (Spec.sum7 fun t => a0 (ix4 t k y z)) (Spec.sum7 fun t => a1 (ix4 t o (0 : Fin 1) (0 : Fin 1)))
        (Spec.bits 1 (KernelIdeal.Val.place o k y z)) (Spec.bits 2 (KernelIdeal.Val.place o k y z)) (Spec.bits 3 (KernelIdeal.Val.place o k y z))
        (Spec.bits 4 (KernelIdeal.Val.place o k y z)) (Spec.bits 5 (KernelIdeal.Val.place o k y z))
        (a2 (ix6 (0 : Fin 1) (0 : Fin 1) o k y z)) := by
  subst h0 h1 h2
  exact (ReferenceIdeal.Val.ref_read h (ix4 o k y z)).trans (Spec.upd_whole _ _ _ _ _ _ _ _ (hw _))

end Ref

theorem rdK (V : Valuation KernelIdeal.τ KernelIdeal.sig (Elt Ideal)) :
    (rd V (.of KernelIdeal.main_v0) : FVec Ideal KernelIdeal.S1x1x512x128x16x16 .f32) = V (Proc.devRef .tc KernelIdeal.main_v0) := rfl

/-- The two results are the same array. -/
theorem same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (h : @Pre_KernelIdeal_weights_whole preFacts m) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2)) :
    (ReferenceIdeal.Val.fin m' c (Proc.devRef .tc ReferenceIdeal.main_v97) : FVec Ideal KernelIdeal.S1x1x512x128x16x16 .f32) =
      KernelIdeal.Val.last m c (Proc.devRef .tc KernelIdeal.main_v0) := by
  refine Eq.trans ?_ (rdK (KernelIdeal.Val.last m c))
  refine ext6 _ _ fun o k y z => ?_
  rw [KernelIdeal.Val.ker_read]
  exact ref_place (ReferenceIdeal.Val.fin m' c) (ReferenceIdeal.Val.fin_all m' c) _ _ _
    ((ReferenceIdeal.Val.fin_arg m' c ReferenceIdeal.main_arg0 rfl).trans h0)
    ((ReferenceIdeal.Val.fin_arg m' c ReferenceIdeal.main_arg1 rfl).trans h1)
    ((ReferenceIdeal.Val.fin_arg m' c ReferenceIdeal.main_arg2 rfl).trans h2) (whole m h c) o k y z

/-- The kernel computes what the reference does, of whole weights. -/
theorem algebraic : @algebraic_KernelIdeal_ReferenceIdeal_pre_weights_whole KernelIdeal.Gen.facts ReferenceIdeal.Gen.facts preFacts :=
  fun m g m' g' h ha => ⟨fun c => KernelIdeal.Val.last m c (Proc.devRef .tc KernelIdeal.main_v0), KernelIdeal.Val.run_last m g,
    (θ_run _ _ _).mono (fun _ hr c =>
      ⟨(hr.1 c ReferenceIdeal.main_v97).trans (same m m' h c (ha c).1 (ha c).2.1 (ha c).2.2),
        (hr.1 c _).trans (ReferenceIdeal.Val.fin_arg m' c ReferenceIdeal.main_arg0 rfl),
        (hr.1 c _).trans (ReferenceIdeal.Val.fin_arg m' c ReferenceIdeal.main_arg1 rfl),
        (hr.1 c _).trans (ReferenceIdeal.Val.fin_arg m' c ReferenceIdeal.main_arg2 rfl)⟩) (ReferenceIdeal.Val.run_fin m' g')⟩

end Cert.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Same
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts, Cert.Same.preFacts,
  fun m g _ => Cert.Kernel.Gen.frame m g, fun m g _ => Cert.KernelIdeal.Gen.frame m g, fun m g _ => Cert.KernelIdeal.Gen.frame m g,
  fun m g _ => Cert.ReferenceIdeal.Val.quiet m g, fun m g _ => Cert.ReferenceIdeal.Val.quiet m g, trivial, Cert.Same.algebraic⟩

end Cert.Proof

end
